-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "decay" .f32 0x3F666666#32 ((9 / 10 : ℝ) : EReal)
  ∧ IdealRules.named_const.Statement Cert.KernelIdeal.κ "decay" .bf16 0x3F66#16 ((9 / 10 : ℝ) : EReal)
  ∧ IdealRules.named_const.Statement Cert.KernelIdeal.κ "inv_d" .f32 0x3AAAAAAB#32 ((1 / 768 : ℝ) : EReal)

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v866) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_as_set_up : Cert.Pre_as_set_up.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S4x2048x768 : Shape := ⟨3, ![4, 2048, 768]⟩
abbrev S4x2048 : Shape := ⟨2, ![4, 2048]⟩
abbrev S100000x1 : Shape := ⟨2, ![100000, 1]⟩
abbrev S768x512 : Shape := ⟨2, ![768, 512]⟩
abbrev S512 : Shape := ⟨1, ![512]⟩
abbrev S512x64 : Shape := ⟨2, ![512, 64]⟩
abbrev S64 : Shape := ⟨1, ![64]⟩
abbrev S8x64x256 : Shape := ⟨3, ![8, 64, 256]⟩
abbrev S8x256 : Shape := ⟨2, ![8, 256]⟩
abbrev S8x256x64 : Shape := ⟨3, ![8, 256, 64]⟩
abbrev S8x64 : Shape := ⟨2, ![8, 64]⟩
abbrev S64x64 : Shape := ⟨2, ![64, 64]⟩
abbrev S64x8 : Shape := ⟨2, ![64, 8]⟩
abbrev S8 : Shape := ⟨1, ![8]⟩
abbrev S64x512 : Shape := ⟨2, ![64, 512]⟩
abbrev S512x768 : Shape := ⟨2, ![512, 768]⟩
abbrev S768 : Shape := ⟨1, ![768]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S512 : S_.BroadcastsInDim S512 (![] : Fin 0 → Fin S512.rank)
  reducesTo_S512_S_d0 : S512.ReducesTo [0] S_
  bcast_S_S64 : S_.BroadcastsInDim S64 (![] : Fin 0 → Fin S64.rank)
  reducesTo_S64_S_d0 : S64.ReducesTo [0] S_
  bcast_S_S8x256 : S_.BroadcastsInDim S8x256 (![] : Fin 0 → Fin S8x256.rank)
  reducesTo_S8x256_S_d0_1 : S8x256.ReducesTo [0, 1] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S768 : S_.BroadcastsInDim S768 (![] : Fin 0 → Fin S768.rank)
  reducesTo_S768_S_d0 : S768.ReducesTo [0] S_
  bcast_S_S64x8 : S_.BroadcastsInDim S64x8 (![] : Fin 0 → Fin S64x8.rank)
  reducesTo_S64x8_S_d0_1 : S64x8.ReducesTo [0, 1] S_

variable [Facts]

def fn_part3 {F : FTy → Type} [FloatOps F] (main_v45 : IVec S_ 1) (main_v46 : FVec F S64x8 .f32) (main_v47 : FVec F S64x8 .f32) : IVec S_ 1 :=
  let main_v48 : IVec S64x8 1 := cmpf .olt main_v46 main_v47
  let main_c_22 : IVec S_ 1 := constantI S_ 1 1#1
  let main_v49 : IVec S_ 1 := (fun x v => Host.reduce IntOp.andi x v reducesTo_S64x8_S_d0_1 h_S_) main_v48 main_c_22
  let main_v50 : IVec S_ 1 := andi main_v45 main_v49
  main_v50

def fn_part2 {F : FTy → Type} [FloatOps F] (main_arg13 : FVec F S64x8 .f32) (main_arg18 : FVec F S768 .f32) (main_arg19 : FVec F S768 .f32) (main_arg20 : FVec F S768 .f32) (main_v29 : IVec S_ 1) (main_v31 : IVec S512 1) : IVec S_ 1 :=
  let main_c_14 : IVec S_ 1 := constantI S_ 1 1#1
  let main_v32 : IVec S_ 1 := (fun x v => Host.reduce IntOp.andi x v reducesTo_S512_S_d0 h_S_) main_v31 main_c_14
  let main_v33 : IVec S_ 1 := andi main_v29 main_v32
  let main_cst_15 : FVec F S_ .f32 := constant S_ .f32 0x00000000#32
  let main_v34 : FVec F S768 .f32 := broadcastInDim S768 ![] bcast_S_S768 main_cst_15
  let main_v35 : IVec S768 1 := cmpf .oeq main_arg18 main_v34
  let main_c_16 : IVec S_ 1 := constantI S_ 1 1#1
  let main_v36 : IVec S_ 1 := (fun x v => Host.reduce IntOp.andi x v reducesTo_S768_S_d0 h_S_) main_v35 main_c_16
  let main_v37 : IVec S_ 1 := andi main_v33 main_v36
  let main_cst_17 : FVec F S_ .f32 := constant S_ .f32 0x3F800000#32
  let main_v38 : FVec F S768 .f32 := broadcastInDim S768 ![] bcast_S_S768 main_cst_17
  let main_v39 : IVec S768 1 := cmpf .oeq main_arg19 main_v38
  let main_c_18 : IVec S_ 1 := constantI S_ 1 1#1
  let main_v40 : IVec S_ 1 := (fun x v => Host.reduce IntOp.andi x v reducesTo_S768_S_d0 h_S_) main_v39 main_c_18
  let main_v41 : IVec S_ 1 := andi main_v37 main_v40
  let main_cst_19 : FVec F S_ .f32 := constant S_ .f32 0x00000000#32
  let main_v42 : FVec F S768 .f32 := broadcastInDim S768 ![] bcast_S_S768 main_cst_19
  let main_v43 : IVec S768 1 := cmpf .oeq main_arg20 main_v42
  let main_c_20 : IVec S_ 1 := constantI S_ 1 1#1
  let main_v44 : IVec S_ 1 := (fun x v => Host.reduce IntOp.andi x v reducesTo_S768_S_d0 h_S_) main_v43 main_c_20
  let main_v45 : IVec S_ 1 := andi main_v41 main_v44
  let main_v46 : FVec F S64x8 .f32 := Host.absf main_arg13
  let main_cst_21 : FVec F S_ .f32 := constant S_ .f32 0x7F800000#32
  let main_v47 : FVec F S64x8 .f32 := broadcastInDim S64x8 ![] bcast_S_S64x8 main_cst_21
  fn_part3 (F := F) main_v45 main_v46 main_v47

def fn_part1 {F : FTy → Type} [FloatOps F] (main_arg10 : FVec F S8x64 .f32) (main_arg12 : FVec F S64 .f32) (main_arg13 : FVec F S64x8 .f32) (main_arg14 : FVec F S8 .f32) (main_arg16 : FVec F S512 .f32) (main_arg18 : FVec F S768 .f32) (main_arg19 : FVec F S768 .f32) (main_arg20 : FVec F S768 .f32) (main_v13 : IVec S_ 1) (main_v15 : IVec S8x256 1) : IVec S_ 1 :=
  let main_c_6 : IVec S_ 1 := constantI S_ 1 1#1
  let main_v16 : IVec S_ 1 := (fun x v => Host.reduce IntOp.andi x v reducesTo_S8x256_S_d0_1 h_S_) main_v15 main_c_6
  let main_v17 : IVec S_ 1 := andi main_v13 main_v16
  let main_cst_7 : FVec F S_ .f32 := constant S_ .f32 0x00000000#32
  let main_v18 : FVec F S8x64 .f32 := broadcastInDim S8x64 ![] bcast_S_S8x64 main_cst_7
  let main_v19 : IVec S8x64 1 := cmpf .oeq main_arg10 main_v18
  let main_c_8 : IVec S_ 1 := constantI S_ 1 1#1
  let main_v20 : IVec S_ 1 := (fun x v => Host.reduce IntOp.andi x v reducesTo_S8x64_S_d0_1 h_S_) main_v19 main_c_8
  let main_v21 : IVec S_ 1 := andi main_v17 main_v20
  let main_cst_9 : FVec F S_ .f32 := constant S_ .f32 0x00000000#32
  let main_v22 : FVec F S64 .f32 := broadcastInDim S64 ![] bcast_S_S64 main_cst_9
  let main_v23 : IVec S64 1 := cmpf .oeq main_arg12 main_v22
  let main_c_10 : IVec S_ 1 := constantI S_ 1 1#1
  let main_v24 : IVec S_ 1 := (fun x v => Host.reduce IntOp.andi x v reducesTo_S64_S_d0 h_S_) main_v23 main_c_10
  let main_v25 : IVec S_ 1 := andi main_v21 main_v24
  let main_cst_11 : FVec F S_ .f32 := constant S_ .f32 0x00000000#32
  let main_v26 : FVec F S8 .f32 := broadcastInDim S8 ![] bcast_S_S8 main_cst_11
  let main_v27 : IVec S8 1 := cmpf .oeq main_arg14 main_v26
  let main_c_12 : IVec S_ 1 := constantI S_ 1 1#1
  let main_v28 : IVec S_ 1 := (fun x v => Host.reduce IntOp.andi x v reducesTo_S8_S_d0 h_S_) main_v27 main_c_12
  let main_v29 : IVec S_ 1 := andi main_v25 main_v28
  let main_cst_13 : FVec F S_ .f32 := constant S_ .f32 0x00000000#32
  let main_v30 : FVec F S512 .f32 := broadcastInDim S512 ![] bcast_S_S512 main_cst_13
  let main_v31 : IVec S512 1 := cmpf .oeq main_arg16 main_v30
  fn_part2 (F := F) main_arg13 main_arg18 main_arg19 main_arg20 main_v29 main_v31

def fn {F : FTy → Type} [FloatOps F] (main_arg0 : FVec F S4x2048x768 .f32) (main_arg1 : IVec S4x2048 32) (main_arg2 : FVec F S100000x1 .f32) (main_arg3 : FVec F S768x512 .f32) (main_arg4 : FVec F S512 .f32) (main_arg5 : FVec F S512x64 .f32) (main_arg6 : FVec F S64 .f32) (main_arg7 : FVec F S8x64x256 .f32) (main_arg8 : FVec F S8x256 .f32) (main_arg9 : FVec F S8x256x64 .f32) (main_arg10 : FVec F S8x64 .f32) (main_arg11 : FVec F S64x64 .f32) (main_arg12 : FVec F S64 .f32) (main_arg13 : FVec F S64x8 .f32) (main_arg14 : FVec F S8 .f32) (main_arg15 : FVec F S64x512 .f32) (main_arg16 : FVec F S512 .f32) (main_arg17 : FVec F S512x768 .f32) (main_arg18 : FVec F S768 .f32) (main_arg19 : FVec F S768 .f32) (main_arg20 : FVec F S768 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 100000#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  let main_cst : FVec F S_ .f32 := constant S_ .f32 0x00000000#32
  let main_v6 : FVec F S512 .f32 := broadcastInDim S512 ![] bcast_S_S512 main_cst
  let main_v7 : IVec S512 1 := cmpf .oeq main_arg4 main_v6
  let main_c_2 : IVec S_ 1 := constantI S_ 1 1#1
  let main_v8 : IVec S_ 1 := (fun x v => Host.reduce IntOp.andi x v reducesTo_S512_S_d0 h_S_) main_v7 main_c_2
  let main_v9 : IVec S_ 1 := andi main_v5 main_v8
  let main_cst_3 : FVec F S_ .f32 := constant S_ .f32 0x00000000#32
  let main_v10 : FVec F S64 .f32 := broadcastInDim S64 ![] bcast_S_S64 main_cst_3
  let main_v11 : IVec S64 1 := cmpf .oeq main_arg6 main_v10
  let main_c_4 : IVec S_ 1 := constantI S_ 1 1#1
  let main_v12 : IVec S_ 1 := (fun x v => Host.reduce IntOp.andi x v reducesTo_S64_S_d0 h_S_) main_v11 main_c_4
  let main_v13 : IVec S_ 1 := andi main_v9 main_v12
  let main_cst_5 : FVec F S_ .f32 := constant S_ .f32 0x00000000#32
  let main_v14 : FVec F S8x256 .f32 := broadcastInDim S8x256 ![] bcast_S_S8x256 main_cst_5
  let main_v15 : IVec S8x256 1 := cmpf .oeq main_arg8 main_v14
  fn_part1 (F := F) main_arg10 main_arg12 main_arg13 main_arg14 main_arg16 main_arg18 main_arg19 main_arg20 main_v13 main_v15
-- ==== Pre_ids_in_range.lean ====
abbrev S4x2048x768 : Shape := ⟨3, ![4, 2048, 768]⟩
abbrev S4x2048 : Shape := ⟨2, ![4, 2048]⟩
abbrev S100000x1 : Shape := ⟨2, ![100000, 1]⟩
abbrev S768x512 : Shape := ⟨2, ![768, 512]⟩
abbrev S512 : Shape := ⟨1, ![512]⟩
abbrev S512x64 : Shape := ⟨2, ![512, 64]⟩
abbrev S64 : Shape := ⟨1, ![64]⟩
abbrev S8x64x256 : Shape := ⟨3, ![8, 64, 256]⟩
abbrev S8x256 : Shape := ⟨2, ![8, 256]⟩
abbrev S8x256x64 : Shape := ⟨3, ![8, 256, 64]⟩
abbrev S8x64 : Shape := ⟨2, ![8, 64]⟩
abbrev S64x64 : Shape := ⟨2, ![64, 64]⟩
abbrev S64x8 : Shape := ⟨2, ![64, 8]⟩
abbrev S8 : Shape := ⟨1, ![8]⟩
abbrev S64x512 : Shape := ⟨2, ![64, 512]⟩
abbrev S512x768 : Shape := ⟨2, ![512, 768]⟩
abbrev S768 : Shape := ⟨1, ![768]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x2048x768 .f32) (main_arg1 : IVec S4x2048 32) (main_arg2 : FVec F S100000x1 .f32) (main_arg3 : FVec F S768x512 .f32) (main_arg4 : FVec F S512 .f32) (main_arg5 : FVec F S512x64 .f32) (main_arg6 : FVec F S64 .f32) (main_arg7 : FVec F S8x64x256 .f32) (main_arg8 : FVec F S8x256 .f32) (main_arg9 : FVec F S8x256x64 .f32) (main_arg10 : FVec F S8x64 .f32) (main_arg11 : FVec F S64x64 .f32) (main_arg12 : FVec F S64 .f32) (main_arg13 : FVec F S64x8 .f32) (main_arg14 : FVec F S8 .f32) (main_arg15 : FVec F S64x512 .f32) (main_arg16 : FVec F S512 .f32) (main_arg17 : FVec F S512x768 .f32) (main_arg18 : FVec F S768 .f32) (main_arg19 : FVec F S768 .f32) (main_arg20 : FVec F S768 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 100000#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Kernel.lean ====
abbrev S4x2048x768 : Shape := ⟨3, ![4, 2048, 768]⟩
abbrev S4x2048 : Shape := ⟨2, ![4, 2048]⟩
abbrev S100000x1 : Shape := ⟨2, ![100000, 1]⟩
abbrev S768x512 : Shape := ⟨2, ![768, 512]⟩
abbrev S512 : Shape := ⟨1, ![512]⟩
abbrev S512x64 : Shape := ⟨2, ![512, 64]⟩
abbrev S64 : Shape := ⟨1, ![64]⟩
abbrev S8x64x256 : Shape := ⟨3, ![8, 64, 256]⟩
abbrev S8x256 : Shape := ⟨2, ![8, 256]⟩
abbrev S8x256x64 : Shape := ⟨3, ![8, 256, 64]⟩
abbrev S8x64 : Shape := ⟨2, ![8, 64]⟩
abbrev S64x64 : Shape := ⟨2, ![64, 64]⟩
abbrev S64x8 : Shape := ⟨2, ![64, 8]⟩
abbrev S8 : Shape := ⟨1, ![8]⟩
abbrev S64x512 : Shape := ⟨2, ![64, 512]⟩
abbrev S512x768 : Shape := ⟨2, ![512, 768]⟩
abbrev S768 : Shape := ⟨1, ![768]⟩
abbrev S100000 : Shape := ⟨1, ![100000]⟩
abbrev S8192 : Shape := ⟨1, ![8192]⟩
abbrev S256 : Shape := ⟨1, ![256]⟩
abbrev S_ : Shape := ⟨0, ![]⟩
abbrev S8192x768 : Shape := ⟨2, ![8192, 768]⟩
abbrev S4x1x2048 : Shape := ⟨3, ![4, 1, 2048]⟩
abbrev S8192x1 : Shape := ⟨2, ![8192, 1]⟩
abbrev S1024x768 : Shape := ⟨2, ![1024, 768]⟩
abbrev S1x1x2048 : Shape := ⟨3, ![1, 1, 2048]⟩
abbrev S1024x1 : Shape := ⟨2, ![1024, 1]⟩
abbrev S1x1x1x2048 : Shape := ⟨4, ![1, 1, 1, 2048]⟩
abbrev S1 : Shape := ⟨1, ![1]⟩
abbrev S1x1x1x1 : Shape := ⟨4, ![1, 1, 1, 1]⟩
abbrev S1x1x1024 : Shape := ⟨3, ![1, 1, 1024]⟩
abbrev S1x1024 : Shape := ⟨2, ![1, 1024]⟩
abbrev S1024x512 : Shape := ⟨2, ![1024, 512]⟩
abbrev S1024x64 : Shape := ⟨2, ![1024, 64]⟩
abbrev S64x1024 : Shape := ⟨2, ![64, 1024]⟩
abbrev S8x1024 : Shape := ⟨2, ![8, 1024]⟩
abbrev S1024 : Shape := ⟨1, ![1024]⟩
abbrev S1024x8 : Shape := ⟨2, ![1024, 8]⟩
abbrev S1x64x256 : Shape := ⟨3, ![1, 64, 256]⟩
abbrev S64x256 : Shape := ⟨2, ![64, 256]⟩
abbrev S1024x256 : Shape := ⟨2, ![1024, 256]⟩
abbrev S1x256x64 : Shape := ⟨3, ![1, 256, 64]⟩
abbrev S256x64 : Shape := ⟨2, ![256, 64]⟩
abbrev S768x1 : Shape := ⟨2, ![768, 1]⟩

abbrev nBuf : Table → Nat
  | .hbm => 34
  | .local .tc .vmem => 16
  | .local .scVector .vmem => 2
  | _ => 0

abbrev bufTy : (tb : Table) → Fin (nBuf tb) → BufTy
  | .hbm, ⟨0, _⟩ => ⟨S4x2048x768, .f32⟩
  | .hbm, ⟨1, _⟩ => ⟨S4x2048, .i32⟩
  | .hbm, ⟨2, _⟩ => ⟨S100000x1, .f32⟩
  | .hbm, ⟨3, _⟩ => ⟨S768x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S8x64x256, .f32⟩
  | .hbm, ⟨8, _⟩ => ⟨S8x256, .f32⟩
  | .hbm, ⟨9, _⟩ => ⟨S8x256x64, .f32⟩
  | .hbm, ⟨10, _⟩ => ⟨S8x64, .f32⟩
  | .hbm, ⟨11, _⟩ => ⟨S64x64, .f32⟩
  | .hbm, ⟨12, _⟩ => ⟨S64, .f32⟩
  | .hbm, ⟨13, _⟩ => ⟨S64x8, .f32⟩
  | .hbm, ⟨14, _⟩ => ⟨S8, .f32⟩
  | .hbm, ⟨15, _⟩ => ⟨S64x512, .f32⟩
  | .hbm, ⟨16, _⟩ => ⟨S512, .f32⟩
  | .hbm, ⟨17, _⟩ => ⟨S512x768, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S100000, .f32⟩
  | .hbm, ⟨22, _⟩ => ⟨S8192, .i32⟩
  | .hbm, ⟨23, _⟩ => ⟨S8192, .f32⟩
  | .hbm, ⟨24, _⟩ => ⟨S8192x768, .f32⟩
  | .hbm, ⟨25, _⟩ => ⟨S4x1x2048, .f32⟩
  | .hbm, ⟨26, _⟩ => ⟨S8192x1, .f32⟩
  | .hbm, ⟨27, _⟩ => ⟨S64x64, .f32⟩
  | .hbm, ⟨28, _⟩ => ⟨S8x64, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S8192x768, .f32⟩
  | .hbm, ⟨33, _⟩ => ⟨S4x2048x768, .f32⟩
  | .local .tc .vmem, ⟨0, _⟩ => ⟨S1024x768, .f32⟩
  | .local .tc .vmem, ⟨1, _⟩ => ⟨S1024x768, .f32⟩
  | .local .tc .vmem, ⟨2, _⟩ => ⟨S1x1x2048, .f32⟩
  | .local .tc .vmem, ⟨3, _⟩ => ⟨S1x1x2048, .f32⟩
  | .local .tc .vmem, ⟨4, _⟩ => ⟨S1024x1, .f32⟩
  | .local .tc .vmem, ⟨5, _⟩ => ⟨S1024x1, .f32⟩
  | .local .tc .vmem, ⟨6, _⟩ => ⟨S768x512, .f32⟩
  | .local .tc .vmem, ⟨7, _⟩ => ⟨S512x64, .f32⟩
  | .local .tc .vmem, ⟨8, _⟩ => ⟨S8x64x256, .f32⟩
  | .local .tc .vmem, ⟨9, _⟩ => ⟨S8x256x64, .f32⟩
  | .local .tc .vmem, ⟨10, _⟩ => ⟨S64x64, .f32⟩
  | .local .tc .vmem, ⟨11, _⟩ => ⟨S8x64, .f32⟩
  | .local .tc .vmem, ⟨12, _⟩ => ⟨S64x512, .f32⟩
  | .local .tc .vmem, ⟨13, _⟩ => ⟨S512x768, .f32⟩
  | .local .tc .vmem, ⟨14, _⟩ => ⟨S1024x768, .f32⟩
  | .local .tc .vmem, ⟨15, _⟩ => ⟨S1024x768, .f32⟩
  | .local .scVector .vmem, ⟨0, _⟩ => ⟨S256, .i32⟩
  | .local .scVector .vmem, ⟨1, _⟩ => ⟨S256, .f32⟩
  | _, _ => ⟨S4x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v0_scv : Ref sig .scVector := ⟨.hbm, 21, rfl⟩
abbrev main_v1_scv : Ref sig .scVector := ⟨.hbm, 22, rfl⟩
abbrev main_v2_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg11_1 : Ref sig .tc := ⟨.vmem, 15, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem11_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev grid1 : Pipeline.Grid := ⟨2, ![4, 2], ![false, false]⟩

def k1_off1 (i : grid1.Coords) : Fin 3 → Nat :=
  let c0_9 : Index := 0#32
  let c0_10 : Index := 0#32
  let arg1 : BitVec 32 := BitVec.ofNat 32 (i 1).val
  let c1024_i32 : BitVec 32 := 1024#32
  let v34 : BitVec 32 := Scalar.muli arg1 c1024_i32
  let v35 : Index := Scalar.indexCast v34
  ![0, 0, v35.toNat]
def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S768x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x64x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S8x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1024x768 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "decay" => some ((9 / 10 : ℝ) : EReal)
  | "inv_d" => some ((1 / 768 : ℝ) : EReal)
  | "neg" => some ⊥
  | _ => none
-- ==== ReferenceIdeal.lean ====
abbrev S4x2048x768 : Shape := ⟨3, ![4, 2048, 768]⟩
abbrev S4x2048 : Shape := ⟨2, ![4, 2048]⟩
abbrev S100000x1 : Shape := ⟨2, ![100000, 1]⟩
abbrev S768x512 : Shape := ⟨2, ![768, 512]⟩
abbrev S512 : Shape := ⟨1, ![512]⟩
abbrev S512x64 : Shape := ⟨2, ![512, 64]⟩
abbrev S64 : Shape := ⟨1, ![64]⟩
abbrev S8x64x256 : Shape := ⟨3, ![8, 64, 256]⟩
abbrev S8x256 : Shape := ⟨2, ![8, 256]⟩
abbrev S8x256x64 : Shape := ⟨3, ![8, 256, 64]⟩
abbrev S8x64 : Shape := ⟨2, ![8, 64]⟩
abbrev S64x64 : Shape := ⟨2, ![64, 64]⟩
abbrev S64x8 : Shape := ⟨2, ![64, 8]⟩
abbrev S8 : Shape := ⟨1, ![8]⟩
abbrev S64x512 : Shape := ⟨2, ![64, 512]⟩
abbrev S512x768 : Shape := ⟨2, ![512, 768]⟩
abbrev S768 : Shape := ⟨1, ![768]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S4x2 : Shape := ⟨2, ![4, 2]⟩
abbrev S4x1 : Shape := ⟨2, ![4, 1]⟩
abbrev S4x2048x512 : Shape := ⟨3, ![4, 2048, 512]⟩
abbrev S1x1x512 : Shape := ⟨3, ![1, 1, 512]⟩
abbrev S8192x1x512 : Shape := ⟨3, ![8192, 1, 512]⟩
abbrev S8192x512 : Shape := ⟨2, ![8192, 512]⟩
abbrev S8192x64 : Shape := ⟨2, ![8192, 64]⟩
abbrev S1x64 : Shape := ⟨2, ![1, 64]⟩
abbrev S8192x1 : Shape := ⟨2, ![8192, 1]⟩
abbrev S8192x8 : Shape := ⟨2, ![8192, 8]⟩
abbrev S1x8 : Shape := ⟨2, ![1, 8]⟩
abbrev S8192 : Shape := ⟨1, ![8192]⟩
abbrev S8192x2 : Shape := ⟨2, ![8192, 2]⟩
abbrev S1x64x256 : Shape := ⟨3, ![1, 64, 256]⟩
abbrev S64x256 : Shape := ⟨2, ![64, 256]⟩
abbrev S8192x256 : Shape := ⟨2, ![8192, 256]⟩
abbrev S1x256 : Shape := ⟨2, ![1, 256]⟩
abbrev S256 : Shape := ⟨1, ![256]⟩
abbrev S1x256x64 : Shape := ⟨3, ![1, 256, 64]⟩
abbrev S256x64 : Shape := ⟨2, ![256, 64]⟩
abbrev S1x512 : Shape := ⟨2, ![1, 512]⟩
abbrev S8192x4x512 : Shape := ⟨3, ![8192, 4, 512]⟩
abbrev S4x2048x4x512 : Shape := ⟨4, ![4, 2048, 4, 512]⟩
abbrev S1x1x768 : Shape := ⟨3, ![1, 1, 768]⟩

abbrev nBuf : Space → Nat
  | .hbm => 1164
  | .vmem => 0
  | .smem => 0
  | _ => 0

abbrev hbmTy0_0 (i : Nat) : BufTy := match i % 128 with
  | 0 => ⟨S4x2048x768, .f32⟩
  | 1 => ⟨S4x2048, .i32⟩
  | 2 => ⟨S100000x1, .f32⟩
  | 3 => ⟨S768x512, .f32⟩
  | 4 => ⟨S512, .f32⟩
  | 5 => ⟨S512x64, .f32⟩
  | 6 => ⟨S64, .f32⟩
  | 7 => ⟨S8x64x256, .f32⟩
  | 8 => ⟨S8x256, .f32⟩
  | 9 => ⟨S8x256x64, .f32⟩
  | 10 => ⟨S8x64, .f32⟩
  | 11 => ⟨S64x64, .f32⟩
  | 12 => ⟨S64, .f32⟩
  | 13 => ⟨S64x8, .f32⟩
  | 14 => ⟨S8, .f32⟩
  | 15 => ⟨S64x512, .f32⟩
  | 16 => ⟨S512, .f32⟩
  | 17 => ⟨S512x768, .f32⟩
  | 18 => ⟨S768, .f32⟩
  | 19 => ⟨S768, .f32⟩
  | 20 => ⟨S768, .f32⟩
  | 21 => ⟨S_, .i32⟩
  | 22 => ⟨S4x2048, .i32⟩
  | 23 => ⟨S4x2048, .i1⟩
  | 24 => ⟨S_, .i32⟩
  | 25 => ⟨S4x2048, .i32⟩
  | 26 => ⟨S4x2048, .i32⟩
  | 27 => ⟨S4x2048, .i32⟩
  | 28 => ⟨S4x2048x1, .i32⟩
  | 29 => ⟨S1, .i32⟩
  | 30 => ⟨S_, .i32⟩
  | 31 => ⟨S4x2048x1, .i32⟩
  | 32 => ⟨S4x2048x1, .i1⟩
  | 33 => ⟨S1x1x1, .i32⟩
  | 34 => ⟨S4x2048x1, .i32⟩
  | 35 => ⟨S4x2048x1, .i1⟩
  | 36 => ⟨S4x2048x1, .i1⟩
  | 37 => ⟨S_, .i1⟩
  | 38 => ⟨S4x2048, .i1⟩
  | 39 => ⟨S4x2048x1, .f32⟩
  | 40 => ⟨S4x2048x1, .i1⟩
  | 41 => ⟨S_, .f32⟩
  | 42 => ⟨S4x2048x1, .f32⟩
  | 43 => ⟨S4x2048x1, .f32⟩
  | 44 => ⟨S4x2048, .f32⟩
  | 45 => ⟨S4x2, .f32⟩
  | 46 => ⟨S4x2, .i32⟩
  | 47 => ⟨S4x1, .f32⟩
  | 48 => ⟨S4x2048, .f32⟩
  | 49 => ⟨S4x2048, .i1⟩
  | 50 => ⟨S4x2048, .f32⟩
  | 51 => ⟨S4x2048, .f32⟩
  | 52 => ⟨S4x2048, .f32⟩
  | 53 => ⟨S_, .f32⟩
  | 54 => ⟨S4x2048, .f32⟩
  | 55 => ⟨S4x2048, .f32⟩
  | 56 => ⟨S_, .f32⟩
  | 57 => ⟨S4x2048, .f32⟩
  | 58 => ⟨S4x2048, .f32⟩
  | 59 => ⟨S4x2048, .f32⟩
  | 60 => ⟨S_, .f32⟩
  | 61 => ⟨S4x2048, .f32⟩
  | 62 => ⟨S4x2048, .f32⟩
  | 63 => ⟨S4x2048x1, .f32⟩
  | 64 => ⟨S4x2048x768, .f32⟩
  | 65 => ⟨S4x2048x768, .f32⟩
  | 66 => ⟨S4x2048x512, .f32⟩
  | 67 => ⟨S1x1x512, .f32⟩
  | 68 => ⟨S4x2048x512, .f32⟩
  | 69 => ⟨S4x2048x512, .f32⟩
  | 70 => ⟨S_, .f32⟩
  | 71 => ⟨S4x2048x512, .f32⟩
  | 72 => ⟨S_, .f32⟩
  | 73 => ⟨S4x2048x512, .f32⟩
  | 74 => ⟨S_, .f32⟩
  | 75 => ⟨S4x2048x512, .f32⟩
  | 76 => ⟨S4x2048x512, .f32⟩
  | 77 => ⟨S_, .f32⟩
  | 78 => ⟨S4x2048x512, .f32⟩
  | 79 => ⟨S4x2048x512, .f32⟩
  | 80 => ⟨S4x2048x512, .f32⟩
  | 81 => ⟨S_, .f32⟩
  | 82 => ⟨S4x2048x512, .f32⟩
  | 83 => ⟨S4x2048x512, .f32⟩
  | 84 => ⟨S_, .f32⟩
  | 85 => ⟨S4x2048x512, .f32⟩
  | 86 => ⟨S4x2048x512, .f32⟩
  | 87 => ⟨S4x2048x512, .f32⟩
  | 88 => ⟨S4x2048x512, .f32⟩
  | 89 => ⟨S_, .f32⟩
  | 90 => ⟨S4x2048x512, .f32⟩
  | 91 => ⟨S4x2048x512, .f32⟩
  | 92 => ⟨S_, .f32⟩
  | 93 => ⟨S4x2048x512, .f32⟩
  | 94 => ⟨S4x2048x512, .f32⟩
  | 95 => ⟨S4x2048x512, .f32⟩
  | 96 => ⟨S4x2048x512, .f32⟩
  | 97 => ⟨S_, .f32⟩
  | 98 => ⟨S4x2048x512, .f32⟩
  | 99 => ⟨S4x2048x512, .f32⟩
  | 100 => ⟨S_, .f32⟩
  | 101 => ⟨S4x2048x512, .f32⟩
  | 102 => ⟨S4x2048x512, .f32⟩
  | 103 => ⟨S4x2048x512, .f32⟩
  | 104 => ⟨S_, .f32⟩
  | 105 => ⟨S4x2048x512, .f32⟩
  | 106 => ⟨S4x2048x512, .f32⟩
  | 107 => ⟨S_, .f32⟩
  | 108 => ⟨S4x2048x512, .f32⟩
  | 109 => ⟨S4x2048x512, .f32⟩
  | 110 => ⟨S4x2048x512, .f32⟩
  | 111 => ⟨S4x2048x512, .f32⟩
  | 112 => ⟨S_, .f32⟩
  | 113 => ⟨S4x2048x512, .f32⟩
  | 114 => ⟨S4x2048x512, .f32⟩
  | 115 => ⟨S_, .f32⟩
  | 116 => ⟨S4x2048x512, .f32⟩
  | 117 => ⟨S4x2048x512, .f32⟩
  | 118 => ⟨S4x2048x512, .f32⟩
  | 119 => ⟨S4x2048x512, .f32⟩
  | 120 => ⟨S_, .f32⟩
  | 121 => ⟨S4x2048x512, .f32⟩
  | 122 => ⟨S4x2048x512, .f32⟩
  | 123 => ⟨S_, .f32⟩
  | 124 => ⟨S4x2048x512, .f32⟩
  | 125 => ⟨S4x2048x512, .f32⟩
  | 126 => ⟨S4x2048x512, .f32⟩
  | 127 => ⟨S_, .f32⟩
  | _ => ⟨S4x2048x768, .f32⟩

abbrev hbmTy0_1 (i : Nat) : BufTy := match i % 128 with
  | 0 => ⟨S4x2048x512, .f32⟩
  | 1 => ⟨S4x2048x512, .f32⟩
  | 2 => ⟨S_, .f32⟩
  | 3 => ⟨S4x2048x512, .f32⟩
  | 4 => ⟨S4x2048x512, .f32⟩
  | 5 => ⟨S4x2048x512, .f32⟩
  | 6 => ⟨S4x2048x512, .f32⟩
  | 7 => ⟨S_, .f32⟩
  | 8 => ⟨S4x2048x512, .f32⟩
  | 9 => ⟨S4x2048x512, .f32⟩
  | 10 => ⟨S_, .f32⟩
  | 11 => ⟨S4x2048x512, .f32⟩
  | 12 => ⟨S4x2048x512, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S_, .f32⟩
  | 19 => ⟨S4x2048x512, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S4x2048x512, .f32⟩
  | 30 => ⟨S_, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S4x2048x512, .f32⟩
  | 37 => ⟨S4x2048x512, .f32⟩
  | 38 => ⟨S_, .f32⟩
  | 39 => ⟨S4x2048x512, .f32⟩
  | 40 => ⟨S4x2048x512, .f32⟩
  | 41 => ⟨S_, .f32⟩
  | 42 => ⟨S4x2048x512, .f32⟩
  | 43 => ⟨S4x2048x512, .f32⟩
  | 44 => ⟨S4x2048x512, .f32⟩
  | 45 => ⟨S_, .f32⟩
  | 46 => ⟨S4x2048x512, .f32⟩
  | 47 => ⟨S4x2048x512, .f32⟩
  | 48 => ⟨S_, .f32⟩
  | 49 => ⟨S4x2048x512, .f32⟩
  | 50 => ⟨S4x2048x512, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S4x2048x512, .f32⟩
  | 60 => ⟨S4x2048x512, .f32⟩
  | 61 => ⟨S_, .f32⟩
  | 62 => ⟨S4x2048x512, .f32⟩
  | 63 => ⟨S4x2048x512, .f32⟩
  | 64 => ⟨S_, .f32⟩
  | 65 => ⟨S4x2048x512, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S_, .f32⟩
  | 72 => ⟨S4x2048x512, .f32⟩
  | 73 => ⟨S4x2048x512, .f32⟩
  | 74 => ⟨S4x2048x512, .f32⟩
  | 75 => ⟨S4x2048x512, .f32⟩
  | 76 => ⟨S_, .f32⟩
  | 77 => ⟨S4x2048x512, .f32⟩
  | 78 => ⟨S4x2048x512, .f32⟩
  | 79 => ⟨S_, .f32⟩
  | 80 => ⟨S4x2048x512, .f32⟩
  | 81 => ⟨S4x2048x512, .f32⟩
  | 82 => ⟨S4x2048x512, .f32⟩
  | 83 => ⟨S4x2048x512, .f32⟩
  | 84 => ⟨S_, .f32⟩
  | 85 => ⟨S4x2048x512, .f32⟩
  | 86 => ⟨S4x2048x512, .f32⟩
  | 87 => ⟨S_, .f32⟩
  | 88 => ⟨S4x2048x512, .f32⟩
  | 89 => ⟨S4x2048x512, .f32⟩
  | 90 => ⟨S4x2048x512, .f32⟩
  | 91 => ⟨S_, .f32⟩
  | 92 => ⟨S4x2048x512, .f32⟩
  | 93 => ⟨S4x2048x512, .f32⟩
  | 94 => ⟨S_, .f32⟩
  | 95 => ⟨S4x2048x512, .f32⟩
  | 96 => ⟨S4x2048x512, .f32⟩
  | 97 => ⟨S4x2048x512, .f32⟩
  | 98 => ⟨S4x2048x512, .f32⟩
  | 99 => ⟨S_, .f32⟩
  | 100 => ⟨S4x2048x512, .f32⟩
  | 101 => ⟨S4x2048x512, .f32⟩
  | 102 => ⟨S_, .f32⟩
  | 103 => ⟨S4x2048x512, .f32⟩
  | 104 => ⟨S4x2048x512, .f32⟩
  | 105 => ⟨S4x2048x512, .f32⟩
  | 106 => ⟨S4x2048x512, .f32⟩
  | 107 => ⟨S_, .f32⟩
  | 108 => ⟨S4x2048x512, .f32⟩
  | 109 => ⟨S4x2048x512, .f32⟩
  | 110 => ⟨S_, .f32⟩
  | 111 => ⟨S4x2048x512, .f32⟩
  | 112 => ⟨S4x2048x512, .f32⟩
  | 113 => ⟨S4x2048x512, .f32⟩
  | 114 => ⟨S_, .f32⟩
  | 115 => ⟨S4x2048x512, .f32⟩
  | 116 => ⟨S4x2048x512, .f32⟩
  | 117 => ⟨S_, .f32⟩
  | 118 => ⟨S4x2048x512, .f32⟩
  | 119 => ⟨S4x2048x512, .f32⟩
  | 120 => ⟨S4x2048x512, .f32⟩
  | 121 => ⟨S4x2048x512, .f32⟩
  | 122 => ⟨S_, .f32⟩
  | 123 => ⟨S4x2048x512, .f32⟩
  | 124 => ⟨S4x2048x512, .f32⟩
  | 125 => ⟨S_, .f32⟩
  | 126 => ⟨S4x2048x512, .f32⟩
  | 127 => ⟨S4x2048x512, .f32⟩
  | _ => ⟨S4x2048x768, .f32⟩

abbrev hbmTy0_2 (i : Nat) : BufTy := match i % 128 with
  | 0 => ⟨S4x2048x512, .f32⟩
  | 1 => ⟨S4x2048x512, .f32⟩
  | 2 => ⟨S_, .f32⟩
  | 3 => ⟨S4x2048x512, .f32⟩
  | 4 => ⟨S4x2048x512, .f32⟩
  | 5 => ⟨S_, .f32⟩
  | 6 => ⟨S4x2048x512, .f32⟩
  | 7 => ⟨S4x2048x512, .f32⟩
  | 8 => ⟨S4x2048x512, .f32⟩
  | 9 => ⟨S_, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S4x2048x512, .f32⟩
  | 16 => ⟨S4x2048x512, .f32⟩
  | 17 => ⟨S_, .f32⟩
  | 18 => ⟨S4x2048x512, .f32⟩
  | 19 => ⟨S4x2048x512, .f32⟩
  | 20 => ⟨S_, .f32⟩
  | 21 => ⟨S4x2048x512, .f32⟩
  | 22 => ⟨S4x2048x512, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S_, .f32⟩
  | 29 => ⟨S4x2048x512, .f32⟩
  | 30 => ⟨S4x2048x512, .f32⟩
  | 31 => ⟨S4x2048x512, .f32⟩
  | 32 => ⟨S_, .f32⟩
  | 33 => ⟨S4x2048x512, .f32⟩
  | 34 => ⟨S4x2048x512, .f32⟩
  | 35 => ⟨S_, .f32⟩
  | 36 => ⟨S4x2048x512, .f32⟩
  | 37 => ⟨S4x2048x512, .f32⟩
  | 38 => ⟨S4x2048x512, .f32⟩
  | 39 => ⟨S4x2048x512, .f32⟩
  | 40 => ⟨S_, .f32⟩
  | 41 => ⟨S4x2048x512, .f32⟩
  | 42 => ⟨S4x2048x512, .f32⟩
  | 43 => ⟨S_, .f32⟩
  | 44 => ⟨S4x2048x512, .f32⟩
  | 45 => ⟨S4x2048x512, .f32⟩
  | 46 => ⟨S4x2048x512, .f32⟩
  | 47 => ⟨S4x2048x512, .f32⟩
  | 48 => ⟨S_, .f32⟩
  | 49 => ⟨S4x2048x512, .f32⟩
  | 50 => ⟨S4x2048x512, .f32⟩
  | 51 => ⟨S_, .f32⟩
  | 52 => ⟨S4x2048x512, .f32⟩
  | 53 => ⟨S4x2048x512, .f32⟩
  | 54 => ⟨S4x2048x512, .f32⟩
  | 55 => ⟨S_, .f32⟩
  | 56 => ⟨S4x2048x512, .f32⟩
  | 57 => ⟨S4x2048x512, .f32⟩
  | 58 => ⟨S_, .f32⟩
  | 59 => ⟨S4x2048x512, .f32⟩
  | 60 => ⟨S4x2048x512, .f32⟩
  | 61 => ⟨S4x2048x512, .f32⟩
  | 62 => ⟨S4x2048x512, .f32⟩
  | 63 => ⟨S_, .f32⟩
  | 64 => ⟨S4x2048x512, .f32⟩
  | 65 => ⟨S4x2048x512, .f32⟩
  | 66 => ⟨S_, .f32⟩
  | 67 => ⟨S4x2048x512, .f32⟩
  | 68 => ⟨S4x2048x512, .f32⟩
  | 69 => ⟨S4x2048x512, .f32⟩
  | 70 => ⟨S4x2048x512, .f32⟩
  | 71 => ⟨S_, .f32⟩
  | 72 => ⟨S4x2048x512, .f32⟩
  | 73 => ⟨S4x2048x512, .f32⟩
  | 74 => ⟨S_, .f32⟩
  | 75 => ⟨S4x2048x512, .f32⟩
  | 76 => ⟨S4x2048x512, .f32⟩
  | 77 => ⟨S4x2048x512, .f32⟩
  | 78 => ⟨S_, .f32⟩
  | 79 => ⟨S4x2048x512, .f32⟩
  | 80 => ⟨S4x2048x512, .f32⟩
  | 81 => ⟨S_, .f32⟩
  | 82 => ⟨S4x2048x512, .f32⟩
  | 83 => ⟨S4x2048x512, .f32⟩
  | 84 => ⟨S4x2048x512, .f32⟩
  | 85 => ⟨S4x2048x512, .f32⟩
  | 86 => ⟨S_, .f32⟩
  | 87 => ⟨S4x2048x512, .f32⟩
  | 88 => ⟨S4x2048x512, .f32⟩
  | 89 => ⟨S_, .f32⟩
  | 90 => ⟨S4x2048x512, .f32⟩
  | 91 => ⟨S4x2048x512, .f32⟩
  | 92 => ⟨S4x2048x512, .f32⟩
  | 93 => ⟨S4x2048x512, .f32⟩
  | 94 => ⟨S_, .f32⟩
  | 95 => ⟨S4x2048x512, .f32⟩
  | 96 => ⟨S4x2048x512, .f32⟩
  | 97 => ⟨S_, .f32⟩
  | 98 => ⟨S4x2048x512, .f32⟩
  | 99 => ⟨S4x2048x512, .f32⟩
  | 100 => ⟨S4x2048x512, .f32⟩
  | 101 => ⟨S_, .f32⟩
  | 102 => ⟨S4x2048x512, .f32⟩
  | 103 => ⟨S4x2048x512, .f32⟩
  | 104 => ⟨S_, .f32⟩
  | 105 => ⟨S4x2048x512, .f32⟩
  | 106 => ⟨S4x2048x512, .f32⟩
  | 107 => ⟨S4x2048x512, .f32⟩
  | 108 => ⟨S4x2048x512, .f32⟩
  | 109 => ⟨S_, .f32⟩
  | 110 => ⟨S4x2048x512, .f32⟩
  | 111 => ⟨S4x2048x512, .f32⟩
  | 112 => ⟨S_, .f32⟩
  | 113 => ⟨S4x2048x512, .f32⟩
  | 114 => ⟨S4x2048x512, .f32⟩
  | 115 => ⟨S4x2048x512, .f32⟩
  | 116 => ⟨S4x2048x512, .f32⟩
  | 117 => ⟨S_, .f32⟩
  | 118 => ⟨S4x2048x512, .f32⟩
  | 119 => ⟨S4x2048x512, .f32⟩
  | 120 => ⟨S_, .f32⟩
  | 121 => ⟨S4x2048x512, .f32⟩
  | 122 => ⟨S4x2048x512, .f32⟩
  | 123 => ⟨S4x2048x512, .f32⟩
  | 124 => ⟨S_, .f32⟩
  | 125 => ⟨S4x2048x512, .f32⟩
  | 126 => ⟨S4x2048x512, .f32⟩
  | 127 => ⟨S_, .f32⟩
  | _ => ⟨S4x2048x768, .f32⟩

abbrev hbmTy0_3 (i : Nat) : BufTy := match i % 128 with
  | 0 => ⟨S4x2048x512, .f32⟩
  | 1 => ⟨S4x2048x512, .f32⟩
  | 2 => ⟨S4x2048x512, .f32⟩
  | 3 => ⟨S4x2048x512, .f32⟩
  | 4 => ⟨S_, .f32⟩
  | 5 => ⟨S4x2048x512, .f32⟩
  | 6 => ⟨S4x2048x512, .f32⟩
  | 7 => ⟨S_, .f32⟩
  | 8 => ⟨S4x2048x512, .f32⟩
  | 9 => ⟨S4x2048x512, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S4x2048x512, .f32⟩
  | 26 => ⟨S4x2048x512, .f32⟩
  | 27 => ⟨S_, .f32⟩
  | 28 => ⟨S4x2048x512, .f32⟩
  | 29 => ⟨S4x2048x512, .f32⟩
  | 30 => ⟨S_, .f32⟩
  | 31 => ⟨S4x2048x512, .f32⟩
  | 32 => ⟨S4x2048x512, .f32⟩
  | 33 => ⟨S4x2048x512, .f32⟩
  | 34 => ⟨S4x2048x512, .f32⟩
  | 35 => ⟨S_, .f32⟩
  | 36 => ⟨S4x2048x512, .f32⟩
  | 37 => ⟨S4x2048x512, .f32⟩
  | 38 => ⟨S_, .f32⟩
  | 39 => ⟨S4x2048x512, .f32⟩
  | 40 => ⟨S4x2048x512, .f32⟩
  | 41 => ⟨S4x2048x512, .f32⟩
  | 42 => ⟨S_, .f32⟩
  | 43 => ⟨S4x2048x512, .f32⟩
  | 44 => ⟨S4x2048x512, .f32⟩
  | 45 => ⟨S_, .f32⟩
  | 46 => ⟨S4x2048x512, .f32⟩
  | 47 => ⟨S4x2048x512, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S4x2048x512, .f32⟩
  | 57 => ⟨S4x2048x512, .f32⟩
  | 58 => ⟨S_, .f32⟩
  | 59 => ⟨S4x2048x512, .f32⟩
  | 60 => ⟨S4x2048x512, .f32⟩
  | 61 => ⟨S8192x1x512, .f32⟩
  | 62 => ⟨S_, .f32⟩
  | 63 => ⟨S8192x512, .f32⟩
  | 64 => ⟨S_, .f32⟩
  | 65 => ⟨S8192x512, .f32⟩
  | 66 => ⟨S8192x512, .f32⟩
  | 67 => ⟨S8192x64, .f32⟩
  | 68 => ⟨S1x64, .f32⟩
  | 69 => ⟨S8192x64, .f32⟩
  | 70 => ⟨S8192x64, .f32⟩
  | 71 => ⟨S8192x1, .f32⟩
  | 72 => ⟨S8192x64, .f32⟩
  | 73 => ⟨S1x64, .f32⟩
  | 74 => ⟨S8192x64, .f32⟩
  | 75 => ⟨S8192x64, .f32⟩
  | 76 => ⟨S8192x64, .f32⟩
  | 77 => ⟨S8192x8, .f32⟩
  | 78 => ⟨S1x8, .f32⟩
  | 79 => ⟨S8192x8, .f32⟩
  | 80 => ⟨S8192x8, .f32⟩
  | 81 => ⟨S8192x8, .f32⟩
  | 82 => ⟨S8192x8, .f32⟩
  | 83 => ⟨S_, .f32⟩
  | 84 => ⟨S8192, .f32⟩
  | 85 => ⟨S_, .f32⟩
  | 86 => ⟨S8192, .f32⟩
  | 87 => ⟨S8192, .f32⟩
  | 88 => ⟨S8192x1, .f32⟩
  | 89 => ⟨S8192x8, .f32⟩
  | 90 => ⟨S8192x8, .f32⟩
  | 91 => ⟨S8192x8, .f32⟩
  | 92 => ⟨S_, .f32⟩
  | 93 => ⟨S8192, .f32⟩
  | 94 => ⟨S8192x1, .f32⟩
  | 95 => ⟨S8192x8, .f32⟩
  | 96 => ⟨S8192x8, .f32⟩
  | 97 => ⟨S8192x2, .f32⟩
  | 98 => ⟨S8192x2, .i32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x2, .f32⟩
  | 106 => ⟨S8192x2, .f32⟩
  | 107 => ⟨S_, .f32⟩
  | 108 => ⟨S8192x64, .f32⟩
  | 109 => ⟨S_, .i32⟩
  | 110 => ⟨S8192x2, .i32⟩
  | 111 => ⟨S8192x2, .i1⟩
  | 112 => ⟨S8192x2, .f32⟩
  | 113 => ⟨S8192x2, .f32⟩
  | 114 => ⟨S_, .f32⟩
  | 115 => ⟨S8192, .f32⟩
  | 116 => ⟨S8192x1, .f32⟩
  | 117 => ⟨S1x64x256, .f32⟩
  | 118 => ⟨S64x256, .f32⟩
  | 119 => ⟨S8192x256, .f32⟩
  | 120 => ⟨S1x256, .f32⟩
  | 121 => ⟨S256, .f32⟩
  | 122 => ⟨S1x256, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S4x2048x768, .f32⟩

abbrev hbmTy0_4 (i : Nat) : BufTy := match i % 128 with
  | 0 => ⟨S1x256x64, .f32⟩
  | 1 => ⟨S256x64, .f32⟩
  | 2 => ⟨S8192x64, .f32⟩
  | 3 => ⟨S1x64, .f32⟩
  | 4 => ⟨S64, .f32⟩
  | 5 => ⟨S1x64, .f32⟩
  | 6 => ⟨S8192x64, .f32⟩
  | 7 => ⟨S8192x64, .f32⟩
  | 8 => ⟨S8192x64, .f32⟩
  | 9 => ⟨S8192x64, .f32⟩
  | 10 => ⟨S8192x64, .f32⟩
  | 11 => ⟨S_, .i32⟩
  | 12 => ⟨S8192x2, .i32⟩
  | 13 => ⟨S8192x2, .i1⟩
  | 14 => ⟨S8192x2, .f32⟩
  | 15 => ⟨S8192x2, .f32⟩
  | 16 => ⟨S_, .f32⟩
  | 17 => ⟨S8192, .f32⟩
  | 18 => ⟨S8192x1, .f32⟩
  | 19 => ⟨S1x64x256, .f32⟩
  | 20 => ⟨S64x256, .f32⟩
  | 21 => ⟨S8192x256, .f32⟩
  | 22 => ⟨S1x256, .f32⟩
  | 23 => ⟨S256, .f32⟩
  | 24 => ⟨S1x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S1x256x64, .f32⟩
  | 31 => ⟨S256x64, .f32⟩
  | 32 => ⟨S8192x64, .f32⟩
  | 33 => ⟨S1x64, .f32⟩
  | 34 => ⟨S64, .f32⟩
  | 35 => ⟨S1x64, .f32⟩
  | 36 => ⟨S8192x64, .f32⟩
  | 37 => ⟨S8192x64, .f32⟩
  | 38 => ⟨S8192x64, .f32⟩
  | 39 => ⟨S8192x64, .f32⟩
  | 40 => ⟨S8192x64, .f32⟩
  | 41 => ⟨S_, .i32⟩
  | 42 => ⟨S8192x2, .i32⟩
  | 43 => ⟨S8192x2, .i1⟩
  | 44 => ⟨S8192x2, .f32⟩
  | 45 => ⟨S8192x2, .f32⟩
  | 46 => ⟨S_, .f32⟩
  | 47 => ⟨S8192, .f32⟩
  | 48 => ⟨S8192x1, .f32⟩
  | 49 => ⟨S1x64x256, .f32⟩
  | 50 => ⟨S64x256, .f32⟩
  | 51 => ⟨S8192x256, .f32⟩
  | 52 => ⟨S1x256, .f32⟩
  | 53 => ⟨S256, .f32⟩
  | 54 => ⟨S1x256, .f32⟩
  | 55 => ⟨S8192x256, .f32⟩
  | 56 => ⟨S8192x256, .f32⟩
  | 57 => ⟨S_, .f32⟩
  | 58 => ⟨S8192x256, .f32⟩
  | 59 => ⟨S8192x256, .f32⟩
  | 60 => ⟨S1x256x64, .f32⟩
  | 61 => ⟨S256x64, .f32⟩
  | 62 => ⟨S8192x64, .f32⟩
  | 63 => ⟨S1x64, .f32⟩
  | 64 => ⟨S64, .f32⟩
  | 65 => ⟨S1x64, .f32⟩
  | 66 => ⟨S8192x64, .f32⟩
  | 67 => ⟨S8192x64, .f32⟩
  | 68 => ⟨S8192x64, .f32⟩
  | 69 => ⟨S8192x64, .f32⟩
  | 70 => ⟨S8192x64, .f32⟩
  | 71 => ⟨S_, .i32⟩
  | 72 => ⟨S8192x2, .i32⟩
  | 73 => ⟨S8192x2, .i1⟩
  | 74 => ⟨S8192x2, .f32⟩
  | 75 => ⟨S8192x2, .f32⟩
  | 76 => ⟨S_, .f32⟩
  | 77 => ⟨S8192, .f32⟩
  | 78 => ⟨S8192x1, .f32⟩
  | 79 => ⟨S1x64x256, .f32⟩
  | 80 => ⟨S64x256, .f32⟩
  | 81 => ⟨S8192x256, .f32⟩
  | 82 => ⟨S1x256, .f32⟩
  | 83 => ⟨S256, .f32⟩
  | 84 => ⟨S1x256, .f32⟩
  | 85 => ⟨S8192x256, .f32⟩
  | 86 => ⟨S8192x256, .f32⟩
  | 87 => ⟨S_, .f32⟩
  | 88 => ⟨S8192x256, .f32⟩
  | 89 => ⟨S8192x256, .f32⟩
  | 90 => ⟨S1x256x64, .f32⟩
  | 91 => ⟨S256x64, .f32⟩
  | 92 => ⟨S8192x64, .f32⟩
  | 93 => ⟨S1x64, .f32⟩
  | 94 => ⟨S64, .f32⟩
  | 95 => ⟨S1x64, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S_, .i32⟩
  | 102 => ⟨S8192x2, .i32⟩
  | 103 => ⟨S8192x2, .i1⟩
  | 104 => ⟨S8192x2, .f32⟩
  | 105 => ⟨S8192x2, .f32⟩
  | 106 => ⟨S_, .f32⟩
  | 107 => ⟨S8192, .f32⟩
  | 108 => ⟨S8192x1, .f32⟩
  | 109 => ⟨S1x64x256, .f32⟩
  | 110 => ⟨S64x256, .f32⟩
  | 111 => ⟨S8192x256, .f32⟩
  | 112 => ⟨S1x256, .f32⟩
  | 113 => ⟨S256, .f32⟩
  | 114 => ⟨S1x256, .f32⟩
  | 115 => ⟨S8192x256, .f32⟩
  | 116 => ⟨S8192x256, .f32⟩
  | 117 => ⟨S_, .f32⟩
  | 118 => ⟨S8192x256, .f32⟩
  | 119 => ⟨S8192x256, .f32⟩
  | 120 => ⟨S1x256x64, .f32⟩
  | 121 => ⟨S256x64, .f32⟩
  | 122 => ⟨S8192x64, .f32⟩
  | 123 => ⟨S1x64, .f32⟩
  | 124 => ⟨S64, .f32⟩
  | 125 => ⟨S1x64, .f32⟩
  | 126 => ⟨S8192x64, .f32⟩
  | 127 => ⟨S8192x64, .f32⟩
  | _ => ⟨S4x2048x768, .f32⟩

abbrev hbmTy0_5 (i : Nat) : BufTy := match i % 128 with
  | 0 => ⟨S8192x64, .f32⟩
  | 1 => ⟨S8192x64, .f32⟩
  | 2 => ⟨S8192x64, .f32⟩
  | 3 => ⟨S_, .i32⟩
  | 4 => ⟨S8192x2, .i32⟩
  | 5 => ⟨S8192x2, .i1⟩
  | 6 => ⟨S8192x2, .f32⟩
  | 7 => ⟨S8192x2, .f32⟩
  | 8 => ⟨S_, .f32⟩
  | 9 => ⟨S8192, .f32⟩
  | 10 => ⟨S8192x1, .f32⟩
  | 11 => ⟨S1x64x256, .f32⟩
  | 12 => ⟨S64x256, .f32⟩
  | 13 => ⟨S8192x256, .f32⟩
  | 14 => ⟨S1x256, .f32⟩
  | 15 => ⟨S256, .f32⟩
  | 16 => ⟨S1x256, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S1x256x64, .f32⟩
  | 23 => ⟨S256x64, .f32⟩
  | 24 => ⟨S8192x64, .f32⟩
  | 25 => ⟨S1x64, .f32⟩
  | 26 => ⟨S64, .f32⟩
  | 27 => ⟨S1x64, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S_, .i32⟩
  | 34 => ⟨S8192x2, .i32⟩
  | 35 => ⟨S8192x2, .i1⟩
  | 36 => ⟨S8192x2, .f32⟩
  | 37 => ⟨S8192x2, .f32⟩
  | 38 => ⟨S_, .f32⟩
  | 39 => ⟨S8192, .f32⟩
  | 40 => ⟨S8192x1, .f32⟩
  | 41 => ⟨S1x64x256, .f32⟩
  | 42 => ⟨S64x256, .f32⟩
  | 43 => ⟨S8192x256, .f32⟩
  | 44 => ⟨S1x256, .f32⟩
  | 45 => ⟨S256, .f32⟩
  | 46 => ⟨S1x256, .f32⟩
  | 47 => ⟨S8192x256, .f32⟩
  | 48 => ⟨S8192x256, .f32⟩
  | 49 => ⟨S_, .f32⟩
  | 50 => ⟨S8192x256, .f32⟩
  | 51 => ⟨S8192x256, .f32⟩
  | 52 => ⟨S1x256x64, .f32⟩
  | 53 => ⟨S256x64, .f32⟩
  | 54 => ⟨S8192x64, .f32⟩
  | 55 => ⟨S1x64, .f32⟩
  | 56 => ⟨S64, .f32⟩
  | 57 => ⟨S1x64, .f32⟩
  | 58 => ⟨S8192x64, .f32⟩
  | 59 => ⟨S8192x64, .f32⟩
  | 60 => ⟨S8192x64, .f32⟩
  | 61 => ⟨S8192x64, .f32⟩
  | 62 => ⟨S8192x64, .f32⟩
  | 63 => ⟨S_, .i32⟩
  | 64 => ⟨S8192x2, .i32⟩
  | 65 => ⟨S8192x2, .i1⟩
  | 66 => ⟨S8192x2, .f32⟩
  | 67 => ⟨S8192x2, .f32⟩
  | 68 => ⟨S_, .f32⟩
  | 69 => ⟨S8192, .f32⟩
  | 70 => ⟨S8192x1, .f32⟩
  | 71 => ⟨S1x64x256, .f32⟩
  | 72 => ⟨S64x256, .f32⟩
  | 73 => ⟨S8192x256, .f32⟩
  | 74 => ⟨S1x256, .f32⟩
  | 75 => ⟨S256, .f32⟩
  | 76 => ⟨S1x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S1x256x64, .f32⟩
  | 83 => ⟨S256x64, .f32⟩
  | 84 => ⟨S8192x64, .f32⟩
  | 85 => ⟨S1x64, .f32⟩
  | 86 => ⟨S64, .f32⟩
  | 87 => ⟨S1x64, .f32⟩
  | 88 => ⟨S8192x64, .f32⟩
  | 89 => ⟨S8192x64, .f32⟩
  | 90 => ⟨S8192x64, .f32⟩
  | 91 => ⟨S8192x64, .f32⟩
  | 92 => ⟨S8192x64, .f32⟩
  | 93 => ⟨S8192x512, .f32⟩
  | 94 => ⟨S1x512, .f32⟩
  | 95 => ⟨S8192x512, .f32⟩
  | 96 => ⟨S8192x512, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x1x512, .f32⟩
  | 106 => ⟨S8192x4x512, .f32⟩
  | 107 => ⟨S4x2048x4x512, .f32⟩
  | 108 => ⟨S_, .f32⟩
  | 109 => ⟨S4x2048x512, .f32⟩
  | 110 => ⟨S_, .f32⟩
  | 111 => ⟨S4x2048x512, .f32⟩
  | 112 => ⟨S4x2048x512, .f32⟩
  | 113 => ⟨S4x2048x1, .f32⟩
  | 114 => ⟨S4x2048x512, .f32⟩
  | 115 => ⟨S4x2048x512, .f32⟩
  | 116 => ⟨S4x2048x768, .f32⟩
  | 117 => ⟨S1x1x768, .f32⟩
  | 118 => ⟨S4x2048x768, .f32⟩
  | 119 => ⟨S4x2048x768, .f32⟩
  | 120 => ⟨S_, .f32⟩
  | 121 => ⟨S4x2048x768, .f32⟩
  | 122 => ⟨S_, .f32⟩
  | 123 => ⟨S4x2048x768, .f32⟩
  | 124 => ⟨S_, .f32⟩
  | 125 => ⟨S4x2048x768, .f32⟩
  | 126 => ⟨S4x2048x768, .f32⟩
  | 127 => ⟨S_, .f32⟩
  | _ => ⟨S4x2048x768, .f32⟩

abbrev hbmTy0_6 (i : Nat) : BufTy := match i % 128 with
  | 0 => ⟨S4x2048x768, .f32⟩
  | 1 => ⟨S4x2048x768, .f32⟩
  | 2 => ⟨S4x2048x768, .f32⟩
  | 3 => ⟨S_, .f32⟩
  | 4 => ⟨S4x2048x768, .f32⟩
  | 5 => ⟨S4x2048x768, .f32⟩
  | 6 => ⟨S_, .f32⟩
  | 7 => ⟨S4x2048x768, .f32⟩
  | 8 => ⟨S4x2048x768, .f32⟩
  | 9 => ⟨S4x2048x768, .f32⟩
  | 10 => ⟨S4x2048x768, .f32⟩
  | 11 => ⟨S_, .f32⟩
  | 12 => ⟨S4x2048x768, .f32⟩
  | 13 => ⟨S4x2048x768, .f32⟩
  | 14 => ⟨S_, .f32⟩
  | 15 => ⟨S4x2048x768, .f32⟩
  | 16 => ⟨S4x2048x768, .f32⟩
  | 17 => ⟨S4x2048x768, .f32⟩
  | 18 => ⟨S4x2048x768, .f32⟩
  | 19 => ⟨S_, .f32⟩
  | 20 => ⟨S4x2048x768, .f32⟩
  | 21 => ⟨S4x2048x768, .f32⟩
  | 22 => ⟨S_, .f32⟩
  | 23 => ⟨S4x2048x768, .f32⟩
  | 24 => ⟨S4x2048x768, .f32⟩
  | 25 => ⟨S4x2048x768, .f32⟩
  | 26 => ⟨S_, .f32⟩
  | 27 => ⟨S4x2048x768, .f32⟩
  | 28 => ⟨S4x2048x768, .f32⟩
  | 29 => ⟨S_, .f32⟩
  | 30 => ⟨S4x2048x768, .f32⟩
  | 31 => ⟨S4x2048x768, .f32⟩
  | 32 => ⟨S4x2048x768, .f32⟩
  | 33 => ⟨S4x2048x768, .f32⟩
  | 34 => ⟨S_, .f32⟩
  | 35 => ⟨S4x2048x768, .f32⟩
  | 36 => ⟨S4x2048x768, .f32⟩
  | 37 => ⟨S_, .f32⟩
  | 38 => ⟨S4x2048x768, .f32⟩
  | 39 => ⟨S4x2048x768, .f32⟩
  | 40 => ⟨S4x2048x768, .f32⟩
  | 41 => ⟨S4x2048x768, .f32⟩
  | 42 => ⟨S_, .f32⟩
  | 43 => ⟨S4x2048x768, .f32⟩
  | 44 => ⟨S4x2048x768, .f32⟩
  | 45 => ⟨S_, .f32⟩
  | 46 => ⟨S4x2048x768, .f32⟩
  | 47 => ⟨S4x2048x768, .f32⟩
  | 48 => ⟨S4x2048x768, .f32⟩
  | 49 => ⟨S_, .f32⟩
  | 50 => ⟨S4x2048x768, .f32⟩
  | 51 => ⟨S4x2048x768, .f32⟩
  | 52 => ⟨S_, .f32⟩
  | 53 => ⟨S4x2048x768, .f32⟩
  | 54 => ⟨S4x2048x768, .f32⟩
  | 55 => ⟨S4x2048x768, .f32⟩
  | 56 => ⟨S4x2048x768, .f32⟩
  | 57 => ⟨S_, .f32⟩
  | 58 => ⟨S4x2048x768, .f32⟩
  | 59 => ⟨S4x2048x768, .f32⟩
  | 60 => ⟨S_, .f32⟩
  | 61 => ⟨S4x2048x768, .f32⟩
  | 62 => ⟨S4x2048x768, .f32⟩
  | 63 => ⟨S4x2048x768, .f32⟩
  | 64 => ⟨S4x2048x768, .f32⟩
  | 65 => ⟨S_, .f32⟩
  | 66 => ⟨S4x2048x768, .f32⟩
  | 67 => ⟨S4x2048x768, .f32⟩
  | 68 => ⟨S_, .f32⟩
  | 69 => ⟨S4x2048x768, .f32⟩
  | 70 => ⟨S4x2048x768, .f32⟩
  | 71 => ⟨S4x2048x768, .f32⟩
  | 72 => ⟨S_, .f32⟩
  | 73 => ⟨S4x2048x768, .f32⟩
  | 74 => ⟨S4x2048x768, .f32⟩
  | 75 => ⟨S_, .f32⟩
  | 76 => ⟨S4x2048x768, .f32⟩
  | 77 => ⟨S4x2048x768, .f32⟩
  | 78 => ⟨S4x2048x768, .f32⟩
  | 79 => ⟨S4x2048x768, .f32⟩
  | 80 => ⟨S_, .f32⟩
  | 81 => ⟨S4x2048x768, .f32⟩
  | 82 => ⟨S4x2048x768, .f32⟩
  | 83 => ⟨S_, .f32⟩
  | 84 => ⟨S4x2048x768, .f32⟩
  | 85 => ⟨S4x2048x768, .f32⟩
  | 86 => ⟨S4x2048x768, .f32⟩
  | 87 => ⟨S4x2048x768, .f32⟩
  | 88 => ⟨S_, .f32⟩
  | 89 => ⟨S4x2048x768, .f32⟩
  | 90 => ⟨S4x2048x768, .f32⟩
  | 91 => ⟨S_, .f32⟩
  | 92 => ⟨S4x2048x768, .f32⟩
  | 93 => ⟨S4x2048x768, .f32⟩
  | 94 => ⟨S4x2048x768, .f32⟩
  | 95 => ⟨S_, .f32⟩
  | 96 => ⟨S4x2048x768, .f32⟩
  | 97 => ⟨S4x2048x768, .f32⟩
  | 98 => ⟨S_, .f32⟩
  | 99 => ⟨S4x2048x768, .f32⟩
  | 100 => ⟨S4x2048x768, .f32⟩
  | 101 => ⟨S4x2048x768, .f32⟩
  | 102 => ⟨S4x2048x768, .f32⟩
  | 103 => ⟨S_, .f32⟩
  | 104 => ⟨S4x2048x768, .f32⟩
  | 105 => ⟨S4x2048x768, .f32⟩
  | 106 => ⟨S_, .f32⟩
  | 107 => ⟨S4x2048x768, .f32⟩
  | 108 => ⟨S4x2048x768, .f32⟩
  | 109 => ⟨S4x2048x768, .f32⟩
  | 110 => ⟨S4x2048x768, .f32⟩
  | 111 => ⟨S_, .f32⟩
  | 112 => ⟨S4x2048x768, .f32⟩
  | 113 => ⟨S4x2048x768, .f32⟩
  | 114 => ⟨S_, .f32⟩
  | 115 => ⟨S4x2048x768, .f32⟩
  | 116 => ⟨S4x2048x768, .f32⟩
  | 117 => ⟨S4x2048x768, .f32⟩
  | 118 => ⟨S_, .f32⟩
  | 119 => ⟨S4x2048x768, .f32⟩
  | 120 => ⟨S4x2048x768, .f32⟩
  | 121 => ⟨S_, .f32⟩
  | 122 => ⟨S4x2048x768, .f32⟩
  | 123 => ⟨S4x2048x768, .f32⟩
  | 124 => ⟨S4x2048x768, .f32⟩
  | 125 => ⟨S4x2048x768, .f32⟩
  | 126 => ⟨S_, .f32⟩
  | 127 => ⟨S4x2048x768, .f32⟩
  | _ => ⟨S4x2048x768, .f32⟩

abbrev hbmTy0_7 (i : Nat) : BufTy := match i % 128 with
  | 0 => ⟨S4x2048x768, .f32⟩
  | 1 => ⟨S_, .f32⟩
  | 2 => ⟨S4x2048x768, .f32⟩
  | 3 => ⟨S4x2048x768, .f32⟩
  | 4 => ⟨S4x2048x768, .f32⟩
  | 5 => ⟨S4x2048x768, .f32⟩
  | 6 => ⟨S_, .f32⟩
  | 7 => ⟨S4x2048x768, .f32⟩
  | 8 => ⟨S4x2048x768, .f32⟩
  | 9 => ⟨S_, .f32⟩
  | 10 => ⟨S4x2048x768, .f32⟩
  | 11 => ⟨S4x2048x768, .f32⟩
  | 12 => ⟨S4x2048x768, .f32⟩
  | 13 => ⟨S_, .f32⟩
  | 14 => ⟨S4x2048x768, .f32⟩
  | 15 => ⟨S4x2048x768, .f32⟩
  | 16 => ⟨S_, .f32⟩
  | 17 => ⟨S4x2048x768, .f32⟩
  | 18 => ⟨S4x2048x768, .f32⟩
  | 19 => ⟨S4x2048x768, .f32⟩
  | 20 => ⟨S4x2048x768, .f32⟩
  | 21 => ⟨S_, .f32⟩
  | 22 => ⟨S4x2048x768, .f32⟩
  | 23 => ⟨S4x2048x768, .f32⟩
  | 24 => ⟨S_, .f32⟩
  | 25 => ⟨S4x2048x768, .f32⟩
  | 26 => ⟨S4x2048x768, .f32⟩
  | 27 => ⟨S4x2048x768, .f32⟩
  | 28 => ⟨S4x2048x768, .f32⟩
  | 29 => ⟨S_, .f32⟩
  | 30 => ⟨S4x2048x768, .f32⟩
  | 31 => ⟨S4x2048x768, .f32⟩
  | 32 => ⟨S_, .f32⟩
  | 33 => ⟨S4x2048x768, .f32⟩
  | 34 => ⟨S4x2048x768, .f32⟩
  | 35 => ⟨S4x2048x768, .f32⟩
  | 36 => ⟨S_, .f32⟩
  | 37 => ⟨S4x2048x768, .f32⟩
  | 38 => ⟨S4x2048x768, .f32⟩
  | 39 => ⟨S_, .f32⟩
  | 40 => ⟨S4x2048x768, .f32⟩
  | 41 => ⟨S4x2048x768, .f32⟩
  | 42 => ⟨S4x2048x768, .f32⟩
  | 43 => ⟨S4x2048x768, .f32⟩
  | 44 => ⟨S_, .f32⟩
  | 45 => ⟨S4x2048x768, .f32⟩
  | 46 => ⟨S4x2048x768, .f32⟩
  | 47 => ⟨S_, .f32⟩
  | 48 => ⟨S4x2048x768, .f32⟩
  | 49 => ⟨S4x2048x768, .f32⟩
  | 50 => ⟨S4x2048x768, .f32⟩
  | 51 => ⟨S4x2048x768, .f32⟩
  | 52 => ⟨S_, .f32⟩
  | 53 => ⟨S4x2048x768, .f32⟩
  | 54 => ⟨S4x2048x768, .f32⟩
  | 55 => ⟨S_, .f32⟩
  | 56 => ⟨S4x2048x768, .f32⟩
  | 57 => ⟨S4x2048x768, .f32⟩
  | 58 => ⟨S4x2048x768, .f32⟩
  | 59 => ⟨S_, .f32⟩
  | 60 => ⟨S4x2048x768, .f32⟩
  | 61 => ⟨S4x2048x768, .f32⟩
  | 62 => ⟨S_, .f32⟩
  | 63 => ⟨S4x2048x768, .f32⟩
  | 64 => ⟨S4x2048x768, .f32⟩
  | 65 => ⟨S4x2048x768, .f32⟩
  | 66 => ⟨S4x2048x768, .f32⟩
  | 67 => ⟨S_, .f32⟩
  | 68 => ⟨S4x2048x768, .f32⟩
  | 69 => ⟨S4x2048x768, .f32⟩
  | 70 => ⟨S_, .f32⟩
  | 71 => ⟨S4x2048x768, .f32⟩
  | 72 => ⟨S4x2048x768, .f32⟩
  | 73 => ⟨S4x2048x768, .f32⟩
  | 74 => ⟨S4x2048x768, .f32⟩
  | 75 => ⟨S_, .f32⟩
  | 76 => ⟨S4x2048x768, .f32⟩
  | 77 => ⟨S4x2048x768, .f32⟩
  | 78 => ⟨S_, .f32⟩
  | 79 => ⟨S4x2048x768, .f32⟩
  | 80 => ⟨S4x2048x768, .f32⟩
  | 81 => ⟨S4x2048x768, .f32⟩
  | 82 => ⟨S_, .f32⟩
  | 83 => ⟨S4x2048x768, .f32⟩
  | 84 => ⟨S4x2048x768, .f32⟩
  | 85 => ⟨S_, .f32⟩
  | 86 => ⟨S4x2048x768, .f32⟩
  | 87 => ⟨S4x2048x768, .f32⟩
  | 88 => ⟨S4x2048x768, .f32⟩
  | 89 => ⟨S4x2048x768, .f32⟩
  | 90 => ⟨S_, .f32⟩
  | 91 => ⟨S4x2048x768, .f32⟩
  | 92 => ⟨S4x2048x768, .f32⟩
  | 93 => ⟨S_, .f32⟩
  | 94 => ⟨S4x2048x768, .f32⟩
  | 95 => ⟨S4x2048x768, .f32⟩
  | 96 => ⟨S4x2048x768, .f32⟩
  | 97 => ⟨S4x2048x768, .f32⟩
  | 98 => ⟨S_, .f32⟩
  | 99 => ⟨S4x2048x768, .f32⟩
  | 100 => ⟨S4x2048x768, .f32⟩
  | 101 => ⟨S_, .f32⟩
  | 102 => ⟨S4x2048x768, .f32⟩
  | 103 => ⟨S4x2048x768, .f32⟩
  | 104 => ⟨S4x2048x768, .f32⟩
  | 105 => ⟨S_, .f32⟩
  | 106 => ⟨S4x2048x768, .f32⟩
  | 107 => ⟨S4x2048x768, .f32⟩
  | 108 => ⟨S_, .f32⟩
  | 109 => ⟨S4x2048x768, .f32⟩
  | 110 => ⟨S4x2048x768, .f32⟩
  | 111 => ⟨S4x2048x768, .f32⟩
  | 112 => ⟨S4x2048x768, .f32⟩
  | 113 => ⟨S_, .f32⟩
  | 114 => ⟨S4x2048x768, .f32⟩
  | 115 => ⟨S4x2048x768, .f32⟩
  | 116 => ⟨S_, .f32⟩
  | 117 => ⟨S4x2048x768, .f32⟩
  | 118 => ⟨S4x2048x768, .f32⟩
  | 119 => ⟨S4x2048x768, .f32⟩
  | 120 => ⟨S4x2048x768, .f32⟩
  | 121 => ⟨S_, .f32⟩
  | 122 => ⟨S4x2048x768, .f32⟩
  | 123 => ⟨S4x2048x768, .f32⟩
  | 124 => ⟨S_, .f32⟩
  | 125 => ⟨S4x2048x768, .f32⟩
  | 126 => ⟨S4x2048x768, .f32⟩
  | 127 => ⟨S4x2048x768, .f32⟩
  | _ => ⟨S4x2048x768, .f32⟩

abbrev hbmTy0_8 (i : Nat) : BufTy := match i % 128 with
  | 0 => ⟨S_, .f32⟩
  | 1 => ⟨S4x2048x768, .f32⟩
  | 2 => ⟨S4x2048x768, .f32⟩
  | 3 => ⟨S_, .f32⟩
  | 4 => ⟨S4x2048x768, .f32⟩
  | 5 => ⟨S4x2048x768, .f32⟩
  | 6 => ⟨S4x2048x768, .f32⟩
  | 7 => ⟨S4x2048x768, .f32⟩
  | 8 => ⟨S_, .f32⟩
  | 9 => ⟨S4x2048x768, .f32⟩
  | 10 => ⟨S4x2048x768, .f32⟩
  | 11 => ⟨S_, .f32⟩
  | 12 => ⟨S4x2048x768, .f32⟩
  | 13 => ⟨S4x2048x768, .f32⟩
  | 14 => ⟨S4x2048x768, .f32⟩
  | 15 => ⟨S4x2048x768, .f32⟩
  | 16 => ⟨S_, .f32⟩
  | 17 => ⟨S4x2048x768, .f32⟩
  | 18 => ⟨S4x2048x768, .f32⟩
  | 19 => ⟨S_, .f32⟩
  | 20 => ⟨S4x2048x768, .f32⟩
  | 21 => ⟨S4x2048x768, .f32⟩
  | 22 => ⟨S4x2048x768, .f32⟩
  | 23 => ⟨S_, .f32⟩
  | 24 => ⟨S4x2048x768, .f32⟩
  | 25 => ⟨S4x2048x768, .f32⟩
  | 26 => ⟨S_, .f32⟩
  | 27 => ⟨S4x2048x768, .f32⟩
  | 28 => ⟨S4x2048x768, .f32⟩
  | 29 => ⟨S4x2048x768, .f32⟩
  | 30 => ⟨S4x2048x768, .f32⟩
  | 31 => ⟨S_, .f32⟩
  | 32 => ⟨S4x2048x768, .f32⟩
  | 33 => ⟨S4x2048x768, .f32⟩
  | 34 => ⟨S_, .f32⟩
  | 35 => ⟨S4x2048x768, .f32⟩
  | 36 => ⟨S4x2048x768, .f32⟩
  | 37 => ⟨S4x2048x768, .f32⟩
  | 38 => ⟨S4x2048x768, .f32⟩
  | 39 => ⟨S_, .f32⟩
  | 40 => ⟨S4x2048x768, .f32⟩
  | 41 => ⟨S4x2048x768, .f32⟩
  | 42 => ⟨S_, .f32⟩
  | 43 => ⟨S4x2048x768, .f32⟩
  | 44 => ⟨S4x2048x768, .f32⟩
  | 45 => ⟨S4x2048x768, .f32⟩
  | 46 => ⟨S_, .f32⟩
  | 47 => ⟨S4x2048x768, .f32⟩
  | 48 => ⟨S4x2048x768, .f32⟩
  | 49 => ⟨S_, .f32⟩
  | 50 => ⟨S4x2048x768, .f32⟩
  | 51 => ⟨S4x2048x768, .f32⟩
  | 52 => ⟨S4x2048x768, .f32⟩
  | 53 => ⟨S4x2048x768, .f32⟩
  | 54 => ⟨S_, .f32⟩
  | 55 => ⟨S4x2048x768, .f32⟩
  | 56 => ⟨S4x2048x768, .f32⟩
  | 57 => ⟨S_, .f32⟩
  | 58 => ⟨S4x2048x768, .f32⟩
  | 59 => ⟨S4x2048x768, .f32⟩
  | 60 => ⟨S4x2048x768, .f32⟩
  | 61 => ⟨S4x2048x768, .f32⟩
  | 62 => ⟨S_, .f32⟩
  | 63 => ⟨S4x2048x768, .f32⟩
  | 64 => ⟨S4x2048x768, .f32⟩
  | 65 => ⟨S_, .f32⟩
  | 66 => ⟨S4x2048x768, .f32⟩
  | 67 => ⟨S4x2048x768, .f32⟩
  | 68 => ⟨S4x2048x768, .f32⟩
  | 69 => ⟨S_, .f32⟩
  | 70 => ⟨S4x2048x768, .f32⟩
  | 71 => ⟨S4x2048x768, .f32⟩
  | 72 => ⟨S_, .f32⟩
  | 73 => ⟨S4x2048x768, .f32⟩
  | 74 => ⟨S4x2048x768, .f32⟩
  | 75 => ⟨S4x2048x768, .f32⟩
  | 76 => ⟨S4x2048x768, .f32⟩
  | 77 => ⟨S_, .f32⟩
  | 78 => ⟨S4x2048x768, .f32⟩
  | 79 => ⟨S4x2048x768, .f32⟩
  | 80 => ⟨S_, .f32⟩
  | 81 => ⟨S4x2048x768, .f32⟩
  | 82 => ⟨S4x2048x768, .f32⟩
  | 83 => ⟨S4x2048x768, .f32⟩
  | 84 => ⟨S4x2048x768, .f32⟩
  | 85 => ⟨S_, .f32⟩
  | 86 => ⟨S4x2048x768, .f32⟩
  | 87 => ⟨S4x2048x768, .f32⟩
  | 88 => ⟨S_, .f32⟩
  | 89 => ⟨S4x2048x768, .f32⟩
  | 90 => ⟨S4x2048x768, .f32⟩
  | 91 => ⟨S4x2048x768, .f32⟩
  | 92 => ⟨S_, .f32⟩
  | 93 => ⟨S4x2048x768, .f32⟩
  | 94 => ⟨S4x2048x768, .f32⟩
  | 95 => ⟨S_, .f32⟩
  | 96 => ⟨S4x2048x768, .f32⟩
  | 97 => ⟨S4x2048x768, .f32⟩
  | 98 => ⟨S4x2048x768, .f32⟩
  | 99 => ⟨S4x2048x768, .f32⟩
  | 100 => ⟨S_, .f32⟩
  | 101 => ⟨S4x2048x768, .f32⟩
  | 102 => ⟨S4x2048x768, .f32⟩
  | 103 => ⟨S_, .f32⟩
  | 104 => ⟨S4x2048x768, .f32⟩
  | 105 => ⟨S4x2048x768, .f32⟩
  | 106 => ⟨S4x2048x768, .f32⟩
  | 107 => ⟨S4x2048x768, .f32⟩
  | 108 => ⟨S_, .f32⟩
  | 109 => ⟨S4x2048x768, .f32⟩
  | 110 => ⟨S4x2048x768, .f32⟩
  | 111 => ⟨S_, .f32⟩
  | 112 => ⟨S4x2048, .f32⟩
  | 113 => ⟨S4x2048x1, .f32⟩
  | 114 => ⟨S_, .f32⟩
  | 115 => ⟨S4x2048x1, .f32⟩
  | 116 => ⟨S4x2048x1, .f32⟩
  | 117 => ⟨S4x2048x768, .f32⟩
  | 118 => ⟨S4x2048x768, .f32⟩
  | 119 => ⟨S4x2048x768, .f32⟩
  | 120 => ⟨S_, .f32⟩
  | 121 => ⟨S4x2048, .f32⟩
  | 122 => ⟨S4x2048x1, .f32⟩
  | 123 => ⟨S_, .f32⟩
  | 124 => ⟨S4x2048x1, .f32⟩
  | 125 => ⟨S4x2048x1, .f32⟩
  | 126 => ⟨S4x2048x768, .f32⟩
  | 127 => ⟨S4x2048x768, .f32⟩
  | _ => ⟨S4x2048x768, .f32⟩

abbrev hbmTy0_9 (i : Nat) : BufTy := match i % 128 with
  | 0 => ⟨S_, .f32⟩
  | 1 => ⟨S4x2048x1, .f32⟩
  | 2 => ⟨S4x2048x1, .f32⟩
  | 3 => ⟨S4x2048x1, .f32⟩
  | 4 => ⟨S4x2048x768, .f32⟩
  | 5 => ⟨S4x2048x768, .f32⟩
  | 6 => ⟨S1x1x768, .f32⟩
  | 7 => ⟨S4x2048x768, .f32⟩
  | 8 => ⟨S4x2048x768, .f32⟩
  | 9 => ⟨S1x1x768, .f32⟩
  | 10 => ⟨S4x2048x768, .f32⟩
  | 11 => ⟨S4x2048x768, .f32⟩
  | _ => ⟨S4x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_v1 : Ref sig .tc := ⟨.hbm, 44, rfl⟩
abbrev main_values : Ref sig .tc := ⟨.hbm, 45, rfl⟩
abbrev main_indices : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst : Ref sig .tc := ⟨.hbm, 53, rfl⟩
abbrev main_v8 : Ref sig .tc := ⟨.hbm, 54, rfl⟩
abbrev main_v9 : Ref sig .tc := ⟨.hbm, 55, rfl⟩
abbrev main_cst_0 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_cst_1 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_2 : Ref sig .tc := ⟨.hbm, 70, rfl⟩
abbrev main_v22 : Ref sig .tc := ⟨.hbm, 71, rfl⟩
abbrev main_cst_3 : Ref sig .tc := ⟨.hbm, 72, rfl⟩
abbrev main_v23 : Ref sig .tc := ⟨.hbm, 73, rfl⟩
abbrev main_cst_4 : Ref sig .tc := ⟨.hbm, 74, rfl⟩
abbrev main_v24 : Ref sig .tc := ⟨.hbm, 75, rfl⟩
abbrev main_v25 : Ref sig .tc := ⟨.hbm, 76, rfl⟩
abbrev main_cst_5 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_cst_6 : Ref sig .tc := ⟨.hbm, 81, rfl⟩
abbrev main_v29 : Ref sig .tc := ⟨.hbm, 82, rfl⟩
abbrev main_v30 : Ref sig .tc := ⟨.hbm, 83, rfl⟩
abbrev main_cst_7 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_cst_8 : Ref sig .tc := ⟨.hbm, 89, rfl⟩
abbrev main_v35 : Ref sig .tc := ⟨.hbm, 90, rfl⟩
abbrev main_v36 : Ref sig .tc := ⟨.hbm, 91, rfl⟩
abbrev main_cst_9 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_cst_10 : Ref sig .tc := ⟨.hbm, 97, rfl⟩
abbrev main_v41 : Ref sig .tc := ⟨.hbm, 98, rfl⟩
abbrev main_v42 : Ref sig .tc := ⟨.hbm, 99, rfl⟩
abbrev main_cst_11 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_12 : Ref sig .tc := ⟨.hbm, 104, rfl⟩
abbrev main_v46 : Ref sig .tc := ⟨.hbm, 105, rfl⟩
abbrev main_v47 : Ref sig .tc := ⟨.hbm, 106, rfl⟩
abbrev main_cst_13 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_14 : Ref sig .tc := ⟨.hbm, 112, rfl⟩
abbrev main_v52 : Ref sig .tc := ⟨.hbm, 113, rfl⟩
abbrev main_v53 : Ref sig .tc := ⟨.hbm, 114, rfl⟩
abbrev main_cst_15 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_16 : Ref sig .tc := ⟨.hbm, 120, rfl⟩
abbrev main_v58 : Ref sig .tc := ⟨.hbm, 121, rfl⟩
abbrev main_v59 : Ref sig .tc := ⟨.hbm, 122, rfl⟩
abbrev main_cst_17 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_cst_18 : Ref sig .tc := ⟨.hbm, 127, rfl⟩
abbrev main_v63 : Ref sig .tc := ⟨.hbm, 128, rfl⟩
abbrev main_v64 : Ref sig .tc := ⟨.hbm, 129, rfl⟩
abbrev main_cst_19 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_cst_20 : Ref sig .tc := ⟨.hbm, 135, rfl⟩
abbrev main_v69 : Ref sig .tc := ⟨.hbm, 136, rfl⟩
abbrev main_v70 : Ref sig .tc := ⟨.hbm, 137, rfl⟩
abbrev main_cst_21 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_22 : Ref sig .tc := ⟨.hbm, 143, rfl⟩
abbrev main_v75 : Ref sig .tc := ⟨.hbm, 144, rfl⟩
abbrev main_v76 : Ref sig .tc := ⟨.hbm, 145, rfl⟩
abbrev main_cst_23 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_24 : Ref sig .tc := ⟨.hbm, 150, rfl⟩
abbrev main_v80 : Ref sig .tc := ⟨.hbm, 151, rfl⟩
abbrev main_v81 : Ref sig .tc := ⟨.hbm, 152, rfl⟩
abbrev main_cst_25 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_26 : Ref sig .tc := ⟨.hbm, 158, rfl⟩
abbrev main_v86 : Ref sig .tc := ⟨.hbm, 159, rfl⟩
abbrev main_v87 : Ref sig .tc := ⟨.hbm, 160, rfl⟩
abbrev main_cst_27 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_cst_28 : Ref sig .tc := ⟨.hbm, 166, rfl⟩
abbrev main_v92 : Ref sig .tc := ⟨.hbm, 167, rfl⟩
abbrev main_v93 : Ref sig .tc := ⟨.hbm, 168, rfl⟩
abbrev main_cst_29 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_cst_30 : Ref sig .tc := ⟨.hbm, 173, rfl⟩
abbrev main_v97 : Ref sig .tc := ⟨.hbm, 174, rfl⟩
abbrev main_v98 : Ref sig .tc := ⟨.hbm, 175, rfl⟩
abbrev main_cst_31 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_cst_32 : Ref sig .tc := ⟨.hbm, 181, rfl⟩
abbrev main_v103 : Ref sig .tc := ⟨.hbm, 182, rfl⟩
abbrev main_v104 : Ref sig .tc := ⟨.hbm, 183, rfl⟩
abbrev main_cst_33 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_cst_34 : Ref sig .tc := ⟨.hbm, 189, rfl⟩
abbrev main_v109 : Ref sig .tc := ⟨.hbm, 190, rfl⟩
abbrev main_v110 : Ref sig .tc := ⟨.hbm, 191, rfl⟩
abbrev main_cst_35 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_cst_36 : Ref sig .tc := ⟨.hbm, 196, rfl⟩
abbrev main_v114 : Ref sig .tc := ⟨.hbm, 197, rfl⟩
abbrev main_v115 : Ref sig .tc := ⟨.hbm, 198, rfl⟩
abbrev main_cst_37 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_38 : Ref sig .tc := ⟨.hbm, 204, rfl⟩
abbrev main_v120 : Ref sig .tc := ⟨.hbm, 205, rfl⟩
abbrev main_v121 : Ref sig .tc := ⟨.hbm, 206, rfl⟩
abbrev main_cst_39 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_cst_40 : Ref sig .tc := ⟨.hbm, 212, rfl⟩
abbrev main_v126 : Ref sig .tc := ⟨.hbm, 213, rfl⟩
abbrev main_v127 : Ref sig .tc := ⟨.hbm, 214, rfl⟩
abbrev main_cst_41 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_cst_42 : Ref sig .tc := ⟨.hbm, 219, rfl⟩
abbrev main_v131 : Ref sig .tc := ⟨.hbm, 220, rfl⟩
abbrev main_v132 : Ref sig .tc := ⟨.hbm, 221, rfl⟩
abbrev main_cst_43 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_cst_44 : Ref sig .tc := ⟨.hbm, 227, rfl⟩
abbrev main_v137 : Ref sig .tc := ⟨.hbm, 228, rfl⟩
abbrev main_v138 : Ref sig .tc := ⟨.hbm, 229, rfl⟩
abbrev main_cst_45 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_cst_46 : Ref sig .tc := ⟨.hbm, 235, rfl⟩
abbrev main_v143 : Ref sig .tc := ⟨.hbm, 236, rfl⟩
abbrev main_v144 : Ref sig .tc := ⟨.hbm, 237, rfl⟩
abbrev main_cst_47 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_cst_48 : Ref sig .tc := ⟨.hbm, 242, rfl⟩
abbrev main_v148 : Ref sig .tc := ⟨.hbm, 243, rfl⟩
abbrev main_v149 : Ref sig .tc := ⟨.hbm, 244, rfl⟩
abbrev main_cst_49 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_cst_50 : Ref sig .tc := ⟨.hbm, 250, rfl⟩
abbrev main_v154 : Ref sig .tc := ⟨.hbm, 251, rfl⟩
abbrev main_v155 : Ref sig .tc := ⟨.hbm, 252, rfl⟩
abbrev main_cst_51 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_cst_52 : Ref sig .tc := ⟨.hbm, 258, rfl⟩
abbrev main_v160 : Ref sig .tc := ⟨.hbm, 259, rfl⟩
abbrev main_v161 : Ref sig .tc := ⟨.hbm, 260, rfl⟩
abbrev main_cst_53 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_cst_54 : Ref sig .tc := ⟨.hbm, 265, rfl⟩
abbrev main_v165 : Ref sig .tc := ⟨.hbm, 266, rfl⟩
abbrev main_v166 : Ref sig .tc := ⟨.hbm, 267, rfl⟩
abbrev main_cst_55 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_cst_56 : Ref sig .tc := ⟨.hbm, 273, rfl⟩
abbrev main_v171 : Ref sig .tc := ⟨.hbm, 274, rfl⟩
abbrev main_v172 : Ref sig .tc := ⟨.hbm, 275, rfl⟩
abbrev main_cst_57 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_cst_58 : Ref sig .tc := ⟨.hbm, 281, rfl⟩
abbrev main_v177 : Ref sig .tc := ⟨.hbm, 282, rfl⟩
abbrev main_v178 : Ref sig .tc := ⟨.hbm, 283, rfl⟩
abbrev main_cst_59 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_cst_60 : Ref sig .tc := ⟨.hbm, 288, rfl⟩
abbrev main_v182 : Ref sig .tc := ⟨.hbm, 289, rfl⟩
abbrev main_v183 : Ref sig .tc := ⟨.hbm, 290, rfl⟩
abbrev main_cst_61 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_cst_62 : Ref sig .tc := ⟨.hbm, 296, rfl⟩
abbrev main_v188 : Ref sig .tc := ⟨.hbm, 297, rfl⟩
abbrev main_v189 : Ref sig .tc := ⟨.hbm, 298, rfl⟩
abbrev main_cst_63 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_cst_64 : Ref sig .tc := ⟨.hbm, 304, rfl⟩
abbrev main_v194 : Ref sig .tc := ⟨.hbm, 305, rfl⟩
abbrev main_v195 : Ref sig .tc := ⟨.hbm, 306, rfl⟩
abbrev main_cst_65 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_cst_66 : Ref sig .tc := ⟨.hbm, 311, rfl⟩
abbrev main_v199 : Ref sig .tc := ⟨.hbm, 312, rfl⟩
abbrev main_v200 : Ref sig .tc := ⟨.hbm, 313, rfl⟩
abbrev main_cst_67 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_cst_68 : Ref sig .tc := ⟨.hbm, 319, rfl⟩
abbrev main_v205 : Ref sig .tc := ⟨.hbm, 320, rfl⟩
abbrev main_v206 : Ref sig .tc := ⟨.hbm, 321, rfl⟩
abbrev main_cst_69 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_v210 : Ref sig .tc := ⟨.hbm, 326, rfl⟩
abbrev main_cst_70 : Ref sig .tc := ⟨.hbm, 327, rfl⟩
abbrev main_v211 : Ref sig .tc := ⟨.hbm, 328, rfl⟩
abbrev main_v212 : Ref sig .tc := ⟨.hbm, 329, rfl⟩
abbrev main_cst_71 : Ref sig .tc := ⟨.hbm, 330, rfl⟩
abbrev main_v213 : Ref sig .tc := ⟨.hbm, 331, rfl⟩
abbrev main_v214 : Ref sig .tc := ⟨.hbm, 332, rfl⟩
abbrev main_v215 : Ref sig .tc := ⟨.hbm, 333, rfl⟩
abbrev main_cst_72 : Ref sig .tc := ⟨.hbm, 334, rfl⟩
abbrev main_v216 : Ref sig .tc := ⟨.hbm, 335, rfl⟩
abbrev main_v217 : Ref sig .tc := ⟨.hbm, 336, rfl⟩
abbrev main_cst_73 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_cst_74 : Ref sig .tc := ⟨.hbm, 342, rfl⟩
abbrev main_v222 : Ref sig .tc := ⟨.hbm, 343, rfl⟩
abbrev main_v223 : Ref sig .tc := ⟨.hbm, 344, rfl⟩
abbrev main_cst_75 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_cst_76 : Ref sig .tc := ⟨.hbm, 350, rfl⟩
abbrev main_v228 : Ref sig .tc := ⟨.hbm, 351, rfl⟩
abbrev main_v229 : Ref sig .tc := ⟨.hbm, 352, rfl⟩
abbrev main_cst_77 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_cst_78 : Ref sig .tc := ⟨.hbm, 357, rfl⟩
abbrev main_v233 : Ref sig .tc := ⟨.hbm, 358, rfl⟩
abbrev main_v234 : Ref sig .tc := ⟨.hbm, 359, rfl⟩
abbrev main_cst_79 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_cst_80 : Ref sig .tc := ⟨.hbm, 365, rfl⟩
abbrev main_v239 : Ref sig .tc := ⟨.hbm, 366, rfl⟩
abbrev main_v240 : Ref sig .tc := ⟨.hbm, 367, rfl⟩
abbrev main_cst_81 : Ref sig .tc := ⟨.hbm, 368, rfl⟩
abbrev main_v241 : Ref sig .tc := ⟨.hbm, 369, rfl⟩
abbrev main_v242 : Ref sig .tc := ⟨.hbm, 370, rfl⟩
abbrev main_v243 : Ref sig .tc := ⟨.hbm, 371, rfl⟩
abbrev main_v244 : Ref sig .tc := ⟨.hbm, 372, rfl⟩
abbrev main_cst_82 : Ref sig .tc := ⟨.hbm, 373, rfl⟩
abbrev main_v245 : Ref sig .tc := ⟨.hbm, 374, rfl⟩
abbrev main_v246 : Ref sig .tc := ⟨.hbm, 375, rfl⟩
abbrev main_cst_83 : Ref sig .tc := ⟨.hbm, 376, rfl⟩
abbrev main_v247 : Ref sig .tc := ⟨.hbm, 377, rfl⟩
abbrev main_v248 : Ref sig .tc := ⟨.hbm, 378, rfl⟩
abbrev main_v249 : Ref sig .tc := ⟨.hbm, 379, rfl⟩
abbrev main_cst_84 : Ref sig .tc := ⟨.hbm, 380, rfl⟩
abbrev main_v250 : Ref sig .tc := ⟨.hbm, 381, rfl⟩
abbrev main_v251 : Ref sig .tc := ⟨.hbm, 382, rfl⟩
abbrev main_cst_85 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_cst_86 : Ref sig .tc := ⟨.hbm, 388, rfl⟩
abbrev main_v256 : Ref sig .tc := ⟨.hbm, 389, rfl⟩
abbrev main_v257 : Ref sig .tc := ⟨.hbm, 390, rfl⟩
abbrev main_cst_87 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_cst_88 : Ref sig .tc := ⟨.hbm, 396, rfl⟩
abbrev main_v262 : Ref sig .tc := ⟨.hbm, 397, rfl⟩
abbrev main_v263 : Ref sig .tc := ⟨.hbm, 398, rfl⟩
abbrev main_cst_89 : Ref sig .tc := ⟨.hbm, 399, rfl⟩
abbrev main_v264 : Ref sig .tc := ⟨.hbm, 400, rfl⟩
abbrev main_v265 : Ref sig .tc := ⟨.hbm, 401, rfl⟩
abbrev main_v266 : Ref sig .tc := ⟨.hbm, 402, rfl⟩
abbrev main_cst_90 : Ref sig .tc := ⟨.hbm, 403, rfl⟩
abbrev main_v267 : Ref sig .tc := ⟨.hbm, 404, rfl⟩
abbrev main_v268 : Ref sig .tc := ⟨.hbm, 405, rfl⟩
abbrev main_cst_91 : Ref sig .tc := ⟨.hbm, 406, rfl⟩
abbrev main_v269 : Ref sig .tc := ⟨.hbm, 407, rfl⟩
abbrev main_v270 : Ref sig .tc := ⟨.hbm, 408, rfl⟩
abbrev main_v271 : Ref sig .tc := ⟨.hbm, 409, rfl⟩
abbrev main_v272 : Ref sig .tc := ⟨.hbm, 410, rfl⟩
abbrev main_cst_92 : Ref sig .tc := ⟨.hbm, 411, rfl⟩
abbrev main_v273 : Ref sig .tc := ⟨.hbm, 412, rfl⟩
abbrev main_v274 : Ref sig .tc := ⟨.hbm, 413, rfl⟩
abbrev main_cst_93 : Ref sig .tc := ⟨.hbm, 414, rfl⟩
abbrev main_v275 : Ref sig .tc := ⟨.hbm, 415, rfl⟩
abbrev main_v276 : Ref sig .tc := ⟨.hbm, 416, rfl⟩
abbrev main_v277 : Ref sig .tc := ⟨.hbm, 417, rfl⟩
abbrev main_v278 : Ref sig .tc := ⟨.hbm, 418, rfl⟩
abbrev main_cst_94 : Ref sig .tc := ⟨.hbm, 419, rfl⟩
abbrev main_v279 : Ref sig .tc := ⟨.hbm, 420, rfl⟩
abbrev main_v280 : Ref sig .tc := ⟨.hbm, 421, rfl⟩
abbrev main_cst_95 : Ref sig .tc := ⟨.hbm, 422, rfl⟩
abbrev main_v281 : Ref sig .tc := ⟨.hbm, 423, rfl⟩
abbrev main_v282 : Ref sig .tc := ⟨.hbm, 424, rfl⟩
abbrev main_v283 : Ref sig .tc := ⟨.hbm, 425, rfl⟩
abbrev main_cst_96 : Ref sig .tc := ⟨.hbm, 426, rfl⟩
abbrev main_v284 : Ref sig .tc := ⟨.hbm, 427, rfl⟩
abbrev main_v285 : Ref sig .tc := ⟨.hbm, 428, rfl⟩
abbrev main_cst_97 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_v289 : Ref sig .tc := ⟨.hbm, 433, rfl⟩
abbrev main_cst_98 : Ref sig .tc := ⟨.hbm, 434, rfl⟩
abbrev main_v290 : Ref sig .tc := ⟨.hbm, 435, rfl⟩
abbrev main_v291 : Ref sig .tc := ⟨.hbm, 436, rfl⟩
abbrev main_cst_99 : Ref sig .tc := ⟨.hbm, 437, rfl⟩
abbrev main_v292 : Ref sig .tc := ⟨.hbm, 438, rfl⟩
abbrev main_v293 : Ref sig .tc := ⟨.hbm, 439, rfl⟩
abbrev main_v294 : Ref sig .tc := ⟨.hbm, 440, rfl⟩
abbrev main_v295 : Ref sig .tc := ⟨.hbm, 441, rfl⟩
abbrev main_cst_100 : Ref sig .tc := ⟨.hbm, 442, rfl⟩
abbrev main_v296 : Ref sig .tc := ⟨.hbm, 443, rfl⟩
abbrev main_v297 : Ref sig .tc := ⟨.hbm, 444, rfl⟩
abbrev main_v298 : Ref sig .tc := ⟨.hbm, 445, rfl⟩
abbrev main_cst_101 : Ref sig .tc := ⟨.hbm, 446, rfl⟩
abbrev main_v299 : Ref sig .tc := ⟨.hbm, 447, rfl⟩
abbrev main_cst_102 : Ref sig .tc := ⟨.hbm, 448, rfl⟩
abbrev main_v300 : Ref sig .tc := ⟨.hbm, 449, rfl⟩
abbrev main_v301 : Ref sig .tc := ⟨.hbm, 450, rfl⟩
abbrev main_v302 : Ref sig .tc := ⟨.hbm, 451, rfl⟩
abbrev main_v303 : Ref sig .tc := ⟨.hbm, 452, rfl⟩
abbrev main_v304 : Ref sig .tc := ⟨.hbm, 453, rfl⟩
abbrev main_v305 : Ref sig .tc := ⟨.hbm, 454, rfl⟩
abbrev main_v306 : Ref sig .tc := ⟨.hbm, 455, rfl⟩
abbrev main_v307 : Ref sig .tc := ⟨.hbm, 456, rfl⟩
abbrev main_v308 : Ref sig .tc := ⟨.hbm, 457, rfl⟩
abbrev main_v309 : Ref sig .tc := ⟨.hbm, 458, rfl⟩
abbrev main_v310 : Ref sig .tc := ⟨.hbm, 459, rfl⟩
abbrev main_v311 : Ref sig .tc := ⟨.hbm, 460, rfl⟩
abbrev main_v312 : Ref sig .tc := ⟨.hbm, 461, rfl⟩
abbrev main_v313 : Ref sig .tc := ⟨.hbm, 462, rfl⟩
abbrev main_v314 : Ref sig .tc := ⟨.hbm, 463, rfl⟩
abbrev main_v315 : Ref sig .tc := ⟨.hbm, 464, rfl⟩
abbrev main_v316 : Ref sig .tc := ⟨.hbm, 465, rfl⟩
abbrev main_v317 : Ref sig .tc := ⟨.hbm, 466, rfl⟩
abbrev main_cst_103 : Ref sig .tc := ⟨.hbm, 467, rfl⟩
abbrev main_v318 : Ref sig .tc := ⟨.hbm, 468, rfl⟩
abbrev main_cst_104 : Ref sig .tc := ⟨.hbm, 469, rfl⟩
abbrev main_v319 : Ref sig .tc := ⟨.hbm, 470, rfl⟩
abbrev main_v320 : Ref sig .tc := ⟨.hbm, 471, rfl⟩
abbrev main_v321 : Ref sig .tc := ⟨.hbm, 472, rfl⟩
abbrev main_v322 : Ref sig .tc := ⟨.hbm, 473, rfl⟩
abbrev main_v323 : Ref sig .tc := ⟨.hbm, 474, rfl⟩
abbrev main_v324 : Ref sig .tc := ⟨.hbm, 475, rfl⟩
abbrev main_cst_105 : Ref sig .tc := ⟨.hbm, 476, rfl⟩
abbrev main_v325 : Ref sig .tc := ⟨.hbm, 477, rfl⟩
abbrev main_v326 : Ref sig .tc := ⟨.hbm, 478, rfl⟩
abbrev main_v327 : Ref sig .tc := ⟨.hbm, 479, rfl⟩
abbrev main_v328 : Ref sig .tc := ⟨.hbm, 480, rfl⟩
abbrev main_values_106 : Ref sig .tc := ⟨.hbm, 481, rfl⟩
abbrev main_indices_107 : Ref sig .tc := ⟨.hbm, 482, rfl⟩
abbrev main_cst_108 : Ref sig .tc := ⟨.hbm, 483, rfl⟩
abbrev main_v329 : Ref sig .tc := ⟨.hbm, 484, rfl⟩
abbrev main_v330 : Ref sig .tc := ⟨.hbm, 485, rfl⟩
abbrev main_cst_109 : Ref sig .tc := ⟨.hbm, 486, rfl⟩
abbrev main_v331 : Ref sig .tc := ⟨.hbm, 487, rfl⟩
abbrev main_v332 : Ref sig .tc := ⟨.hbm, 488, rfl⟩
abbrev main_v333 : Ref sig .tc := ⟨.hbm, 489, rfl⟩
abbrev main_v334 : Ref sig .tc := ⟨.hbm, 490, rfl⟩
abbrev main_cst_110 : Ref sig .tc := ⟨.hbm, 491, rfl⟩
abbrev main_v335 : Ref sig .tc := ⟨.hbm, 492, rfl⟩
abbrev main_c : Ref sig .tc := ⟨.hbm, 493, rfl⟩
abbrev main_v336 : Ref sig .tc := ⟨.hbm, 494, rfl⟩
abbrev main_v337 : Ref sig .tc := ⟨.hbm, 495, rfl⟩
abbrev main_v338 : Ref sig .tc := ⟨.hbm, 496, rfl⟩
abbrev main_v339 : Ref sig .tc := ⟨.hbm, 497, rfl⟩
abbrev main_cst_111 : Ref sig .tc := ⟨.hbm, 498, rfl⟩
abbrev main_v340 : Ref sig .tc := ⟨.hbm, 499, rfl⟩
abbrev main_v341 : Ref sig .tc := ⟨.hbm, 500, rfl⟩
abbrev main_v342 : Ref sig .tc := ⟨.hbm, 501, rfl⟩
abbrev main_v343 : Ref sig .tc := ⟨.hbm, 502, rfl⟩
abbrev main_v344 : Ref sig .tc := ⟨.hbm, 503, rfl⟩
abbrev main_v345 : Ref sig .tc := ⟨.hbm, 504, rfl⟩
abbrev main_v346 : Ref sig .tc := ⟨.hbm, 505, rfl⟩
abbrev main_v347 : Ref sig .tc := ⟨.hbm, 506, rfl⟩
abbrev main_v348 : Ref sig .tc := ⟨.hbm, 507, rfl⟩
abbrev main_v349 : Ref sig .tc := ⟨.hbm, 508, rfl⟩
abbrev main_call1_cst : Ref sig .tc := ⟨.hbm, 509, rfl⟩
abbrev main_call1_v0 : Ref sig .tc := ⟨.hbm, 510, rfl⟩
abbrev main_v350 : Ref sig .tc := ⟨.hbm, 511, rfl⟩
abbrev main_v351 : Ref sig .tc := ⟨.hbm, 512, rfl⟩
abbrev main_v352 : Ref sig .tc := ⟨.hbm, 513, rfl⟩
abbrev main_v353 : Ref sig .tc := ⟨.hbm, 514, rfl⟩
abbrev main_v354 : Ref sig .tc := ⟨.hbm, 515, rfl⟩
abbrev main_v355 : Ref sig .tc := ⟨.hbm, 516, rfl⟩
abbrev main_v356 : Ref sig .tc := ⟨.hbm, 517, rfl⟩
abbrev main_v357 : Ref sig .tc := ⟨.hbm, 518, rfl⟩
abbrev main_v358 : Ref sig .tc := ⟨.hbm, 519, rfl⟩
abbrev main_v359 : Ref sig .tc := ⟨.hbm, 520, rfl⟩
abbrev main_v360 : Ref sig .tc := ⟨.hbm, 521, rfl⟩
abbrev main_v361 : Ref sig .tc := ⟨.hbm, 522, rfl⟩
abbrev main_c_112 : Ref sig .tc := ⟨.hbm, 523, rfl⟩
abbrev main_v362 : Ref sig .tc := ⟨.hbm, 524, rfl⟩
abbrev main_v363 : Ref sig .tc := ⟨.hbm, 525, rfl⟩
abbrev main_v364 : Ref sig .tc := ⟨.hbm, 526, rfl⟩
abbrev main_v365 : Ref sig .tc := ⟨.hbm, 527, rfl⟩
abbrev main_cst_113 : Ref sig .tc := ⟨.hbm, 528, rfl⟩
abbrev main_v366 : Ref sig .tc := ⟨.hbm, 529, rfl⟩
abbrev main_v367 : Ref sig .tc := ⟨.hbm, 530, rfl⟩
abbrev main_v368 : Ref sig .tc := ⟨.hbm, 531, rfl⟩
abbrev main_v369 : Ref sig .tc := ⟨.hbm, 532, rfl⟩
abbrev main_v370 : Ref sig .tc := ⟨.hbm, 533, rfl⟩
abbrev main_v371 : Ref sig .tc := ⟨.hbm, 534, rfl⟩
abbrev main_v372 : Ref sig .tc := ⟨.hbm, 535, rfl⟩
abbrev main_v373 : Ref sig .tc := ⟨.hbm, 536, rfl⟩
abbrev main_v374 : Ref sig .tc := ⟨.hbm, 537, rfl⟩
abbrev main_v375 : Ref sig .tc := ⟨.hbm, 538, rfl⟩
abbrev main_call2_cst : Ref sig .tc := ⟨.hbm, 539, rfl⟩
abbrev main_call2_v0 : Ref sig .tc := ⟨.hbm, 540, rfl⟩
abbrev main_v376 : Ref sig .tc := ⟨.hbm, 541, rfl⟩
abbrev main_v377 : Ref sig .tc := ⟨.hbm, 542, rfl⟩
abbrev main_v378 : Ref sig .tc := ⟨.hbm, 543, rfl⟩
abbrev main_v379 : Ref sig .tc := ⟨.hbm, 544, rfl⟩
abbrev main_v380 : Ref sig .tc := ⟨.hbm, 545, rfl⟩
abbrev main_v381 : Ref sig .tc := ⟨.hbm, 546, rfl⟩
abbrev main_v382 : Ref sig .tc := ⟨.hbm, 547, rfl⟩
abbrev main_v383 : Ref sig .tc := ⟨.hbm, 548, rfl⟩
abbrev main_v384 : Ref sig .tc := ⟨.hbm, 549, rfl⟩
abbrev main_v385 : Ref sig .tc := ⟨.hbm, 550, rfl⟩
abbrev main_v386 : Ref sig .tc := ⟨.hbm, 551, rfl⟩
abbrev main_v387 : Ref sig .tc := ⟨.hbm, 552, rfl⟩
abbrev main_c_114 : Ref sig .tc := ⟨.hbm, 553, rfl⟩
abbrev main_v388 : Ref sig .tc := ⟨.hbm, 554, rfl⟩
abbrev main_v389 : Ref sig .tc := ⟨.hbm, 555, rfl⟩
abbrev main_v390 : Ref sig .tc := ⟨.hbm, 556, rfl⟩
abbrev main_v391 : Ref sig .tc := ⟨.hbm, 557, rfl⟩
abbrev main_cst_115 : Ref sig .tc := ⟨.hbm, 558, rfl⟩
abbrev main_v392 : Ref sig .tc := ⟨.hbm, 559, rfl⟩
abbrev main_v393 : Ref sig .tc := ⟨.hbm, 560, rfl⟩
abbrev main_v394 : Ref sig .tc := ⟨.hbm, 561, rfl⟩
abbrev main_v395 : Ref sig .tc := ⟨.hbm, 562, rfl⟩
abbrev main_v396 : Ref sig .tc := ⟨.hbm, 563, rfl⟩
abbrev main_v397 : Ref sig .tc := ⟨.hbm, 564, rfl⟩
abbrev main_v398 : Ref sig .tc := ⟨.hbm, 565, rfl⟩
abbrev main_v399 : Ref sig .tc := ⟨.hbm, 566, rfl⟩
abbrev main_v400 : Ref sig .tc := ⟨.hbm, 567, rfl⟩
abbrev main_v401 : Ref sig .tc := ⟨.hbm, 568, rfl⟩
abbrev main_call3_cst : Ref sig .tc := ⟨.hbm, 569, rfl⟩
abbrev main_call3_v0 : Ref sig .tc := ⟨.hbm, 570, rfl⟩
abbrev main_v402 : Ref sig .tc := ⟨.hbm, 571, rfl⟩
abbrev main_v403 : Ref sig .tc := ⟨.hbm, 572, rfl⟩
abbrev main_v404 : Ref sig .tc := ⟨.hbm, 573, rfl⟩
abbrev main_v405 : Ref sig .tc := ⟨.hbm, 574, rfl⟩
abbrev main_v406 : Ref sig .tc := ⟨.hbm, 575, rfl⟩
abbrev main_v407 : Ref sig .tc := ⟨.hbm, 576, rfl⟩
abbrev main_v408 : Ref sig .tc := ⟨.hbm, 577, rfl⟩
abbrev main_v409 : Ref sig .tc := ⟨.hbm, 578, rfl⟩
abbrev main_v410 : Ref sig .tc := ⟨.hbm, 579, rfl⟩
abbrev main_v411 : Ref sig .tc := ⟨.hbm, 580, rfl⟩
abbrev main_v412 : Ref sig .tc := ⟨.hbm, 581, rfl⟩
abbrev main_v413 : Ref sig .tc := ⟨.hbm, 582, rfl⟩
abbrev main_c_116 : Ref sig .tc := ⟨.hbm, 583, rfl⟩
abbrev main_v414 : Ref sig .tc := ⟨.hbm, 584, rfl⟩
abbrev main_v415 : Ref sig .tc := ⟨.hbm, 585, rfl⟩
abbrev main_v416 : Ref sig .tc := ⟨.hbm, 586, rfl⟩
abbrev main_v417 : Ref sig .tc := ⟨.hbm, 587, rfl⟩
abbrev main_cst_117 : Ref sig .tc := ⟨.hbm, 588, rfl⟩
abbrev main_v418 : Ref sig .tc := ⟨.hbm, 589, rfl⟩
abbrev main_v419 : Ref sig .tc := ⟨.hbm, 590, rfl⟩
abbrev main_v420 : Ref sig .tc := ⟨.hbm, 591, rfl⟩
abbrev main_v421 : Ref sig .tc := ⟨.hbm, 592, rfl⟩
abbrev main_v422 : Ref sig .tc := ⟨.hbm, 593, rfl⟩
abbrev main_v423 : Ref sig .tc := ⟨.hbm, 594, rfl⟩
abbrev main_v424 : Ref sig .tc := ⟨.hbm, 595, rfl⟩
abbrev main_v425 : Ref sig .tc := ⟨.hbm, 596, rfl⟩
abbrev main_v426 : Ref sig .tc := ⟨.hbm, 597, rfl⟩
abbrev main_v427 : Ref sig .tc := ⟨.hbm, 598, rfl⟩
abbrev main_call4_cst : Ref sig .tc := ⟨.hbm, 599, rfl⟩
abbrev main_call4_v0 : Ref sig .tc := ⟨.hbm, 600, rfl⟩
abbrev main_v428 : Ref sig .tc := ⟨.hbm, 601, rfl⟩
abbrev main_v429 : Ref sig .tc := ⟨.hbm, 602, rfl⟩
abbrev main_v430 : Ref sig .tc := ⟨.hbm, 603, rfl⟩
abbrev main_v431 : Ref sig .tc := ⟨.hbm, 604, rfl⟩
abbrev main_v432 : Ref sig .tc := ⟨.hbm, 605, rfl⟩
abbrev main_v433 : Ref sig .tc := ⟨.hbm, 606, rfl⟩
abbrev main_v434 : Ref sig .tc := ⟨.hbm, 607, rfl⟩
abbrev main_v435 : Ref sig .tc := ⟨.hbm, 608, rfl⟩
abbrev main_v436 : Ref sig .tc := ⟨.hbm, 609, rfl⟩
abbrev main_v437 : Ref sig .tc := ⟨.hbm, 610, rfl⟩
abbrev main_v438 : Ref sig .tc := ⟨.hbm, 611, rfl⟩
abbrev main_v439 : Ref sig .tc := ⟨.hbm, 612, rfl⟩
abbrev main_c_118 : Ref sig .tc := ⟨.hbm, 613, rfl⟩
abbrev main_v440 : Ref sig .tc := ⟨.hbm, 614, rfl⟩
abbrev main_v441 : Ref sig .tc := ⟨.hbm, 615, rfl⟩
abbrev main_v442 : Ref sig .tc := ⟨.hbm, 616, rfl⟩
abbrev main_v443 : Ref sig .tc := ⟨.hbm, 617, rfl⟩
abbrev main_cst_119 : Ref sig .tc := ⟨.hbm, 618, rfl⟩
abbrev main_v444 : Ref sig .tc := ⟨.hbm, 619, rfl⟩
abbrev main_v445 : Ref sig .tc := ⟨.hbm, 620, rfl⟩
abbrev main_v446 : Ref sig .tc := ⟨.hbm, 621, rfl⟩
abbrev main_v447 : Ref sig .tc := ⟨.hbm, 622, rfl⟩
abbrev main_v448 : Ref sig .tc := ⟨.hbm, 623, rfl⟩
abbrev main_v449 : Ref sig .tc := ⟨.hbm, 624, rfl⟩
abbrev main_v450 : Ref sig .tc := ⟨.hbm, 625, rfl⟩
abbrev main_v451 : Ref sig .tc := ⟨.hbm, 626, rfl⟩
abbrev main_v452 : Ref sig .tc := ⟨.hbm, 627, rfl⟩
abbrev main_v453 : Ref sig .tc := ⟨.hbm, 628, rfl⟩
abbrev main_call5_cst : Ref sig .tc := ⟨.hbm, 629, rfl⟩
abbrev main_call5_v0 : Ref sig .tc := ⟨.hbm, 630, rfl⟩
abbrev main_v454 : Ref sig .tc := ⟨.hbm, 631, rfl⟩
abbrev main_v455 : Ref sig .tc := ⟨.hbm, 632, rfl⟩
abbrev main_v456 : Ref sig .tc := ⟨.hbm, 633, rfl⟩
abbrev main_v457 : Ref sig .tc := ⟨.hbm, 634, rfl⟩
abbrev main_v458 : Ref sig .tc := ⟨.hbm, 635, rfl⟩
abbrev main_v459 : Ref sig .tc := ⟨.hbm, 636, rfl⟩
abbrev main_v460 : Ref sig .tc := ⟨.hbm, 637, rfl⟩
abbrev main_v461 : Ref sig .tc := ⟨.hbm, 638, rfl⟩
abbrev main_v462 : Ref sig .tc := ⟨.hbm, 639, rfl⟩
abbrev main_v463 : Ref sig .tc := ⟨.hbm, 640, rfl⟩
abbrev main_v464 : Ref sig .tc := ⟨.hbm, 641, rfl⟩
abbrev main_v465 : Ref sig .tc := ⟨.hbm, 642, rfl⟩
abbrev main_c_120 : Ref sig .tc := ⟨.hbm, 643, rfl⟩
abbrev main_v466 : Ref sig .tc := ⟨.hbm, 644, rfl⟩
abbrev main_v467 : Ref sig .tc := ⟨.hbm, 645, rfl⟩
abbrev main_v468 : Ref sig .tc := ⟨.hbm, 646, rfl⟩
abbrev main_v469 : Ref sig .tc := ⟨.hbm, 647, rfl⟩
abbrev main_cst_121 : Ref sig .tc := ⟨.hbm, 648, rfl⟩
abbrev main_v470 : Ref sig .tc := ⟨.hbm, 649, rfl⟩
abbrev main_v471 : Ref sig .tc := ⟨.hbm, 650, rfl⟩
abbrev main_v472 : Ref sig .tc := ⟨.hbm, 651, rfl⟩
abbrev main_v473 : Ref sig .tc := ⟨.hbm, 652, rfl⟩
abbrev main_v474 : Ref sig .tc := ⟨.hbm, 653, rfl⟩
abbrev main_v475 : Ref sig .tc := ⟨.hbm, 654, rfl⟩
abbrev main_v476 : Ref sig .tc := ⟨.hbm, 655, rfl⟩
abbrev main_v477 : Ref sig .tc := ⟨.hbm, 656, rfl⟩
abbrev main_v478 : Ref sig .tc := ⟨.hbm, 657, rfl⟩
abbrev main_v479 : Ref sig .tc := ⟨.hbm, 658, rfl⟩
abbrev main_call6_cst : Ref sig .tc := ⟨.hbm, 659, rfl⟩
abbrev main_call6_v0 : Ref sig .tc := ⟨.hbm, 660, rfl⟩
abbrev main_v480 : Ref sig .tc := ⟨.hbm, 661, rfl⟩
abbrev main_v481 : Ref sig .tc := ⟨.hbm, 662, rfl⟩
abbrev main_v482 : Ref sig .tc := ⟨.hbm, 663, rfl⟩
abbrev main_v483 : Ref sig .tc := ⟨.hbm, 664, rfl⟩
abbrev main_v484 : Ref sig .tc := ⟨.hbm, 665, rfl⟩
abbrev main_v485 : Ref sig .tc := ⟨.hbm, 666, rfl⟩
abbrev main_v486 : Ref sig .tc := ⟨.hbm, 667, rfl⟩
abbrev main_v487 : Ref sig .tc := ⟨.hbm, 668, rfl⟩
abbrev main_v488 : Ref sig .tc := ⟨.hbm, 669, rfl⟩
abbrev main_v489 : Ref sig .tc := ⟨.hbm, 670, rfl⟩
abbrev main_v490 : Ref sig .tc := ⟨.hbm, 671, rfl⟩
abbrev main_v491 : Ref sig .tc := ⟨.hbm, 672, rfl⟩
abbrev main_c_122 : Ref sig .tc := ⟨.hbm, 673, rfl⟩
abbrev main_v492 : Ref sig .tc := ⟨.hbm, 674, rfl⟩
abbrev main_v493 : Ref sig .tc := ⟨.hbm, 675, rfl⟩
abbrev main_v494 : Ref sig .tc := ⟨.hbm, 676, rfl⟩
abbrev main_v495 : Ref sig .tc := ⟨.hbm, 677, rfl⟩
abbrev main_cst_123 : Ref sig .tc := ⟨.hbm, 678, rfl⟩
abbrev main_v496 : Ref sig .tc := ⟨.hbm, 679, rfl⟩
abbrev main_v497 : Ref sig .tc := ⟨.hbm, 680, rfl⟩
abbrev main_v498 : Ref sig .tc := ⟨.hbm, 681, rfl⟩
abbrev main_v499 : Ref sig .tc := ⟨.hbm, 682, rfl⟩
abbrev main_v500 : Ref sig .tc := ⟨.hbm, 683, rfl⟩
abbrev main_v501 : Ref sig .tc := ⟨.hbm, 684, rfl⟩
abbrev main_v502 : Ref sig .tc := ⟨.hbm, 685, rfl⟩
abbrev main_v503 : Ref sig .tc := ⟨.hbm, 686, rfl⟩
abbrev main_v504 : Ref sig .tc := ⟨.hbm, 687, rfl⟩
abbrev main_v505 : Ref sig .tc := ⟨.hbm, 688, rfl⟩
abbrev main_call7_cst : Ref sig .tc := ⟨.hbm, 689, rfl⟩
abbrev main_call7_v0 : Ref sig .tc := ⟨.hbm, 690, rfl⟩
abbrev main_v506 : Ref sig .tc := ⟨.hbm, 691, rfl⟩
abbrev main_v507 : Ref sig .tc := ⟨.hbm, 692, rfl⟩
abbrev main_v508 : Ref sig .tc := ⟨.hbm, 693, rfl⟩
abbrev main_v509 : Ref sig .tc := ⟨.hbm, 694, rfl⟩
abbrev main_v510 : Ref sig .tc := ⟨.hbm, 695, rfl⟩
abbrev main_v511 : Ref sig .tc := ⟨.hbm, 696, rfl⟩
abbrev main_v512 : Ref sig .tc := ⟨.hbm, 697, rfl⟩
abbrev main_v513 : Ref sig .tc := ⟨.hbm, 698, rfl⟩
abbrev main_v514 : Ref sig .tc := ⟨.hbm, 699, rfl⟩
abbrev main_v515 : Ref sig .tc := ⟨.hbm, 700, rfl⟩
abbrev main_v516 : Ref sig .tc := ⟨.hbm, 701, rfl⟩
abbrev main_v517 : Ref sig .tc := ⟨.hbm, 702, rfl⟩
abbrev main_c_124 : Ref sig .tc := ⟨.hbm, 703, rfl⟩
abbrev main_v518 : Ref sig .tc := ⟨.hbm, 704, rfl⟩
abbrev main_v519 : Ref sig .tc := ⟨.hbm, 705, rfl⟩
abbrev main_v520 : Ref sig .tc := ⟨.hbm, 706, rfl⟩
abbrev main_v521 : Ref sig .tc := ⟨.hbm, 707, rfl⟩
abbrev main_cst_125 : Ref sig .tc := ⟨.hbm, 708, rfl⟩
abbrev main_v522 : Ref sig .tc := ⟨.hbm, 709, rfl⟩
abbrev main_v523 : Ref sig .tc := ⟨.hbm, 710, rfl⟩
abbrev main_v524 : Ref sig .tc := ⟨.hbm, 711, rfl⟩
abbrev main_v525 : Ref sig .tc := ⟨.hbm, 712, rfl⟩
abbrev main_v526 : Ref sig .tc := ⟨.hbm, 713, rfl⟩
abbrev main_v527 : Ref sig .tc := ⟨.hbm, 714, rfl⟩
abbrev main_v528 : Ref sig .tc := ⟨.hbm, 715, rfl⟩
abbrev main_v529 : Ref sig .tc := ⟨.hbm, 716, rfl⟩
abbrev main_v530 : Ref sig .tc := ⟨.hbm, 717, rfl⟩
abbrev main_v531 : Ref sig .tc := ⟨.hbm, 718, rfl⟩
abbrev main_call8_cst : Ref sig .tc := ⟨.hbm, 719, rfl⟩
abbrev main_call8_v0 : Ref sig .tc := ⟨.hbm, 720, rfl⟩
abbrev main_v532 : Ref sig .tc := ⟨.hbm, 721, rfl⟩
abbrev main_v533 : Ref sig .tc := ⟨.hbm, 722, rfl⟩
abbrev main_v534 : Ref sig .tc := ⟨.hbm, 723, rfl⟩
abbrev main_v535 : Ref sig .tc := ⟨.hbm, 724, rfl⟩
abbrev main_v536 : Ref sig .tc := ⟨.hbm, 725, rfl⟩
abbrev main_v537 : Ref sig .tc := ⟨.hbm, 726, rfl⟩
abbrev main_v538 : Ref sig .tc := ⟨.hbm, 727, rfl⟩
abbrev main_v539 : Ref sig .tc := ⟨.hbm, 728, rfl⟩
abbrev main_v540 : Ref sig .tc := ⟨.hbm, 729, rfl⟩
abbrev main_v541 : Ref sig .tc := ⟨.hbm, 730, rfl⟩
abbrev main_v542 : Ref sig .tc := ⟨.hbm, 731, rfl⟩
abbrev main_v543 : Ref sig .tc := ⟨.hbm, 732, rfl⟩
abbrev main_v544 : Ref sig .tc := ⟨.hbm, 733, rfl⟩
abbrev main_v545 : Ref sig .tc := ⟨.hbm, 734, rfl⟩
abbrev main_v546 : Ref sig .tc := ⟨.hbm, 735, rfl⟩
abbrev main_v547 : Ref sig .tc := ⟨.hbm, 736, rfl⟩
abbrev main_v548 : Ref sig .tc := ⟨.hbm, 737, rfl⟩
abbrev main_v549 : Ref sig .tc := ⟨.hbm, 738, rfl⟩
abbrev main_cst_126 : Ref sig .tc := ⟨.hbm, 739, rfl⟩
abbrev main_v550 : Ref sig .tc := ⟨.hbm, 740, rfl⟩
abbrev main_v551 : Ref sig .tc := ⟨.hbm, 741, rfl⟩
abbrev main_cst_127 : Ref sig .tc := ⟨.hbm, 742, rfl⟩
abbrev main_v552 : Ref sig .tc := ⟨.hbm, 743, rfl⟩
abbrev main_v553 : Ref sig .tc := ⟨.hbm, 744, rfl⟩
abbrev main_v554 : Ref sig .tc := ⟨.hbm, 745, rfl⟩
abbrev main_v555 : Ref sig .tc := ⟨.hbm, 746, rfl⟩
abbrev main_v556 : Ref sig .tc := ⟨.hbm, 747, rfl⟩
abbrev main_cst_128 : Ref sig .tc := ⟨.hbm, 748, rfl⟩
abbrev main_v557 : Ref sig .tc := ⟨.hbm, 749, rfl⟩
abbrev main_cst_129 : Ref sig .tc := ⟨.hbm, 750, rfl⟩
abbrev main_v558 : Ref sig .tc := ⟨.hbm, 751, rfl⟩
abbrev main_v559 : Ref sig .tc := ⟨.hbm, 752, rfl⟩
abbrev main_v560 : Ref sig .tc := ⟨.hbm, 753, rfl⟩
abbrev main_v561 : Ref sig .tc := ⟨.hbm, 754, rfl⟩
abbrev main_v562 : Ref sig .tc := ⟨.hbm, 755, rfl⟩
abbrev main_v563 : Ref sig .tc := ⟨.hbm, 756, rfl⟩
abbrev main_v564 : Ref sig .tc := ⟨.hbm, 757, rfl⟩
abbrev main_v565 : Ref sig .tc := ⟨.hbm, 758, rfl⟩
abbrev main_v566 : Ref sig .tc := ⟨.hbm, 759, rfl⟩
abbrev main_cst_130 : Ref sig .tc := ⟨.hbm, 760, rfl⟩
abbrev main_v567 : Ref sig .tc := ⟨.hbm, 761, rfl⟩
abbrev main_cst_131 : Ref sig .tc := ⟨.hbm, 762, rfl⟩
abbrev main_v568 : Ref sig .tc := ⟨.hbm, 763, rfl⟩
abbrev main_cst_132 : Ref sig .tc := ⟨.hbm, 764, rfl⟩
abbrev main_v569 : Ref sig .tc := ⟨.hbm, 765, rfl⟩
abbrev main_v570 : Ref sig .tc := ⟨.hbm, 766, rfl⟩
abbrev main_cst_133 : Ref sig .tc := ⟨.hbm, 767, rfl⟩
abbrev main_v571 : Ref sig .tc := ⟨.hbm, 768, rfl⟩
abbrev main_v572 : Ref sig .tc := ⟨.hbm, 769, rfl⟩
abbrev main_v573 : Ref sig .tc := ⟨.hbm, 770, rfl⟩
abbrev main_cst_134 : Ref sig .tc := ⟨.hbm, 771, rfl⟩
abbrev main_v574 : Ref sig .tc := ⟨.hbm, 772, rfl⟩
abbrev main_v575 : Ref sig .tc := ⟨.hbm, 773, rfl⟩
abbrev main_cst_135 : Ref sig .tc := ⟨.hbm, 774, rfl⟩
abbrev main_v576 : Ref sig .tc := ⟨.hbm, 775, rfl⟩
abbrev main_v577 : Ref sig .tc := ⟨.hbm, 776, rfl⟩
abbrev main_v578 : Ref sig .tc := ⟨.hbm, 777, rfl⟩
abbrev main_v579 : Ref sig .tc := ⟨.hbm, 778, rfl⟩
abbrev main_cst_136 : Ref sig .tc := ⟨.hbm, 779, rfl⟩
abbrev main_v580 : Ref sig .tc := ⟨.hbm, 780, rfl⟩
abbrev main_v581 : Ref sig .tc := ⟨.hbm, 781, rfl⟩
abbrev main_cst_137 : Ref sig .tc := ⟨.hbm, 782, rfl⟩
abbrev main_v582 : Ref sig .tc := ⟨.hbm, 783, rfl⟩
abbrev main_v583 : Ref sig .tc := ⟨.hbm, 784, rfl⟩
abbrev main_v584 : Ref sig .tc := ⟨.hbm, 785, rfl⟩
abbrev main_v585 : Ref sig .tc := ⟨.hbm, 786, rfl⟩
abbrev main_cst_138 : Ref sig .tc := ⟨.hbm, 787, rfl⟩
abbrev main_v586 : Ref sig .tc := ⟨.hbm, 788, rfl⟩
abbrev main_v587 : Ref sig .tc := ⟨.hbm, 789, rfl⟩
abbrev main_cst_139 : Ref sig .tc := ⟨.hbm, 790, rfl⟩
abbrev main_v588 : Ref sig .tc := ⟨.hbm, 791, rfl⟩
abbrev main_v589 : Ref sig .tc := ⟨.hbm, 792, rfl⟩
abbrev main_v590 : Ref sig .tc := ⟨.hbm, 793, rfl⟩
abbrev main_cst_140 : Ref sig .tc := ⟨.hbm, 794, rfl⟩
abbrev main_v591 : Ref sig .tc := ⟨.hbm, 795, rfl⟩
abbrev main_v592 : Ref sig .tc := ⟨.hbm, 796, rfl⟩
abbrev main_cst_141 : Ref sig .tc := ⟨.hbm, 797, rfl⟩
abbrev main_v593 : Ref sig .tc := ⟨.hbm, 798, rfl⟩
abbrev main_v594 : Ref sig .tc := ⟨.hbm, 799, rfl⟩
abbrev main_v595 : Ref sig .tc := ⟨.hbm, 800, rfl⟩
abbrev main_v596 : Ref sig .tc := ⟨.hbm, 801, rfl⟩
abbrev main_cst_142 : Ref sig .tc := ⟨.hbm, 802, rfl⟩
abbrev main_v597 : Ref sig .tc := ⟨.hbm, 803, rfl⟩
abbrev main_v598 : Ref sig .tc := ⟨.hbm, 804, rfl⟩
abbrev main_cst_143 : Ref sig .tc := ⟨.hbm, 805, rfl⟩
abbrev main_v599 : Ref sig .tc := ⟨.hbm, 806, rfl⟩
abbrev main_v600 : Ref sig .tc := ⟨.hbm, 807, rfl⟩
abbrev main_v601 : Ref sig .tc := ⟨.hbm, 808, rfl⟩
abbrev main_v602 : Ref sig .tc := ⟨.hbm, 809, rfl⟩
abbrev main_cst_144 : Ref sig .tc := ⟨.hbm, 810, rfl⟩
abbrev main_v603 : Ref sig .tc := ⟨.hbm, 811, rfl⟩
abbrev main_v604 : Ref sig .tc := ⟨.hbm, 812, rfl⟩
abbrev main_cst_145 : Ref sig .tc := ⟨.hbm, 813, rfl⟩
abbrev main_v605 : Ref sig .tc := ⟨.hbm, 814, rfl⟩
abbrev main_v606 : Ref sig .tc := ⟨.hbm, 815, rfl⟩
abbrev main_v607 : Ref sig .tc := ⟨.hbm, 816, rfl⟩
abbrev main_cst_146 : Ref sig .tc := ⟨.hbm, 817, rfl⟩
abbrev main_v608 : Ref sig .tc := ⟨.hbm, 818, rfl⟩
abbrev main_v609 : Ref sig .tc := ⟨.hbm, 819, rfl⟩
abbrev main_cst_147 : Ref sig .tc := ⟨.hbm, 820, rfl⟩
abbrev main_v610 : Ref sig .tc := ⟨.hbm, 821, rfl⟩
abbrev main_v611 : Ref sig .tc := ⟨.hbm, 822, rfl⟩
abbrev main_v612 : Ref sig .tc := ⟨.hbm, 823, rfl⟩
abbrev main_v613 : Ref sig .tc := ⟨.hbm, 824, rfl⟩
abbrev main_cst_148 : Ref sig .tc := ⟨.hbm, 825, rfl⟩
abbrev main_v614 : Ref sig .tc := ⟨.hbm, 826, rfl⟩
abbrev main_v615 : Ref sig .tc := ⟨.hbm, 827, rfl⟩
abbrev main_cst_149 : Ref sig .tc := ⟨.hbm, 828, rfl⟩
abbrev main_v616 : Ref sig .tc := ⟨.hbm, 829, rfl⟩
abbrev main_v617 : Ref sig .tc := ⟨.hbm, 830, rfl⟩
abbrev main_v618 : Ref sig .tc := ⟨.hbm, 831, rfl⟩
abbrev main_v619 : Ref sig .tc := ⟨.hbm, 832, rfl⟩
abbrev main_cst_150 : Ref sig .tc := ⟨.hbm, 833, rfl⟩
abbrev main_v620 : Ref sig .tc := ⟨.hbm, 834, rfl⟩
abbrev main_v621 : Ref sig .tc := ⟨.hbm, 835, rfl⟩
abbrev main_cst_151 : Ref sig .tc := ⟨.hbm, 836, rfl⟩
abbrev main_v622 : Ref sig .tc := ⟨.hbm, 837, rfl⟩
abbrev main_v623 : Ref sig .tc := ⟨.hbm, 838, rfl⟩
abbrev main_v624 : Ref sig .tc := ⟨.hbm, 839, rfl⟩
abbrev main_cst_152 : Ref sig .tc := ⟨.hbm, 840, rfl⟩
abbrev main_v625 : Ref sig .tc := ⟨.hbm, 841, rfl⟩
abbrev main_v626 : Ref sig .tc := ⟨.hbm, 842, rfl⟩
abbrev main_cst_153 : Ref sig .tc := ⟨.hbm, 843, rfl⟩
abbrev main_v627 : Ref sig .tc := ⟨.hbm, 844, rfl⟩
abbrev main_v628 : Ref sig .tc := ⟨.hbm, 845, rfl⟩
abbrev main_v629 : Ref sig .tc := ⟨.hbm, 846, rfl⟩
abbrev main_v630 : Ref sig .tc := ⟨.hbm, 847, rfl⟩
abbrev main_cst_154 : Ref sig .tc := ⟨.hbm, 848, rfl⟩
abbrev main_v631 : Ref sig .tc := ⟨.hbm, 849, rfl⟩
abbrev main_v632 : Ref sig .tc := ⟨.hbm, 850, rfl⟩
abbrev main_cst_155 : Ref sig .tc := ⟨.hbm, 851, rfl⟩
abbrev main_v633 : Ref sig .tc := ⟨.hbm, 852, rfl⟩
abbrev main_v634 : Ref sig .tc := ⟨.hbm, 853, rfl⟩
abbrev main_v635 : Ref sig .tc := ⟨.hbm, 854, rfl⟩
abbrev main_v636 : Ref sig .tc := ⟨.hbm, 855, rfl⟩
abbrev main_cst_156 : Ref sig .tc := ⟨.hbm, 856, rfl⟩
abbrev main_v637 : Ref sig .tc := ⟨.hbm, 857, rfl⟩
abbrev main_v638 : Ref sig .tc := ⟨.hbm, 858, rfl⟩
abbrev main_cst_157 : Ref sig .tc := ⟨.hbm, 859, rfl⟩
abbrev main_v639 : Ref sig .tc := ⟨.hbm, 860, rfl⟩
abbrev main_v640 : Ref sig .tc := ⟨.hbm, 861, rfl⟩
abbrev main_v641 : Ref sig .tc := ⟨.hbm, 862, rfl⟩
abbrev main_cst_158 : Ref sig .tc := ⟨.hbm, 863, rfl⟩
abbrev main_v642 : Ref sig .tc := ⟨.hbm, 864, rfl⟩
abbrev main_v643 : Ref sig .tc := ⟨.hbm, 865, rfl⟩
abbrev main_cst_159 : Ref sig .tc := ⟨.hbm, 866, rfl⟩
abbrev main_v644 : Ref sig .tc := ⟨.hbm, 867, rfl⟩
abbrev main_v645 : Ref sig .tc := ⟨.hbm, 868, rfl⟩
abbrev main_v646 : Ref sig .tc := ⟨.hbm, 869, rfl⟩
abbrev main_v647 : Ref sig .tc := ⟨.hbm, 870, rfl⟩
abbrev main_cst_160 : Ref sig .tc := ⟨.hbm, 871, rfl⟩
abbrev main_v648 : Ref sig .tc := ⟨.hbm, 872, rfl⟩
abbrev main_v649 : Ref sig .tc := ⟨.hbm, 873, rfl⟩
abbrev main_cst_161 : Ref sig .tc := ⟨.hbm, 874, rfl⟩
abbrev main_v650 : Ref sig .tc := ⟨.hbm, 875, rfl⟩
abbrev main_v651 : Ref sig .tc := ⟨.hbm, 876, rfl⟩
abbrev main_v652 : Ref sig .tc := ⟨.hbm, 877, rfl⟩
abbrev main_v653 : Ref sig .tc := ⟨.hbm, 878, rfl⟩
abbrev main_cst_162 : Ref sig .tc := ⟨.hbm, 879, rfl⟩
abbrev main_v654 : Ref sig .tc := ⟨.hbm, 880, rfl⟩
abbrev main_v655 : Ref sig .tc := ⟨.hbm, 881, rfl⟩
abbrev main_cst_163 : Ref sig .tc := ⟨.hbm, 882, rfl⟩
abbrev main_v656 : Ref sig .tc := ⟨.hbm, 883, rfl⟩
abbrev main_v657 : Ref sig .tc := ⟨.hbm, 884, rfl⟩
abbrev main_v658 : Ref sig .tc := ⟨.hbm, 885, rfl⟩
abbrev main_cst_164 : Ref sig .tc := ⟨.hbm, 886, rfl⟩
abbrev main_v659 : Ref sig .tc := ⟨.hbm, 887, rfl⟩
abbrev main_v660 : Ref sig .tc := ⟨.hbm, 888, rfl⟩
abbrev main_cst_165 : Ref sig .tc := ⟨.hbm, 889, rfl⟩
abbrev main_v661 : Ref sig .tc := ⟨.hbm, 890, rfl⟩
abbrev main_v662 : Ref sig .tc := ⟨.hbm, 891, rfl⟩
abbrev main_v663 : Ref sig .tc := ⟨.hbm, 892, rfl⟩
abbrev main_v664 : Ref sig .tc := ⟨.hbm, 893, rfl⟩
abbrev main_cst_166 : Ref sig .tc := ⟨.hbm, 894, rfl⟩
abbrev main_v665 : Ref sig .tc := ⟨.hbm, 895, rfl⟩
abbrev main_v666 : Ref sig .tc := ⟨.hbm, 896, rfl⟩
abbrev main_cst_167 : Ref sig .tc := ⟨.hbm, 897, rfl⟩
abbrev main_v667 : Ref sig .tc := ⟨.hbm, 898, rfl⟩
abbrev main_v668 : Ref sig .tc := ⟨.hbm, 899, rfl⟩
abbrev main_v669 : Ref sig .tc := ⟨.hbm, 900, rfl⟩
abbrev main_v670 : Ref sig .tc := ⟨.hbm, 901, rfl⟩
abbrev main_cst_168 : Ref sig .tc := ⟨.hbm, 902, rfl⟩
abbrev main_v671 : Ref sig .tc := ⟨.hbm, 903, rfl⟩
abbrev main_v672 : Ref sig .tc := ⟨.hbm, 904, rfl⟩
abbrev main_cst_169 : Ref sig .tc := ⟨.hbm, 905, rfl⟩
abbrev main_v673 : Ref sig .tc := ⟨.hbm, 906, rfl⟩
abbrev main_v674 : Ref sig .tc := ⟨.hbm, 907, rfl⟩
abbrev main_v675 : Ref sig .tc := ⟨.hbm, 908, rfl⟩
abbrev main_cst_170 : Ref sig .tc := ⟨.hbm, 909, rfl⟩
abbrev main_v676 : Ref sig .tc := ⟨.hbm, 910, rfl⟩
abbrev main_v677 : Ref sig .tc := ⟨.hbm, 911, rfl⟩
abbrev main_cst_171 : Ref sig .tc := ⟨.hbm, 912, rfl⟩
abbrev main_v678 : Ref sig .tc := ⟨.hbm, 913, rfl⟩
abbrev main_v679 : Ref sig .tc := ⟨.hbm, 914, rfl⟩
abbrev main_v680 : Ref sig .tc := ⟨.hbm, 915, rfl⟩
abbrev main_v681 : Ref sig .tc := ⟨.hbm, 916, rfl⟩
abbrev main_cst_172 : Ref sig .tc := ⟨.hbm, 917, rfl⟩
abbrev main_v682 : Ref sig .tc := ⟨.hbm, 918, rfl⟩
abbrev main_v683 : Ref sig .tc := ⟨.hbm, 919, rfl⟩
abbrev main_cst_173 : Ref sig .tc := ⟨.hbm, 920, rfl⟩
abbrev main_v684 : Ref sig .tc := ⟨.hbm, 921, rfl⟩
abbrev main_v685 : Ref sig .tc := ⟨.hbm, 922, rfl⟩
abbrev main_v686 : Ref sig .tc := ⟨.hbm, 923, rfl⟩
abbrev main_v687 : Ref sig .tc := ⟨.hbm, 924, rfl⟩
abbrev main_cst_174 : Ref sig .tc := ⟨.hbm, 925, rfl⟩
abbrev main_v688 : Ref sig .tc := ⟨.hbm, 926, rfl⟩
abbrev main_v689 : Ref sig .tc := ⟨.hbm, 927, rfl⟩
abbrev main_cst_175 : Ref sig .tc := ⟨.hbm, 928, rfl⟩
abbrev main_v690 : Ref sig .tc := ⟨.hbm, 929, rfl⟩
abbrev main_v691 : Ref sig .tc := ⟨.hbm, 930, rfl⟩
abbrev main_v692 : Ref sig .tc := ⟨.hbm, 931, rfl⟩
abbrev main_cst_176 : Ref sig .tc := ⟨.hbm, 932, rfl⟩
abbrev main_v693 : Ref sig .tc := ⟨.hbm, 933, rfl⟩
abbrev main_v694 : Ref sig .tc := ⟨.hbm, 934, rfl⟩
abbrev main_cst_177 : Ref sig .tc := ⟨.hbm, 935, rfl⟩
abbrev main_v695 : Ref sig .tc := ⟨.hbm, 936, rfl⟩
abbrev main_v696 : Ref sig .tc := ⟨.hbm, 937, rfl⟩
abbrev main_v697 : Ref sig .tc := ⟨.hbm, 938, rfl⟩
abbrev main_v698 : Ref sig .tc := ⟨.hbm, 939, rfl⟩
abbrev main_cst_178 : Ref sig .tc := ⟨.hbm, 940, rfl⟩
abbrev main_v699 : Ref sig .tc := ⟨.hbm, 941, rfl⟩
abbrev main_v700 : Ref sig .tc := ⟨.hbm, 942, rfl⟩
abbrev main_cst_179 : Ref sig .tc := ⟨.hbm, 943, rfl⟩
abbrev main_v701 : Ref sig .tc := ⟨.hbm, 944, rfl⟩
abbrev main_v702 : Ref sig .tc := ⟨.hbm, 945, rfl⟩
abbrev main_v703 : Ref sig .tc := ⟨.hbm, 946, rfl⟩
abbrev main_v704 : Ref sig .tc := ⟨.hbm, 947, rfl⟩
abbrev main_cst_180 : Ref sig .tc := ⟨.hbm, 948, rfl⟩
abbrev main_v705 : Ref sig .tc := ⟨.hbm, 949, rfl⟩
abbrev main_v706 : Ref sig .tc := ⟨.hbm, 950, rfl⟩
abbrev main_cst_181 : Ref sig .tc := ⟨.hbm, 951, rfl⟩
abbrev main_v707 : Ref sig .tc := ⟨.hbm, 952, rfl⟩
abbrev main_v708 : Ref sig .tc := ⟨.hbm, 953, rfl⟩
abbrev main_v709 : Ref sig .tc := ⟨.hbm, 954, rfl⟩
abbrev main_cst_182 : Ref sig .tc := ⟨.hbm, 955, rfl⟩
abbrev main_v710 : Ref sig .tc := ⟨.hbm, 956, rfl⟩
abbrev main_v711 : Ref sig .tc := ⟨.hbm, 957, rfl⟩
abbrev main_cst_183 : Ref sig .tc := ⟨.hbm, 958, rfl⟩
abbrev main_v712 : Ref sig .tc := ⟨.hbm, 959, rfl⟩
abbrev main_v713 : Ref sig .tc := ⟨.hbm, 960, rfl⟩
abbrev main_v714 : Ref sig .tc := ⟨.hbm, 961, rfl⟩
abbrev main_v715 : Ref sig .tc := ⟨.hbm, 962, rfl⟩
abbrev main_cst_184 : Ref sig .tc := ⟨.hbm, 963, rfl⟩
abbrev main_v716 : Ref sig .tc := ⟨.hbm, 964, rfl⟩
abbrev main_v717 : Ref sig .tc := ⟨.hbm, 965, rfl⟩
abbrev main_cst_185 : Ref sig .tc := ⟨.hbm, 966, rfl⟩
abbrev main_v718 : Ref sig .tc := ⟨.hbm, 967, rfl⟩
abbrev main_v719 : Ref sig .tc := ⟨.hbm, 968, rfl⟩
abbrev main_v720 : Ref sig .tc := ⟨.hbm, 969, rfl⟩
abbrev main_v721 : Ref sig .tc := ⟨.hbm, 970, rfl⟩
abbrev main_cst_186 : Ref sig .tc := ⟨.hbm, 971, rfl⟩
abbrev main_v722 : Ref sig .tc := ⟨.hbm, 972, rfl⟩
abbrev main_v723 : Ref sig .tc := ⟨.hbm, 973, rfl⟩
abbrev main_cst_187 : Ref sig .tc := ⟨.hbm, 974, rfl⟩
abbrev main_v724 : Ref sig .tc := ⟨.hbm, 975, rfl⟩
abbrev main_v725 : Ref sig .tc := ⟨.hbm, 976, rfl⟩
abbrev main_v726 : Ref sig .tc := ⟨.hbm, 977, rfl⟩
abbrev main_cst_188 : Ref sig .tc := ⟨.hbm, 978, rfl⟩
abbrev main_v727 : Ref sig .tc := ⟨.hbm, 979, rfl⟩
abbrev main_v728 : Ref sig .tc := ⟨.hbm, 980, rfl⟩
abbrev main_cst_189 : Ref sig .tc := ⟨.hbm, 981, rfl⟩
abbrev main_v729 : Ref sig .tc := ⟨.hbm, 982, rfl⟩
abbrev main_v730 : Ref sig .tc := ⟨.hbm, 983, rfl⟩
abbrev main_v731 : Ref sig .tc := ⟨.hbm, 984, rfl⟩
abbrev main_v732 : Ref sig .tc := ⟨.hbm, 985, rfl⟩
abbrev main_cst_190 : Ref sig .tc := ⟨.hbm, 986, rfl⟩
abbrev main_v733 : Ref sig .tc := ⟨.hbm, 987, rfl⟩
abbrev main_v734 : Ref sig .tc := ⟨.hbm, 988, rfl⟩
abbrev main_cst_191 : Ref sig .tc := ⟨.hbm, 989, rfl⟩
abbrev main_v735 : Ref sig .tc := ⟨.hbm, 990, rfl⟩
abbrev main_v736 : Ref sig .tc := ⟨.hbm, 991, rfl⟩
abbrev main_v737 : Ref sig .tc := ⟨.hbm, 992, rfl⟩
abbrev main_v738 : Ref sig .tc := ⟨.hbm, 993, rfl⟩
abbrev main_cst_192 : Ref sig .tc := ⟨.hbm, 994, rfl⟩
abbrev main_v739 : Ref sig .tc := ⟨.hbm, 995, rfl⟩
abbrev main_v740 : Ref sig .tc := ⟨.hbm, 996, rfl⟩
abbrev main_cst_193 : Ref sig .tc := ⟨.hbm, 997, rfl⟩
abbrev main_v741 : Ref sig .tc := ⟨.hbm, 998, rfl⟩
abbrev main_v742 : Ref sig .tc := ⟨.hbm, 999, rfl⟩
abbrev main_v743 : Ref sig .tc := ⟨.hbm, 1000, rfl⟩
abbrev main_cst_194 : Ref sig .tc := ⟨.hbm, 1001, rfl⟩
abbrev main_v744 : Ref sig .tc := ⟨.hbm, 1002, rfl⟩
abbrev main_v745 : Ref sig .tc := ⟨.hbm, 1003, rfl⟩
abbrev main_cst_195 : Ref sig .tc := ⟨.hbm, 1004, rfl⟩
abbrev main_v746 : Ref sig .tc := ⟨.hbm, 1005, rfl⟩
abbrev main_v747 : Ref sig .tc := ⟨.hbm, 1006, rfl⟩
abbrev main_v748 : Ref sig .tc := ⟨.hbm, 1007, rfl⟩
abbrev main_v749 : Ref sig .tc := ⟨.hbm, 1008, rfl⟩
abbrev main_cst_196 : Ref sig .tc := ⟨.hbm, 1009, rfl⟩
abbrev main_v750 : Ref sig .tc := ⟨.hbm, 1010, rfl⟩
abbrev main_v751 : Ref sig .tc := ⟨.hbm, 1011, rfl⟩
abbrev main_cst_197 : Ref sig .tc := ⟨.hbm, 1012, rfl⟩
abbrev main_v752 : Ref sig .tc := ⟨.hbm, 1013, rfl⟩
abbrev main_v753 : Ref sig .tc := ⟨.hbm, 1014, rfl⟩
abbrev main_v754 : Ref sig .tc := ⟨.hbm, 1015, rfl⟩
abbrev main_v755 : Ref sig .tc := ⟨.hbm, 1016, rfl⟩
abbrev main_cst_198 : Ref sig .tc := ⟨.hbm, 1017, rfl⟩
abbrev main_v756 : Ref sig .tc := ⟨.hbm, 1018, rfl⟩
abbrev main_v757 : Ref sig .tc := ⟨.hbm, 1019, rfl⟩
abbrev main_cst_199 : Ref sig .tc := ⟨.hbm, 1020, rfl⟩
abbrev main_v758 : Ref sig .tc := ⟨.hbm, 1021, rfl⟩
abbrev main_v759 : Ref sig .tc := ⟨.hbm, 1022, rfl⟩
abbrev main_v760 : Ref sig .tc := ⟨.hbm, 1023, rfl⟩
abbrev main_cst_200 : Ref sig .tc := ⟨.hbm, 1024, rfl⟩
abbrev main_v761 : Ref sig .tc := ⟨.hbm, 1025, rfl⟩
abbrev main_v762 : Ref sig .tc := ⟨.hbm, 1026, rfl⟩
abbrev main_cst_201 : Ref sig .tc := ⟨.hbm, 1027, rfl⟩
abbrev main_v763 : Ref sig .tc := ⟨.hbm, 1028, rfl⟩
abbrev main_v764 : Ref sig .tc := ⟨.hbm, 1029, rfl⟩
abbrev main_v765 : Ref sig .tc := ⟨.hbm, 1030, rfl⟩
abbrev main_v766 : Ref sig .tc := ⟨.hbm, 1031, rfl⟩
abbrev main_cst_202 : Ref sig .tc := ⟨.hbm, 1032, rfl⟩
abbrev main_v767 : Ref sig .tc := ⟨.hbm, 1033, rfl⟩
abbrev main_v768 : Ref sig .tc := ⟨.hbm, 1034, rfl⟩
abbrev main_cst_203 : Ref sig .tc := ⟨.hbm, 1035, rfl⟩
abbrev main_v769 : Ref sig .tc := ⟨.hbm, 1036, rfl⟩
abbrev main_v770 : Ref sig .tc := ⟨.hbm, 1037, rfl⟩
abbrev main_v771 : Ref sig .tc := ⟨.hbm, 1038, rfl⟩
abbrev main_v772 : Ref sig .tc := ⟨.hbm, 1039, rfl⟩
abbrev main_cst_204 : Ref sig .tc := ⟨.hbm, 1040, rfl⟩
abbrev main_v773 : Ref sig .tc := ⟨.hbm, 1041, rfl⟩
abbrev main_v774 : Ref sig .tc := ⟨.hbm, 1042, rfl⟩
abbrev main_cst_205 : Ref sig .tc := ⟨.hbm, 1043, rfl⟩
abbrev main_v775 : Ref sig .tc := ⟨.hbm, 1044, rfl⟩
abbrev main_v776 : Ref sig .tc := ⟨.hbm, 1045, rfl⟩
abbrev main_v777 : Ref sig .tc := ⟨.hbm, 1046, rfl⟩
abbrev main_cst_206 : Ref sig .tc := ⟨.hbm, 1047, rfl⟩
abbrev main_v778 : Ref sig .tc := ⟨.hbm, 1048, rfl⟩
abbrev main_v779 : Ref sig .tc := ⟨.hbm, 1049, rfl⟩
abbrev main_cst_207 : Ref sig .tc := ⟨.hbm, 1050, rfl⟩
abbrev main_v780 : Ref sig .tc := ⟨.hbm, 1051, rfl⟩
abbrev main_v781 : Ref sig .tc := ⟨.hbm, 1052, rfl⟩
abbrev main_v782 : Ref sig .tc := ⟨.hbm, 1053, rfl⟩
abbrev main_v783 : Ref sig .tc := ⟨.hbm, 1054, rfl⟩
abbrev main_cst_208 : Ref sig .tc := ⟨.hbm, 1055, rfl⟩
abbrev main_v784 : Ref sig .tc := ⟨.hbm, 1056, rfl⟩
abbrev main_v785 : Ref sig .tc := ⟨.hbm, 1057, rfl⟩
abbrev main_cst_209 : Ref sig .tc := ⟨.hbm, 1058, rfl⟩
abbrev main_v786 : Ref sig .tc := ⟨.hbm, 1059, rfl⟩
abbrev main_v787 : Ref sig .tc := ⟨.hbm, 1060, rfl⟩
abbrev main_v788 : Ref sig .tc := ⟨.hbm, 1061, rfl⟩
abbrev main_v789 : Ref sig .tc := ⟨.hbm, 1062, rfl⟩
abbrev main_cst_210 : Ref sig .tc := ⟨.hbm, 1063, rfl⟩
abbrev main_v790 : Ref sig .tc := ⟨.hbm, 1064, rfl⟩
abbrev main_v791 : Ref sig .tc := ⟨.hbm, 1065, rfl⟩
abbrev main_cst_211 : Ref sig .tc := ⟨.hbm, 1066, rfl⟩
abbrev main_v792 : Ref sig .tc := ⟨.hbm, 1067, rfl⟩
abbrev main_v793 : Ref sig .tc := ⟨.hbm, 1068, rfl⟩
abbrev main_v794 : Ref sig .tc := ⟨.hbm, 1069, rfl⟩
abbrev main_cst_212 : Ref sig .tc := ⟨.hbm, 1070, rfl⟩
abbrev main_v795 : Ref sig .tc := ⟨.hbm, 1071, rfl⟩
abbrev main_v796 : Ref sig .tc := ⟨.hbm, 1072, rfl⟩
abbrev main_cst_213 : Ref sig .tc := ⟨.hbm, 1073, rfl⟩
abbrev main_v797 : Ref sig .tc := ⟨.hbm, 1074, rfl⟩
abbrev main_v798 : Ref sig .tc := ⟨.hbm, 1075, rfl⟩
abbrev main_v799 : Ref sig .tc := ⟨.hbm, 1076, rfl⟩
abbrev main_v800 : Ref sig .tc := ⟨.hbm, 1077, rfl⟩
abbrev main_cst_214 : Ref sig .tc := ⟨.hbm, 1078, rfl⟩
abbrev main_v801 : Ref sig .tc := ⟨.hbm, 1079, rfl⟩
abbrev main_v802 : Ref sig .tc := ⟨.hbm, 1080, rfl⟩
abbrev main_cst_215 : Ref sig .tc := ⟨.hbm, 1081, rfl⟩
abbrev main_v803 : Ref sig .tc := ⟨.hbm, 1082, rfl⟩
abbrev main_v804 : Ref sig .tc := ⟨.hbm, 1083, rfl⟩
abbrev main_v805 : Ref sig .tc := ⟨.hbm, 1084, rfl⟩
abbrev main_v806 : Ref sig .tc := ⟨.hbm, 1085, rfl⟩
abbrev main_cst_216 : Ref sig .tc := ⟨.hbm, 1086, rfl⟩
abbrev main_v807 : Ref sig .tc := ⟨.hbm, 1087, rfl⟩
abbrev main_v808 : Ref sig .tc := ⟨.hbm, 1088, rfl⟩
abbrev main_cst_217 : Ref sig .tc := ⟨.hbm, 1089, rfl⟩
abbrev main_v809 : Ref sig .tc := ⟨.hbm, 1090, rfl⟩
abbrev main_v810 : Ref sig .tc := ⟨.hbm, 1091, rfl⟩
abbrev main_v811 : Ref sig .tc := ⟨.hbm, 1092, rfl⟩
abbrev main_cst_218 : Ref sig .tc := ⟨.hbm, 1093, rfl⟩
abbrev main_v812 : Ref sig .tc := ⟨.hbm, 1094, rfl⟩
abbrev main_v813 : Ref sig .tc := ⟨.hbm, 1095, rfl⟩
abbrev main_cst_219 : Ref sig .tc := ⟨.hbm, 1096, rfl⟩
abbrev main_v814 : Ref sig .tc := ⟨.hbm, 1097, rfl⟩
abbrev main_v815 : Ref sig .tc := ⟨.hbm, 1098, rfl⟩
abbrev main_v816 : Ref sig .tc := ⟨.hbm, 1099, rfl⟩
abbrev main_v817 : Ref sig .tc := ⟨.hbm, 1100, rfl⟩
abbrev main_cst_220 : Ref sig .tc := ⟨.hbm, 1101, rfl⟩
abbrev main_v818 : Ref sig .tc := ⟨.hbm, 1102, rfl⟩
abbrev main_v819 : Ref sig .tc := ⟨.hbm, 1103, rfl⟩
abbrev main_cst_221 : Ref sig .tc := ⟨.hbm, 1104, rfl⟩
abbrev main_v820 : Ref sig .tc := ⟨.hbm, 1105, rfl⟩
abbrev main_v821 : Ref sig .tc := ⟨.hbm, 1106, rfl⟩
abbrev main_v822 : Ref sig .tc := ⟨.hbm, 1107, rfl⟩
abbrev main_v823 : Ref sig .tc := ⟨.hbm, 1108, rfl⟩
abbrev main_cst_222 : Ref sig .tc := ⟨.hbm, 1109, rfl⟩
abbrev main_v824 : Ref sig .tc := ⟨.hbm, 1110, rfl⟩
abbrev main_v825 : Ref sig .tc := ⟨.hbm, 1111, rfl⟩
abbrev main_cst_223 : Ref sig .tc := ⟨.hbm, 1112, rfl⟩
abbrev main_v826 : Ref sig .tc := ⟨.hbm, 1113, rfl⟩
abbrev main_v827 : Ref sig .tc := ⟨.hbm, 1114, rfl⟩
abbrev main_v828 : Ref sig .tc := ⟨.hbm, 1115, rfl⟩
abbrev main_cst_224 : Ref sig .tc := ⟨.hbm, 1116, rfl⟩
abbrev main_v829 : Ref sig .tc := ⟨.hbm, 1117, rfl⟩
abbrev main_v830 : Ref sig .tc := ⟨.hbm, 1118, rfl⟩
abbrev main_cst_225 : Ref sig .tc := ⟨.hbm, 1119, rfl⟩
abbrev main_v831 : Ref sig .tc := ⟨.hbm, 1120, rfl⟩
abbrev main_v832 : Ref sig .tc := ⟨.hbm, 1121, rfl⟩
abbrev main_v833 : Ref sig .tc := ⟨.hbm, 1122, rfl⟩
abbrev main_v834 : Ref sig .tc := ⟨.hbm, 1123, rfl⟩
abbrev main_cst_226 : Ref sig .tc := ⟨.hbm, 1124, rfl⟩
abbrev main_v835 : Ref sig .tc := ⟨.hbm, 1125, rfl⟩
abbrev main_v836 : Ref sig .tc := ⟨.hbm, 1126, rfl⟩
abbrev main_cst_227 : Ref sig .tc := ⟨.hbm, 1127, rfl⟩
abbrev main_v837 : Ref sig .tc := ⟨.hbm, 1128, rfl⟩
abbrev main_v838 : Ref sig .tc := ⟨.hbm, 1129, rfl⟩
abbrev main_v839 : Ref sig .tc := ⟨.hbm, 1130, rfl⟩
abbrev main_v840 : Ref sig .tc := ⟨.hbm, 1131, rfl⟩
abbrev main_cst_228 : Ref sig .tc := ⟨.hbm, 1132, rfl⟩
abbrev main_v841 : Ref sig .tc := ⟨.hbm, 1133, rfl⟩
abbrev main_v842 : Ref sig .tc := ⟨.hbm, 1134, rfl⟩
abbrev main_cst_229 : Ref sig .tc := ⟨.hbm, 1135, rfl⟩
abbrev main_v843 : Ref sig .tc := ⟨.hbm, 1136, rfl⟩
abbrev main_v844 : Ref sig .tc := ⟨.hbm, 1137, rfl⟩
abbrev main_cst_230 : Ref sig .tc := ⟨.hbm, 1138, rfl⟩
abbrev main_v845 : Ref sig .tc := ⟨.hbm, 1139, rfl⟩
abbrev main_v846 : Ref sig .tc := ⟨.hbm, 1140, rfl⟩
abbrev main_v847 : Ref sig .tc := ⟨.hbm, 1141, rfl⟩
abbrev main_v848 : Ref sig .tc := ⟨.hbm, 1142, rfl⟩
abbrev main_v849 : Ref sig .tc := ⟨.hbm, 1143, rfl⟩
abbrev main_cst_231 : Ref sig .tc := ⟨.hbm, 1144, rfl⟩
abbrev main_v850 : Ref sig .tc := ⟨.hbm, 1145, rfl⟩
abbrev main_v851 : Ref sig .tc := ⟨.hbm, 1146, rfl⟩
abbrev main_cst_232 : Ref sig .tc := ⟨.hbm, 1147, rfl⟩
abbrev main_v852 : Ref sig .tc := ⟨.hbm, 1148, rfl⟩
abbrev main_v853 : Ref sig .tc := ⟨.hbm, 1149, rfl⟩
abbrev main_v854 : Ref sig .tc := ⟨.hbm, 1150, rfl⟩
abbrev main_v855 : Ref sig .tc := ⟨.hbm, 1151, rfl⟩
abbrev main_cst_233 : Ref sig .tc := ⟨.hbm, 1152, rfl⟩
abbrev main_v856 : Ref sig .tc := ⟨.hbm, 1153, rfl⟩
abbrev main_v857 : Ref sig .tc := ⟨.hbm, 1154, rfl⟩
abbrev main_v858 : Ref sig .tc := ⟨.hbm, 1155, rfl⟩
abbrev main_v859 : Ref sig .tc := ⟨.hbm, 1156, rfl⟩
abbrev main_v860 : Ref sig .tc := ⟨.hbm, 1157, rfl⟩
abbrev main_v861 : Ref sig .tc := ⟨.hbm, 1158, rfl⟩
abbrev main_v862 : Ref sig .tc := ⟨.hbm, 1159, rfl⟩
abbrev main_v863 : Ref sig .tc := ⟨.hbm, 1160, rfl⟩
abbrev main_v864 : Ref sig .tc := ⟨.hbm, 1161, rfl⟩
abbrev main_v865 : Ref sig .tc := ⟨.hbm, 1162, rfl⟩
abbrev main_v866 : Ref sig .tc := ⟨.hbm, 1163, rfl⟩

abbrev nD : Nat := 1
abbrev τ : Topo := Topo.v7x

variable {F : FTy → Type} [FloatOps F]
-- ==== Proof.Ideal.Tile.lean ====
/-
  The SparseCore call: thirty-two tasks, one per tile, each fetching 256 token ids, gathering the 256 scores they name
  from the score table and writing them out. This module states what a task is handed and what it brings back, the
  gathered scores included, and proves the task's run.

  The contents of the three arrays at the call are parameters: `fT` the table, `fI` the ids, `fO` the output before.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionArraysS
public import Idealize.ShloMosaic.Lib.Tactic
public import Idealize.ShloMosaic.Lib.VecWindow
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The arrays of the call -/

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

local notation "tV" => (Memref.whole Cert.KernelIdeal.main_v0_scv : Memref Cert.KernelIdeal.sig Kind.scVector Space.hbm Cert.KernelIdeal.S100000 EltTy.f32)
local notation "iV" => (Memref.whole Cert.KernelIdeal.main_v1_scv : Memref Cert.KernelIdeal.sig Kind.scVector Space.hbm Cert.KernelIdeal.S8192 EltTy.i32)
local notation "oV" => (Memref.whole Cert.KernelIdeal.main_v2_scv : Memref Cert.KernelIdeal.sig Kind.scVector Space.hbm Cert.KernelIdeal.S8192 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256 EltTy.f32)

/-- Entry `n` of the table, counted modulo its length. -/
def entry (n : ℕ) : S100000.Idx :=
  fun a => ⟨n % 100000, (Nat.mod_lt n (by decide : 0 < 100000)).trans_eq (by match a with | ⟨0, _⟩ => rfl)⟩

/-- What the call leaves in its output: entry `j` is the table's entry that id `j` names. -/
def gathered (t : S100000.Idx → Elt F .f32) (i : S8192.Idx → Elt F .i32) : S8192.Idx → Elt F .f32 :=
  fun j => t (entry (i j).toNat)

variable (fT : (d : Dev nD) → Buf (Elt F) (tLoc d)) (fI : (d : Dev nD) → Buf (Elt F) (iLoc d)) (fO : (d : Dev nD) → Buf (Elt F) (oLoc d))

/-- The output after the call on device `d`. -/
abbrev fG (d : Dev nD) : Buf (Elt F) (oLoc d) := gathered (fT d) (fI d)

theorem rdiv : 32 ∣ S8192.size 0 := ⟨256, rfl⟩
/-- The 256 entries of task `w`. -/
abbrev row (w : Fin 32) : Rect S8192 := Rect.part (s := S8192) (a₀ := 0) rdiv w
abbrev iRowSet (w : Fin 32) : Finset S8192.Idx := ((iV).view.slice (row w)).set
abbrev oRowSet (w : Fin 32) : Finset S8192.Idx := ((oV).view.slice (row w)).set

/-- Task `w`'s read share of the table. -/
abbrev tq (w : Fin 32) : PosShare TreeShare := pieceOf fullShare 32 (by decide) w

abbrev iRowPts (d : Dev nD) (w : Fin 32) : sProp 𝕄 := iLoc d ↦[iRowSet w]{fullShare} fI d
abbrev tShPts (d : Dev nD) (w : Fin 32) : sProp 𝕄 := tLoc d ↦{tq w} fT d
abbrev oRowPts (d : Dev nD) (w : Fin 32) (f : Buf (Elt F) (oLoc d)) : sProp 𝕄 := oLoc d ↦[oRowSet w]{fullShare} f

/-- The number of the task that runs on tile `i` of SparseCore `c`. -/
def wid (c : Fin 2) (i : Fin 16) : Fin 32 := ⟨2 * i.val + c.val, by omega⟩

/-- What task `w` is handed: its ids, its share of the table, its part of the output. -/
abbrev goAt (d : Dev nD) (w : Fin 32) : sProp 𝕄 := iprop(iRowPts fI d w ∗ tShPts fT d w ∗ oRowPts d w (fO d))
/-- What it brings back: the same, its part of the output holding the gathered scores. -/
abbrev tdAt (d : Dev nD) (w : Fin 32) : sProp 𝕄 := iprop(iRowPts fI d w ∗ tShPts fT d w ∗ oRowPts d w (fG fT fI d))

/-- What the launch's handshakes carry: each SparseCore its sixteen tasks' parts, each tile its own task's. -/
def P : (K (F := F)).Pay (nD := nD) (Val := Elt F) (Name := ℕ) (U := UU) where
  st := fun q d c => match q with
    | 0 => bigSep Finset.univ fun i : Fin ((K (F := F)).nSub 0) => goAt fT fI fO d (wid (Fin.cast nCore_zero c) (Fin.cast nSub_zero i))
  dn := fun q d c => match q with
    | 0 => bigSep Finset.univ fun i : Fin ((K (F := F)).nSub 0) => tdAt fT fI d (wid (Fin.cast nCore_zero c) (Fin.cast nSub_zero i))
  go := fun q d c i => match q with | 0 => goAt fT fI fO d (wid (Fin.cast nCore_zero c) (Fin.cast nSub_zero i))
  td := fun q d c i => match q with | 0 => tdAt fT fI d (wid (Fin.cast nCore_zero c) (Fin.cast nSub_zero i))
  x := fun _ _ => iprop(emp)

instance P_storable : (P (F := F) fT fI fO).IsStorable where
  st q d c := match q with
    | 0 => (inferInstance : BI.Storable (upEmb : UEmb _ 𝕄)
      (bigSep Finset.univ fun i : Fin ((K (F := F)).nSub 0) => goAt fT fI fO d (wid (Fin.cast nCore_zero c) (Fin.cast nSub_zero i))))
  dn q d c := match q with
    | 0 => (inferInstance : BI.Storable (upEmb : UEmb _ 𝕄)
      (bigSep Finset.univ fun i : Fin ((K (F := F)).nSub 0) => tdAt fT fI d (wid (Fin.cast nCore_zero c) (Fin.cast nSub_zero i))))
  go q d c i := match q with
    | 0 => (inferInstance : BI.Storable (upEmb : UEmb _ 𝕄) (goAt fT fI fO d (wid (Fin.cast nCore_zero c) (Fin.cast nSub_zero i))))
  td q d c i := match q with
    | 0 => (inferInstance : BI.Storable (upEmb : UEmb _ 𝕄) (tdAt fT fI d (wid (Fin.cast nCore_zero c) (Fin.cast nSub_zero i))))

/-- Every id names an entry of the table. -/
def IdsOK : Prop := ∀ (d : Dev nD) (j : S8192.Idx), (fI d j).toNat < 100000

/-! ## A task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

/-- The task's entries as the program spells them. -/
abbrev rowK (L : grid0.Coords) : Rect S8192 := Rect.unit (s := S8192) (k0_off1 L) S256.size (k0_off1_inb L)
abbrev iRowK (L : grid0.Coords) : Memref sig .scVector .hbm S256 .i32 := (iV).slice (rowK L) (fun _ => rfl)
abbrev oRowK (L : grid0.Coords) : Memref sig .scVector .hbm S256 .f32 := (oV).slice (rowK L) (fun _ => rfl)
abbrev tAllK : Memref sig .scVector .hbm S100000 .f32 := (tV).slice (Rect.unit (s := S100000) ![0] S100000.size inb_S100000_S100000_0) (fun _ => rfl)

theorem rowK_eq : rowK L = row (wL L) := by
  unfold rowK row Rect.part Rect.block
  congr 1 <;> funext a
  · rw [k0_off1_eq]
    match a with
    | 0 =>
      show 512 * (L 1).val + 256 * (L 0).val = (2 * (L 1).val + (L 0).val) * 256
      omega
  · match a with
    | 0 => simp [Shape.partSize]

theorem set_iRowK : (iRowK L).view.set = iRowSet (wL L) := by
  show ((iV).view.slice (rowK L)).set = ((iV).view.slice (row (wL L))).set
  exact rowK_eq L ▸ rfl
theorem set_oRowK : (oRowK L).view.set = oRowSet (wL L) := by
  show ((oV).view.slice (rowK L)).set = ((oV).view.slice (row (wL L))).set
  exact rowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

/-- The tile's semaphores: the three that the task uses, and the rest. -/
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The tile's buffers: the two scratch buffers, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The ids as the task reads them back from its scratch buffer. -/
theorem read_ids (fs : Buf (Elt F) ((V d (cV L) (jV L)).loc cc0_scratch0)) (x : S256.Idx) :
    (sV).view.read (Elt F) (View.write (Elt F) (sV).view fs ((iRowK L).view.read (Elt F) (fI d)) Finset.univ) x
      = fI d ((iRowK L).view.emb x) := by
  rw [View.write_whole_univ]
  simp only [Memref.view_whole, View.read_whole]
  exact (View.read_apply _ _).trans (cast_eq _ _)

/-- The ids that the gather reads name entries of the table. -/
theorem ids_inb (hpre : IdsOK fI) (fs : Buf (Elt F) ((V d (cV L) (jV L)).loc cc0_scratch0)) (pay : S256.Idx → Elt F .i32)
    (hpay : pay = (iRowK L).view.read (Elt F) (fI d)) :
    ∀ x, ((sV).view.read (Elt F) (View.write (Elt F) (sV).view fs pay Finset.univ) x).toNat < S100000.size gathers_S100000_S256.axis := by
  subst hpay; intro x
  rw [read_ids]
  exact hpre d _

/-- Entry `x` of a flat list is entry `x`. -/
theorem flat_symm (k : Fin S256.numel) (x : S256.Idx) (h : k.val = (x 0).val) : S256.rowMajor.symm k = x := by
  rw [Equiv.symm_apply_eq]
  exact Fin.ext (h.trans (Shape.rowMajor_val_one (d := ![256]) x).symm)

/-- What the gather lands is the gathered scores' part of this task. -/
theorem payload_eq (hpre : IdsOK fI) (fs : Buf (Elt F) ((V d (cV L) (jV L)).loc cc0_scratch0)) (pay : S256.Idx → Elt F .i32)
    (hpay : pay = (iRowK L).view.read (Elt F) (fI d)) (x : S256.Idx) :
    SparseCore.gatherPayload gathers_S100000_S256 ((tAllK).view.read (Elt F) (fT d))
        (SparseCore.rows ((sV).view.read (Elt F) (View.write (Elt F) (sV).view fs pay Finset.univ)) rfl (ids_inb fI d L hpre fs pay hpay)) x
      = fG fT fI d ((oRowK L).view.emb x) := by
  subst hpay
  unfold SparseCore.gatherPayload
  refine ((View.read_apply _ _).trans (cast_eq _ _)).trans ?_
  refine congrArg (fT d) (funext fun a => ?_)
  have e : (((tAllK).view.emb (gathers_S100000_S256.idx (SparseCore.rows ((sV).view.read (Elt F) (View.write (Elt F) (sV).view fs
      ((iRowK L).view.read (Elt F) (fI d)) Finset.univ)) rfl (ids_inb fI d L hpre fs _ rfl)) x)) 0).val
      = (fI d ((iRowK L).view.emb x)).toNat := by
    refine (show _ = 0 + 1 * _ from rfl).trans ?_
    rw [Nat.zero_add, Nat.one_mul]
    refine (congrArg Fin.val (Shape.Gathers.idx_axis gathers_S100000_S256 _ x)).trans ?_
    show ((sV).view.read (Elt F) (View.write (Elt F) (sV).view fs ((iRowK L).view.read (Elt F) (fI d)) Finset.univ) _).toNat = _
    rw [read_ids]
    exact congrArg (fun y => (fI d ((iRowK L).view.emb y)).toNat) (flat_symm _ x rfl)
  match a with
  | ⟨0, _⟩ => exact Fin.ext (e.trans (Nat.mod_eq_of_lt (hpre d _)).symm)

/-- The task's part of the output, written with a payload that is the gathered scores there, holds them. -/
theorem out_eq (w : S256.Idx → Elt F .f32) (hw : ∀ x, w x = fG fT fI d ((oRowK L).view.emb x)) :
    (oLoc d ↦[oRowSet (wL L)]{fullShare} ((oRowK L).view.writes (Elt F) (fO d) [⟨Rect.whole S256, w⟩]) : sProp 𝕄)
      = oRowPts d (wL L) (fG fT fI d) := by
  refine pointsTo_congr fun i hi => ?_
  rw [← set_oRowK] at hi
  obtain ⟨x, -, rfl⟩ := Finset.mem_map.mp hi
  have h := congrFun (View.read_writes_full (oRowK L).view (fO d) (off := fun _ => 0) (fun _ => by simp) w []) x
  rw [← hw]
  exact (((View.read_apply _ _).trans (cast_eq _ _)).symm.trans h)

set_option maxHeartbeats 4000000 in
/-- The task on tile `(L 0, L 1)` of device `d`: it fetches its ids, gathers the scores they name, writes them out. -/
theorem tile_body (hF : (K (F := F)).Facts) (hpre : IdsOK fI) (O : CellTallies nD τ sig (HIx 1)) (W : Waits sig (HIx 1)) (hO : ∀ g, O g none = 0) :
    iprop(levAts (K (F := F)).L (K (F := F)).lev ∗ emp ∗ goAt fT fI fO d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scoped0 cc0_scoped1)
          fun _ => iprop(tdAt fT fI d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  ihave Hts := (pointsTo_split_subset (q := tq (wL L)) (f := fT d) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 fI d L) Finset.univ : sProp 𝕄)
      = (sV).view.loc (V d (cV L) (jV L)) ↦[(sV).view.set]{fullShare} View.write (Elt F) (sV).view fs (tile_body.sl.dma0 fI d L) Finset.univ
      by rw [hss])) $$ Hs'
  have hN : ∀ h : S100000.Gathers 0 S256, ∑ j, ((rV).slice (S256.rowRect h.axis' j) (S256.stride_rowRect h.axis' j)).view.dmaCredit
      = (rV).view.dmaCredit := by decide
  iapply (SparseCore.wp_indirectGatherLocal countersEmb 𝒱₀ (V d (cV L) (jV L)) none (hg := gathers_S100000_S256) (default : HIx 1)
      (rV).view.dmaCredit (hN _) (by decide) (ids_inb fI d L hpre fs _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := (pointsTo_split_subset (q := tq (wL L)) (f := fT d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Ht' Ho']
  · isplitl [Hi']; · iapply (Entails.of_eq (pts_iRowK (F := F) d L _)); iexact Hi'
    isplitl [Ht']; · iexact Ht'
    ihave Ho2 := (Entails.of_eq (pts_oRowK (F := F) d L _)) $$ Ho'
    iapply (Entails.of_eq (out_eq fT fI fO d L _ fun x => ?_)) $$ Ho2
    refine Eq.trans ?_ (payload_eq fT fI d L hpre fs _ rfl x)
    exact congrFun (View.read_write_univ (v := (rV).view) fr _) x
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Ideal

end
-- ==== Proof.Ideal.Call.lean ====
/-
  The SparseCore call as the launch theorem asks for it: each tile's obligation, the split of a SparseCore's parts among
  its tiles, and the split of the three whole arrays into the thirty-two tasks' parts and back.
-/
module

public import proofs.«01_k».proof.Proof.Ideal.Tile

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tV" => (Memref.whole Cert.KernelIdeal.main_v0_scv : Memref Cert.KernelIdeal.sig Kind.scVector Space.hbm Cert.KernelIdeal.S100000 EltTy.f32)
local notation "iV" => (Memref.whole Cert.KernelIdeal.main_v1_scv : Memref Cert.KernelIdeal.sig Kind.scVector Space.hbm Cert.KernelIdeal.S8192 EltTy.i32)
local notation "oV" => (Memref.whole Cert.KernelIdeal.main_v2_scv : Memref Cert.KernelIdeal.sig Kind.scVector Space.hbm Cert.KernelIdeal.S8192 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256 EltTy.f32)

variable (fT : (d : Dev nD) → Buf (Elt F) (tLoc d)) (fI : (d : Dev nD) → Buf (Elt F) (iLoc d)) (fO : (d : Dev nD) → Buf (Elt F) (oLoc d))

/-! ## The obligation -/

/-- The pair of a SparseCore and a tile, as the body takes it. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- The waits a task records are of no handshake; the launch theorem lets them also be of this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IdsOK fI) : (K (F := F)).TileObl (D (F := F)) 𝒱 (P fT fI fO) v₀ 0 := by
  intro d c i O W hO _ _
  simp only [show (P (F := F) fT fI fO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fT fI fO d (coordsV ⟨_, hci.1⟩ ⟨_, hci.2⟩) hF hpre O W hO).trans (wp_mono frame _ _ fun _ => obl_post)

/-- A SparseCore is handed its tasks' parts one by one. -/
theorem vecSplit : (K (F := F)).VecSplit' (P fT fI fO) 0 := by
  intro d c
  show (bigSep Finset.univ fun i : Fin ((K (F := F)).nSub 0) => goAt fT fI fO d (wid (Fin.cast nCore_zero c) (Fin.cast nSub_zero i)))
    ⊢ |={Set.univ}=> iprop(
      (bigSep Finset.univ fun i : Fin ((K (F := F)).nSub 0) => goAt fT fI fO d (wid (Fin.cast nCore_zero c) (Fin.cast nSub_zero i)))
      ∗ ((bigSep Finset.univ fun i : Fin ((K (F := F)).nSub 0) => tdAt fT fI d (wid (Fin.cast nCore_zero c) (Fin.cast nSub_zero i)))
          -∗ (bigSep Finset.univ fun i : Fin ((K (F := F)).nSub 0) => tdAt fT fI d (wid (Fin.cast nCore_zero c) (Fin.cast nSub_zero i)))))
  iintro H; imodintro
  isplitl [H]; · iexact H
  iintro H; iexact H

/-! ## The whole arrays and the thirty-two parts -/

theorem iRowSet_eq (w : Fin 32) : iRowSet w = (row w).set := by
  show ((View.whole (main_v1_scv : Ref sig .scVector)).slice (row w)).set = _
  rw [View.set_slice]; exact Finset.map_refl
theorem oRowSet_eq (w : Fin 32) : oRowSet w = (row w).set := by
  show ((View.whole (main_v2_scv : Ref sig .scVector)).slice (row w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint rdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint rdiv h
theorem irows_cover : (Finset.univ : Finset (Fin 32)).biUnion iRowSet = Finset.univ :=
  (Finset.biUnion_congr rfl fun i _ => iRowSet_eq i).trans (Rect.biUnion_part rdiv)
theorem orows_cover : (Finset.univ : Finset (Fin 32)).biUnion oRowSet = Finset.univ :=
  (Finset.biUnion_congr rfl fun i _ => oRowSet_eq i).trans (Rect.biUnion_part rdiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

/-- Every task is the task of one tile of one SparseCore. -/
def widEquiv : Fin 2 × Fin 16 ≃ Fin 32 where
  toFun p := wid p.1 p.2
  invFun w := (⟨w.val % 2, by omega⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

/-- What the tasks hold together, SparseCore by SparseCore and tile by tile. -/
theorem bigSep_tasks (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i)))
      = bigSep Finset.univ Φ :=
  (show _ = bigSep Finset.univ fun c : Fin 2 => bigSep Finset.univ fun i : Fin 16 => Φ (wid c i) from
    bigSep_congr fun _ _ => bigSep_congr fun _ _ => congrArg Φ rfl).trans
  ((bigSep_univ_prod fun p : Fin 2 × Fin 16 => Φ (wid p.1 p.2)).symm.trans (bigSep_univ_equiv widEquiv Φ).symm)

/-- The three whole arrays are what the call is handed. -/
theorem st0_eq (d : Dev nD) : (bigSep Finset.univ fun c : Fin ((K (F := F)).nCore 0) => (P (F := F) fT fI fO).st 0 d c)
    = iprop((iLoc d ↦{fullShare} fI d) ∗ (tLoc d ↦{fullShare} fT d) ∗ (oLoc d ↦{fullShare} fO d)) := by
  refine (bigSep_tasks (fun w => goAt fT fI fO d w)).trans ?_
  rw [iPts_rows, tPts_shares, oPts_rows, bigSep_sep', bigSep_sep']

/-- What the call brings back is the three whole arrays, the output holding the gathered scores. -/
theorem dn0_eq (d : Dev nD) : (bigSep Finset.univ fun c : Fin ((K (F := F)).nCore 0) => (P (F := F) fT fI fO).dn 0 d c)
    = iprop((iLoc d ↦{fullShare} fI d) ∗ (tLoc d ↦{fullShare} fT d) ∗ (oLoc d ↦{fullShare} fG fT fI d)) := by
  refine (bigSep_tasks (fun w => tdAt fT fI d w)).trans ?_
  rw [iPts_rows, tPts_shares, oPts_rows, bigSep_sep', bigSep_sep']

end Cert.Proof.Ideal

end
-- ==== Proof.Ideal.Body.lean ====
/-
  The TensorCore call's body at one grid point: what its one store leaves in the output's staging buffer, found by
  running the body on staging buffers that hold given blocks.
-/
module

public import proofs.«01_k».proof.Proof.Ideal.Tile

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

set_option maxRecDepth 16384

-- the run's proof term is large
set_option maxHeartbeats 1000000 in
/-- What the body's store leaves in the output's staging buffer, as pieces, with the proof that from whole staging
    buffers, the inputs' at the blocks `x0 … x10`, the body runs to a continuation that holds the inputs' unchanged and
    the output's with those pieces written. -/
noncomputable def bodyRun (c : Dev nD) (i : grid1.Coords) (arg2 : Memref sig .tc .vmem S1024x768 .f32) (harg2 : arg2.IsWhole) (arg3 : Memref sig .tc .vmem S1x1x2048 .f32) (harg3 : arg3.IsWhole) (arg4 : Memref sig .tc .vmem S1024x1 .f32) (harg4 : arg4.IsWhole) (arg5 : Memref sig .tc .vmem S768x512 .f32) (harg5 : arg5.IsWhole) (arg6 : Memref sig .tc .vmem S512x64 .f32) (harg6 : arg6.IsWhole) (arg7 : Memref sig .tc .vmem S8x64x256 .f32) (harg7 : arg7.IsWhole) (arg8 : Memref sig .tc .vmem S8x256x64 .f32) (harg8 : arg8.IsWhole) (arg9 : Memref sig .tc .vmem S64x64 .f32) (harg9 : arg9.IsWhole) (arg10 : Memref sig .tc .vmem S8x64 .f32) (harg10 : arg10.IsWhole) (arg11 : Memref sig .tc .vmem S64x512 .f32) (harg11 : arg11.IsWhole) (arg12 : Memref sig .tc .vmem S512x768 .f32) (harg12 : arg12.IsWhole) (arg13 : Memref sig .tc .vmem S1024x768 .f32) (harg13 : arg13.IsWhole)
    (x0 : Vec F S1024x768 .f32) (x1 : Vec F S1x1x2048 .f32) (x2 : Vec F S1024x1 .f32) (x3 : Vec F S768x512 .f32) (x4 : Vec F S512x64 .f32) (x5 : Vec F S8x64x256 .f32) (x6 : Vec F S8x256x64 .f32) (x7 : Vec F S64x64 .f32) (x8 : Vec F S8x64 .f32) (x9 : Vec F S64x512 .f32) (x10 : Vec F S512x768 .f32) :
    { L11 : List (View.Piece (Elt F) S1024x768 .f32) //
      ∀ (E : Set ℕ) (Q : PUnit → sProp 𝕄),
        iprop(owns (SparseCore.T c) arg2 fullShare x0 ∗ owns (SparseCore.T c) arg3 fullShare x1 ∗ owns (SparseCore.T c) arg4 fullShare x2 ∗ owns (SparseCore.T c) arg5 fullShare x3 ∗ owns (SparseCore.T c) arg6 fullShare x4 ∗ owns (SparseCore.T c) arg7 fullShare x5 ∗ owns (SparseCore.T c) arg8 fullShare x6 ∗ owns (SparseCore.T c) arg9 fullShare x7 ∗ owns (SparseCore.T c) arg10 fullShare x8 ∗ owns (SparseCore.T c) arg11 fullShare x9 ∗ owns (SparseCore.T c) arg12 fullShare x10 ∗ (∃ d, owns (SparseCore.T c) arg13 fullShare d)
            ∗ (iprop(owns (SparseCore.T c) arg2 fullShare x0 ∗ owns (SparseCore.T c) arg3 fullShare x1 ∗ owns (SparseCore.T c) arg4 fullShare x2 ∗ owns (SparseCore.T c) arg5 fullShare x3 ∗ owns (SparseCore.T c) arg6 fullShare x4 ∗ owns (SparseCore.T c) arg7 fullShare x5 ∗ owns (SparseCore.T c) arg8 fullShare x6 ∗ owns (SparseCore.T c) arg9 fullShare x7 ∗ owns (SparseCore.T c) arg10 fullShare x8 ∗ owns (SparseCore.T c) arg11 fullShare x9 ∗ owns (SparseCore.T c) arg12 fullShare x10 ∗ (∃ f, arg13.view.loc (SparseCore.T c) ↦[arg13.view.set]{fullShare} arg13.view.writes (Elt F) f L11)) -∗ Q ⟨⟩))
          ⊢ wp frame (wpE (defs₀ (F := F)) 𝒱₀ (SparseCore.T c) none) E (cc1__fused_body i arg2 harg2 arg3 harg3 arg4 harg4 arg5 harg5 arg6 harg6 arg7 harg7 arg8 harg8 arg9 harg9 arg10 harg10 arg11 harg11 arg12 harg12 arg13 harg13) Q } := by
  refine ⟨?_, fun E Q => ?run⟩
  case run =>
    simp only [cc1__fused_body_eq_skeleton]; unfold cc1__fused_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

end Cert.Proof.Ideal

end
-- ==== Proof.Ideal.Region.lean ====
/-
  The TensorCore call as a region of @main: the proof data of its pipeline over the arrays as the region finds them (a
  valuation `W` of the device's buffers), the body's obligation at every grid point, and the region's rule: from every
  unscoped buffer at `W`, the core owing nothing, the region runs to those buffers at `afterRegion`.
-/
module

public import proofs.«01_k».proof.Proof.Ideal.Body
public import Idealize.ShloMosaic.Lib.Pipeline.FrameBody
public import Idealize.ShloMosaic.Lib.Pipeline.FrameTail
public import Idealize.ShloMosaic.Lib.Ring

@[expose] public section

noncomputable section

namespace Cert.Proof.Ideal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

set_option maxRecDepth 16384

/-- The pipelines prefetch nothing. -/
abbrev adm : (p : Fin 1) → (pcfgs (F := F) p).Adm := fun p => ⟨fun k => k.elim0, trivial⟩

variable (W : Dev nD → Valuation τ sig (Elt F))

/-- Window `w`'s block at point `t` of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The output's staging buffer as a view of its whole block. -/
abbrev VO : View sig .tc .vmem S1024x768 .f32 := (Memref.whole cc1_stg11_0 : Memref sig .tc .vmem S1024x768 .f32).view

/-- The pieces the body's run at point `t` writes. -/
abbrev piecesAt (c : Dev nD) (t : Fin cfg1.N) : List (View.Piece (Elt F) S1024x768 .f32) :=
  (bodyRun (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11))
    (iblk W c 0 t) (iblk W c 1 t) (iblk W c 2 t) (iblk W c 3 t) (iblk W c 4 t) (iblk W c 5 t) (iblk W c 6 t) (iblk W c 7 t) (iblk W c 8 t) (iblk W c 9 t) (iblk W c 10 t)).1

/-- They cover the output's block. -/
theorem pieces_cover (c : Dev nD) (t : Fin cfg1.N) (y : S1024x768.Idx) : ∃ pc ∈ piecesAt W c t, y ∈ pc.1.set :=
  View.cover_of_tiledL (piecesAt W c t) S1024x768.size (by sl_kernel_rfl) y

/-- What the body leaves in the output's staging buffer at point `t`. -/
def outAt (c : Dev nD) (t : Fin cfg1.N) : Vec F S1024x768 .f32 :=
  VO.read (Elt F) (VO.writes (Elt F) VO.junk (piecesAt W c t))

/-- The pipeline's proof data: the arrays as the region finds them, the inputs' blocks left in place, the output's block
    at the body's; nothing owed, and every wait recorded at the levels a thread of @main has waited at by then. -/
def dats (_ : Fin 1) (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => outAt W c t
  Φ _ := iprop(emp)
  q _ := fullShare
  owed _ := 0
  recorded _ := {p | (K (F := F)).lev ((c : Thread nD τ), p.1) p.2 ≤ 8}

theorem dats_A (c : Dev nD) (w : Fin cfg1.W) : (dats W 0 c).A w = W c (Proc.devRef .tc (Pipeline.arrRef spec1 w)) := by
  dsimp only [dats]

theorem after_0 (c : Dev nD) (t : Fin cfg1.N) : (dats W 0 c).after 0 t = iblk W c 0 t := by dsimp only [dats]
theorem after_1 (c : Dev nD) (t : Fin cfg1.N) : (dats W 0 c).after 1 t = iblk W c 1 t := by dsimp only [dats]
theorem after_2 (c : Dev nD) (t : Fin cfg1.N) : (dats W 0 c).after 2 t = iblk W c 2 t := by dsimp only [dats]
theorem after_3 (c : Dev nD) (t : Fin cfg1.N) : (dats W 0 c).after 3 t = iblk W c 3 t := by dsimp only [dats]
theorem after_4 (c : Dev nD) (t : Fin cfg1.N) : (dats W 0 c).after 4 t = iblk W c 4 t := by dsimp only [dats]
theorem after_5 (c : Dev nD) (t : Fin cfg1.N) : (dats W 0 c).after 5 t = iblk W c 5 t := by dsimp only [dats]
theorem after_6 (c : Dev nD) (t : Fin cfg1.N) : (dats W 0 c).after 6 t = iblk W c 6 t := by dsimp only [dats]
theorem after_7 (c : Dev nD) (t : Fin cfg1.N) : (dats W 0 c).after 7 t = iblk W c 7 t := by dsimp only [dats]
theorem after_8 (c : Dev nD) (t : Fin cfg1.N) : (dats W 0 c).after 8 t = iblk W c 8 t := by dsimp only [dats]
theorem after_9 (c : Dev nD) (t : Fin cfg1.N) : (dats W 0 c).after 9 t = iblk W c 9 t := by dsimp only [dats]
theorem after_10 (c : Dev nD) (t : Fin cfg1.N) : (dats W 0 c).after 10 t = iblk W c 10 t := by dsimp only [dats]
theorem after_11 (c : Dev nD) (t : Fin cfg1.N) : (dats W 0 c).after 11 t = outAt W c t := by dsimp only [dats]

/-- An input's staging buffer holds its block at every point, if the body leaves its block in place. -/
theorem before_input (c : Dev nD) (w : Fin cfg1.W) (hw : (cfg1.win w).isOut = false)
    (hafter : ∀ t, (cfg1.win w).cut (cfg1.grid.coords t) ((dats W 0 c).after w t) = iblk W c w t) (t : Fin cfg1.N)
    (d : (cfg1.win w).block.Idx → Elt F (cfg1.win w).elt) :
    (dats W 0 c).before w t d = (cfg1.win w).fill (cfg1.grid.coords t) d (iblk W c w t) := by
  rw [(dats W 0 c).before_in_eq_fetched w hw (fun _ => rfl) (fun t t' _ => by fin_cases w <;> rfl)
    (fun t => by rw [hafter]; unfold Dat.blockOf iblk; rw [dats_A]) t d]
  unfold Dat.fetched Dat.blockOf iblk
  rw [dats_A]

theorem before_0 (c : Dev nD) (t : Fin cfg1.N) (d) : (dats W 0 c).before 0 t d = iblk W c 0 t :=
  before_input W c 0 rfl (fun t => by rw [after_0]) t d
theorem before_1 (c : Dev nD) (t : Fin cfg1.N) (d) : (dats W 0 c).before 1 t d = iblk W c 1 t :=
  before_input W c 1 rfl (fun t => by rw [after_1]) t d
theorem before_2 (c : Dev nD) (t : Fin cfg1.N) (d) : (dats W 0 c).before 2 t d = iblk W c 2 t :=
  before_input W c 2 rfl (fun t => by rw [after_2]) t d
theorem before_3 (c : Dev nD) (t : Fin cfg1.N) (d) : (dats W 0 c).before 3 t d = iblk W c 3 t :=
  before_input W c 3 rfl (fun t => by rw [after_3]) t d
theorem before_4 (c : Dev nD) (t : Fin cfg1.N) (d) : (dats W 0 c).before 4 t d = iblk W c 4 t :=
  before_input W c 4 rfl (fun t => by rw [after_4]) t d
theorem before_5 (c : Dev nD) (t : Fin cfg1.N) (d) : (dats W 0 c).before 5 t d = iblk W c 5 t :=
  before_input W c 5 rfl (fun t => by rw [after_5]) t d
theorem before_6 (c : Dev nD) (t : Fin cfg1.N) (d) : (dats W 0 c).before 6 t d = iblk W c 6 t :=
  before_input W c 6 rfl (fun t => by rw [after_6]) t d
theorem before_7 (c : Dev nD) (t : Fin cfg1.N) (d) : (dats W 0 c).before 7 t d = iblk W c 7 t :=
  before_input W c 7 rfl (fun t => by rw [after_7]) t d
theorem before_8 (c : Dev nD) (t : Fin cfg1.N) (d) : (dats W 0 c).before 8 t d = iblk W c 8 t :=
  before_input W c 8 rfl (fun t => by rw [after_8]) t d
theorem before_9 (c : Dev nD) (t : Fin cfg1.N) (d) : (dats W 0 c).before 9 t d = iblk W c 9 t :=
  before_input W c 9 rfl (fun t => by rw [after_9]) t d
theorem before_10 (c : Dev nD) (t : Fin cfg1.N) (d) : (dats W 0 c).before 10 t d = iblk W c 10 t :=
  before_input W c 10 rfl (fun t => by rw [after_10]) t d

/-- What the body is called with at point `t`, the windows one by one. -/
def bodyPre (c : Dev nD) (t : Fin cfg1.N) : sProp 𝕄 :=
  iprop((dats W 0 c).Φ t.castSucc ∗ (dats W 0 c).owesAt none t.castSucc
    ∗ (∃ d, owns (c : Thread nD τ) (st1_0 t) fullShare ((dats W 0 c).before 0 t d))
    ∗ (∃ d, owns (c : Thread nD τ) (st1_1 t) fullShare ((dats W 0 c).before 1 t d))
    ∗ (∃ d, owns (c : Thread nD τ) (st1_2 t) fullShare ((dats W 0 c).before 2 t d))
    ∗ (∃ d, owns (c : Thread nD τ) (st1_3 t) fullShare ((dats W 0 c).before 3 t d))
    ∗ (∃ d, owns (c : Thread nD τ) (st1_4 t) fullShare ((dats W 0 c).before 4 t d))
    ∗ (∃ d, owns (c : Thread nD τ) (st1_5 t) fullShare ((dats W 0 c).before 5 t d))
    ∗ (∃ d, owns (c : Thread nD τ) (st1_6 t) fullShare ((dats W 0 c).before 6 t d))
    ∗ (∃ d, owns (c : Thread nD τ) (st1_7 t) fullShare ((dats W 0 c).before 7 t d))
    ∗ (∃ d, owns (c : Thread nD τ) (st1_8 t) fullShare ((dats W 0 c).before 8 t d))
    ∗ (∃ d, owns (c : Thread nD τ) (st1_9 t) fullShare ((dats W 0 c).before 9 t d))
    ∗ (∃ d, owns (c : Thread nD τ) (st1_10 t) fullShare ((dats W 0 c).before 10 t d))
    ∗ (∃ d, owns (c : Thread nD τ) (st1_11 t) fullShare ((dats W 0 c).before 11 t d)))

/-- What it returns. -/
def bodyPost (c : Dev nD) (t : Fin cfg1.N) : sProp 𝕄 :=
  iprop((dats W 0 c).Φ t.succ ∗ (dats W 0 c).owesAt none t.succ
    ∗ owns (c : Thread nD τ) (st1_0 t) fullShare ((dats W 0 c).after 0 t)
    ∗ owns (c : Thread nD τ) (st1_1 t) fullShare ((dats W 0 c).after 1 t)
    ∗ owns (c : Thread nD τ) (st1_2 t) fullShare ((dats W 0 c).after 2 t)
    ∗ owns (c : Thread nD τ) (st1_3 t) fullShare ((dats W 0 c).after 3 t)
    ∗ owns (c : Thread nD τ) (st1_4 t) fullShare ((dats W 0 c).after 4 t)
    ∗ owns (c : Thread nD τ) (st1_5 t) fullShare ((dats W 0 c).after 5 t)
    ∗ owns (c : Thread nD τ) (st1_6 t) fullShare ((dats W 0 c).after 6 t)
    ∗ owns (c : Thread nD τ) (st1_7 t) fullShare ((dats W 0 c).after 7 t)
    ∗ owns (c : Thread nD τ) (st1_8 t) fullShare ((dats W 0 c).after 8 t)
    ∗ owns (c : Thread nD τ) (st1_9 t) fullShare ((dats W 0 c).after 9 t)
    ∗ owns (c : Thread nD τ) (st1_10 t) fullShare ((dats W 0 c).after 10 t)
    ∗ owns (c : Thread nD τ) (st1_11 t) fullShare ((dats W 0 c).after 11 t))

set_option maxHeartbeats 1200000 in
/-- The body at any point. -/
theorem sound_body (c : Dev nD) (t : Fin cfg1.N) :
    bodyPre W c t ⊢ wp frame (wpE (defs₀ (F := F)) 𝒱₀ c none) Set.univ (bodyAt1 t) (fun _ => bodyPost W c t) := by
  unfold bodyPre bodyPost bodyAt1
  simp only [before_0, before_1, before_2, before_3, before_4, before_5, before_6, before_7, before_8, before_9, before_10]
  rw [show (dats W 0 c).Φ t.succ = (dats W 0 c).Φ t.castSucc from rfl,
    show (dats W 0 c).owesAt none t.succ = (dats W 0 c).owesAt none t.castSucc from rfl,
    after_0, after_1, after_2, after_3, after_4, after_5, after_6, after_7, after_8, after_9, after_10, after_11]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun (F := F) c (grid1.coords t) _ _ _ _ _ _ _ _ _ _ _ _ _ _ _ _ _ _ _ _ _ _ _ _
    (iblk W c 0 t) (iblk W c 1 t) (iblk W c 2 t) (iblk W c 3 t) (iblk W c 4 t) (iblk W c 5 t) (iblk W c 6 t) (iblk W c 7 t) (iblk W c 8 t) (iblk W c 9 t) (iblk W c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (pieces_cover W c t)

/-- The body table's row at point `t`'s slots is the body. -/
theorem defs₀_row (t : Fin cfg1.N) : defs₀ (F := F) .tc cfg1.body (cfg1.bodyArgs t (cfg1.slots t)) = bodyAt1 t := rfl

theorem body_obligation (c : Dev nD) : BodyObligation (dats (F := F) W 0 c) (defs₀ (F := F)) 𝒱₀ none Set.univ := fun t => by
  rw [bigSep_W1, bigSep_W1, defs₀_row]
  exact triple_restated (sound_body W c t) rfl .rfl fun _ => .rfl

/-- What @main's core keeps of its waits: nothing owed, every wait recorded at level 8 or below. -/
abbrev owesLow (c : Dev nD) : sProp 𝕄 :=
  iprop(∃ Wt, ⌜(K (F := F)).WBelow (c : Thread nD τ) Wt 8⌝ ∗ owes (c : Thread nD τ) (0 : CellTallies nD τ sig (HIx 1)) Wt)

/-- The region: its arrays taken out of the unscoped buffers and put back. -/
def region : Pipeline.RegionSeg (pcfgs (F := F)) adm (dats W) none defs₀ 𝒱₀ (K (F := F)).L (K (F := F)).lev 0 where
  win := launch1.toP.win.to₀
  block_pos := block_pos1
  stage_whole := stage_whole1
  K := PEmpty
  osem k := k.elim
  ho := Pipeline.OwnSemFacts.none _
  hbody c := (body_obligation W c).loose
  hwaits := Pipeline.hwaits_of_owed_zero pcfgs adm (dats W) none (K (F := F)).L (K (F := F)).lev 0 (fun _ _ => rfl)
  pre c := iprop(StableHlo.held (c.tc : Thread nD τ) (Pipeline.ucRefs τ sig) (W c) ∗ owesLow c)
  post c := iprop(StableHlo.held (c.tc : Thread nD τ) (Pipeline.ucRefs τ sig) (Pipeline.afterRegion (dats W 0 c) (W c)) ∗ owesLow c)
  X _ := iprop(emp)
  Y _ := iprop(emp)
  Z c := Pipeline.unscopedRest spec1 c (fun b => W c (Proc.devRef .tc b))
  hentry c := by
    rw [Pipeline.ownSems0_none, ← Pipeline.unscopedBufs_held c (W c)]
    have hsplit := Pipeline.arrays_of_unscopedBufs (p := 0) (pcfgs (F := F)) adm (dats W) winFacts1 arr_whole1 c
      ((dats W 0 c).share_full fun _ => rfl) (fun b => W c (Proc.devRef .tc b)) (fun w => dats_A W c w)
    iintro ⟨⟨Hub, HO⟩, -, -⟩
    ihave H := hsplit $$ Hub
    icases H with ⟨Ha, Hrest⟩
    imodintro
    isplitl [Ha]; · iexact Ha
    isplitr
    · rw [Pipeline.prefHeld_of_none _ rfl]; iempintro
    isplitl [HO]
    · unfold Pipeline.Dat.owesAt Pipeline.owesWithin
      icases HO with ⟨%Wt, %hW, HO⟩
      iexists Wt; isplitr
      · ipureintro; exact fun p hp => Or.inl (hW p hp)
      iexact HO
    isplitr; · iempintro
    iexact Hrest
  hin c := by
    rw [scopedRest1_eq]
    iintro ⟨-, -, -⟩
    unfold dats; iempintro
  hout c := by
    rw [scopedRest1_eq, Pipeline.ownSems0_none]
    iintro -
    isplitr; · iempintro
    isplitr <;> iempintro
  hexit c := by
    have hjoin := Pipeline.unscopedBufs_of_arrays (p := 0) (pcfgs (F := F)) adm (Ix := HIx 1) (Name := ℕ) (U := UU) (Lvl := ℕ)
      winFacts1 arr_whole1 c (dats W) ((dats W 0 c).share_full fun _ => rfl)
      (fun b => W c (Proc.devRef .tc b)) (fun b => Pipeline.afterRegion (dats W 0 c) (W c) (Proc.devRef .tc b)) ((dats W 0 c).arrAt · cfg1.N)
      (fun w => (Pipeline.afterRegion_arr (dats W 0 c) (W c) winFacts1.arr_inj w).symm)
      (fun b hb => Pipeline.afterRegion_of_not_arr (dats W 0 c) (W c)
        fun w h => hb (h ▸ Finset.mem_image.mpr ⟨w, Finset.mem_univ _, rfl⟩))
    rw [← Pipeline.unscopedBufs_held c (Pipeline.afterRegion (dats W 0 c) (W c))]
    iintro ⟨Ha, HO, -, Hrest⟩
    imodintro
    isplitl [Ha Hrest]
    · iapply hjoin; isplitl [Ha] <;> iassumption
    unfold Pipeline.Dat.owesAt Pipeline.owesWithin
    icases HO with ⟨%Wt, %hW, HO⟩
    iexists Wt; isplitr
    · ipureintro
      intro p hp
      rcases hW hp with h | ⟨w, s, rfl⟩
      · exact h
      · exact Nat.zero_le _
    iexact HO

end Cert.Proof.Ideal

end
-- ==== Proof.Ideal.Main.lean ====
/-
  The whole program: @main on the TensorCore — two reshapes, the SparseCore call, the layout of the operands, the
  TensorCore call, a last reshape — carried with the contents of every buffer, and the program's run: it ends with the
  buffers at `Wend` and every semaphore counter at zero.
-/
module

public import proofs.«01_k».proof.Proof.Ideal.Call
public import proofs.«01_k».proof.Proof.Ideal.Region

@[expose] public section

noncomputable section

namespace Cert.Proof.Ideal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

set_option maxRecDepth 16384

/-! ## The host operations and the buffers' contents between them -/

/-- The reshapes before the SparseCore call. -/
abbrev opsA : List (HloOp τ sig (Elt F)) :=
  [StableHlo.reshape main_arg2 main_v0 (rfl : (.f32 : EltTy) = .f32) shapeCasts_S100000x1_S100000,
    StableHlo.reshape main_arg1 main_v1 (rfl : (.i32 : EltTy) = .i32) shapeCasts_S4x2048_S8192]

/-- The operations between the two calls. -/
abbrev opsB : List (HloOp τ sig (Elt F)) :=
  [StableHlo.reshape main_arg0 main_v3 (rfl : (.f32 : EltTy) = .f32) shapeCasts_S4x2048x768_S8192x768,
    StableHlo.reshape main_v2 main_v4 (rfl : (.f32 : EltTy) = .f32) shapeCasts_S8192_S4x1x2048,
    StableHlo.reshape main_v2 main_v5 (rfl : (.f32 : EltTy) = .f32) shapeCasts_S8192_S8192x1,
    StableHlo.unary main_arg11 main_v6 ((transpose S64x64 [1, 0] · transposes_S64x64_S64x64_1_0) : (⟨S64x64, .f32⟩ : BufTy).Contents (Elt F) → (⟨S64x64, .f32⟩ : BufTy).Contents (Elt F)),
    StableHlo.unary main_arg13 main_v7 ((transpose S8x64 [1, 0] · transposes_S64x8_S8x64_1_0) : (⟨S64x8, .f32⟩ : BufTy).Contents (Elt F) → (⟨S8x64, .f32⟩ : BufTy).Contents (Elt F)),
    StableHlo.nullary main_cst (constant S_ .f32 0x3F000000#32),
    StableHlo.unary main_cst main_v8 (broadcastInDim S64x512 ![] bcast_S_S64x512 : (⟨S_, .f32⟩ : BufTy).Contents (Elt F) → (⟨S64x512, .f32⟩ : BufTy).Contents (Elt F)),
    StableHlo.binary main_v8 main_arg15 main_v9 (mulf : (⟨S64x512, .f32⟩ : BufTy).Contents (Elt F) → (⟨S64x512, .f32⟩ : BufTy).Contents (Elt F) → (⟨S64x512, .f32⟩ : BufTy).Contents (Elt F))]

/-- The reshape after the TensorCore call. -/
abbrev opsC : List (HloOp τ sig (Elt F)) :=
  [StableHlo.reshape main_v10 main_v11 (rfl : (.f32 : EltTy) = .f32) shapeCasts_S8192x768_S4x2048x768]

theorem opsA_sub : ∀ op ∈ opsA (F := F), op.bufs ⊆ Pipeline.ucRefs τ sig := fun op h => by
  fin_cases h <;> exact Pipeline.sub_ucRefs _ (StableHlo.reshape_bufs_sub ..)
theorem opsB_sub : ∀ op ∈ opsB (F := F), op.bufs ⊆ Pipeline.ucRefs τ sig := fun op h => by
  fin_cases h
  · exact Pipeline.sub_ucRefs _ (StableHlo.reshape_bufs_sub ..)
  · exact Pipeline.sub_ucRefs _ (StableHlo.reshape_bufs_sub ..)
  · exact Pipeline.sub_ucRefs _ (StableHlo.reshape_bufs_sub ..)
  · exact Pipeline.sub_ucRefs _ (StableHlo.unary_bufs_sub ..)
  · exact Pipeline.sub_ucRefs _ (StableHlo.unary_bufs_sub ..)
  · exact Pipeline.sub_ucRefs _ (StableHlo.nullary_bufs_sub ..)
  · exact Pipeline.sub_ucRefs _ (StableHlo.unary_bufs_sub ..)
  · exact Pipeline.sub_ucRefs _ (StableHlo.binary_bufs_sub ..)
theorem opsC_sub : ∀ op ∈ opsC (F := F), op.bufs ⊆ Pipeline.ucRefs τ sig := fun op h => by
  fin_cases h; exact Pipeline.sub_ucRefs _ (StableHlo.reshape_bufs_sub ..)
theorem opsA_fresh : ∀ op ∈ opsA (F := F), op.fresh = ∅ := fun op h => by fin_cases h <;> rfl
theorem opsB_fresh : ∀ op ∈ opsB (F := F), op.fresh = ∅ := fun op h => by fin_cases h <;> rfl
theorem opsC_fresh : ∀ op ∈ opsC (F := F), op.fresh = ∅ := fun op h => by fin_cases h; rfl

variable (m : (ℓ : Loc nD τ sig) → Buf (Elt F) ℓ) (ρ : Dev nD → PrngReg)

/-- The contents when the SparseCore call starts, -/
def Wcall (d : Dev nD) : Valuation τ sig (Elt F) := StableHlo.after opsA (StableHlo.launchContents m d)
/-- the score table, the ids and the output's buffer then, -/
def fT (d : Dev nD) : Buf (Elt F) (tLoc d) := Wcall m d (Proc.devRef .tc main_v0)
def fI (d : Dev nD) : Buf (Elt F) (iLoc d) := Wcall m d (Proc.devRef .tc main_v1)
def fO (d : Dev nD) : Buf (Elt F) (oLoc d) := Wcall m d (Proc.devRef .tc main_v2)
/-- the contents when it has ended: its output at the gathered scores, -/
def Wgot (d : Dev nD) : Valuation τ sig (Elt F) :=
  Function.update (Wcall m d) (Proc.devRef .tc main_v2) (fG (fT m) (fI m) d)
/-- when the TensorCore call starts, -/
def Wreg (d : Dev nD) : Valuation τ sig (Elt F) := StableHlo.after opsB (Wgot m d)
/-- when it has ended, -/
def Wout (d : Dev nD) : Valuation τ sig (Elt F) := Pipeline.afterRegion (dats (Wreg m) 0 d) (Wreg m d)
/-- and at the end. -/
def Wend (d : Dev nD) : Valuation τ sig (Elt F) := StableHlo.after opsC (Wout m d)

/-! ## The three arrays of the SparseCore call, out of the buffers and back -/

abbrev callRefs : Finset (DevRef τ sig) := {Proc.devRef .tc main_v1, Proc.devRef .tc main_v0, Proc.devRef .tc main_v2}

theorem callRefs_sub : callRefs ⊆ Pipeline.ucRefs τ sig := by
  intro b hb
  simp only [Finset.mem_insert, Finset.mem_singleton] at hb
  rcases hb with rfl | rfl | rfl <;> exact Pipeline.devRef_mem_ucRefs rfl

theorem held_callRefs (d : Dev nD) (W : Valuation τ sig (Elt F)) :
    (StableHlo.held (d.tc : Thread nD τ) callRefs W : sProp 𝕄)
      = iprop((iLoc d ↦{fullShare} W (Proc.devRef .tc main_v1)) ∗ (tLoc d ↦{fullShare} W (Proc.devRef .tc main_v0))
          ∗ (oLoc d ↦{fullShare} W (Proc.devRef .tc main_v2))) := by
  unfold StableHlo.held callRefs
  rw [SparseCore.bigSep_insert' (by decide), SparseCore.bigSep_insert' (by decide), bigSep_singleton]

theorem held_rest (d : Dev nD) :
    (StableHlo.held (d.tc : Thread nD τ) (Pipeline.ucRefs τ sig \ callRefs) (Wgot m d) : sProp 𝕄)
      = StableHlo.held (d.tc : Thread nD τ) (Pipeline.ucRefs τ sig \ callRefs) (Wcall m d) :=
  StableHlo.held_congr _ fun b hb => by
    unfold Wgot
    refine Function.update_of_ne (fun h => ?_) _ _
    exact (Finset.mem_sdiff.mp hb).2 (h ▸ by simp)

theorem Wgot_v1 (d : Dev nD) : Wgot m d (Proc.devRef .tc main_v1) = fI m d :=
  Function.update_of_ne (by decide) _ _
theorem Wgot_v0 (d : Dev nD) : Wgot m d (Proc.devRef .tc main_v0) = fT m d :=
  Function.update_of_ne (by decide) _ _
theorem Wgot_v2 (d : Dev nD) : Wgot m d (Proc.devRef .tc main_v2) = fG (fT m) (fI m) d :=
  Function.update_self _ _ _

/-! ## The launch's ghost state -/

/-- The pipeline's rounds' embedding. -/
abbrev EP : Emb UP (MT nD τ sig (HIx 1) (Elt F) ℕ UU ℕ) := (Emb.inl : Emb UP (UP × Counters)).trans embR

instance : (EP (F := F)).LandsIn (upEmb : UEmb _ 𝕄) := by unfold EP; infer_instance

theorem hinj : Function.Injective (cellOf (nD := nD) (τ := τ) (Pipeline.pin (pcfgs (F := F)) adm)) :=
  launch1.toP.cellOf_inj adm

/-- The launch element: the handshakes' cells, the pipeline's, no counter yet. -/
def u₀ : UU :=
  (initOf (K (F := F)).hsCells (K (F := F)).hsToks,
    (initOf (Pipeline.cells (Pipeline.pin (pcfgs (F := F)) adm) hinj) (Pipeline.launchToks (Pipeline.pin (pcfgs (F := F)) adm) hinj), 1))

/-- What @main's core gets of it: its pipeline's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ (fT : (d : Dev nD) → Buf (Elt F) (tLoc d)) (fI : (d : Dev nD) → Buf (Elt F) (iLoc d)) (fO : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) fT fI fO).x q thr) := by
  unfold u₀
  iintro Hu
  ihave H := (ownU_pair (initOf (K (F := F)).hsCells (K (F := F)).hsToks)
    ((initOf (Pipeline.cells (Pipeline.pin (pcfgs (F := F)) adm) hinj) (Pipeline.launchToks (Pipeline.pin (pcfgs (F := F)) adm) hinj), (1 : Counters)) : UP × Counters)) $$ Hu
  icases H with ⟨HH, HR⟩
  ihave H := (own_pair_emb embR (initOf (Pipeline.cells (Pipeline.pin (pcfgs (F := F)) adm) hinj) (Pipeline.launchToks (Pipeline.pin (pcfgs (F := F)) adm) hinj)) (1 : Counters)) $$ HR
  icases H with ⟨HP, -⟩
  imod (Pipeline.fund_ghost (Pipeline.pin (pcfgs (F := F)) adm) EP hinj) $$ HP with ⟨Hc, Ht⟩
  imodintro
  isplitl [HH]; · iexact HH
  isplitl [Hc Ht]
  · rw [bigSep_sep']
    isplitl [Hc]
    · rw [bigSep_congr (fun (d : Dev nD) _ => (bigSep_univ_of_subsingleton (0 : Fin 1) (Φ := fun p => (Pipeline.cellsGhost (Pipeline.pin (pcfgs (F := F)) adm) EP p d : sProp 𝕄))).symm)]
      iexact Hc
    · rw [bigSep_congr (fun (d : Dev nD) _ => (bigSep_univ_of_subsingleton (0 : Fin 1) (Φ := fun p => (Pipeline.toksInit (Pipeline.pin (pcfgs (F := F)) adm) EP p d : sProp 𝕄))).symm)]
      iexact Ht
  rw [show (bigSep Finset.univ fun thr : Thread nD τ => bigSep Finset.univ fun q : Fin 1 => (P (F := F) fT fI fO).x q thr) = iprop(emp) from
    (bigSep_congr fun _ _ => bigSep_univ_of_subsingleton (0 : Fin 1)).trans (bigSep_emp_const _)]
  iempintro

/-! ## @main -/

/-- The TensorCore call, as a program of the table without the SparseCore call's entries. -/
abbrev regionCall : Prog (TpuEff nD τ sig (Elt F) (ΛP (F := F)) .tc) PUnit := .op (.customCall (Pipeline.entry 0) ()) .ret

theorem lift_call : (Prog.lift (.customCall (SparseCore.inner (Pipeline.entry 0)) ()) : Prog (TpuEff nD τ sig (Elt F) (SparseCore.Sig (ΛP (F := F)) 1) .tc) PUnit)
    = SparseCore.liftProg regionCall := rfl

theorem region_pre (d : Dev nD) : (region (Wreg m)).pre d
    = iprop((StableHlo.held (d.tc : Thread nD τ) (Pipeline.ucRefs τ sig) (Wreg m d) : sProp 𝕄) ∗ owesLow d) := rfl
theorem region_post (d : Dev nD) : (region (Wreg m)).post d
    = iprop((StableHlo.held (d.tc : Thread nD τ) (Pipeline.ucRefs τ sig) (Wout m d) : sProp 𝕄) ∗ owesLow d) := rfl

/-- The TensorCore call's statement, from every buffer at `Wreg` to every buffer at `Wout`. -/
theorem wp_region [∀ e, Nonempty (Elt F e)] (κ : GSem nD τ sig → ℕ) (d : Dev nD) (Q : PUnit → sProp 𝕄)
    (fT : (d : Dev nD) → Buf (Elt F) (tLoc d)) (fI : (d : Dev nD) → Buf (Elt F) (iLoc d)) (fO : (d : Dev nD) → Buf (Elt F) (oLoc d)) :
    iprop((K (F := F)).ctx EH (P fT fI fO) κ ∗ boundary (d.tc : Thread nD τ)
        ∗ StableHlo.held (d.tc : Thread nD τ) (Pipeline.ucRefs τ sig) (Wreg m d) ∗ owesLow d ∗ G d
        ∗ (iprop(boundary (d.tc : Thread nD τ) ∗ StableHlo.held (d.tc : Thread nD τ) (Pipeline.ucRefs τ sig) (Wout m d) ∗ owesLow d) -∗ Q ⟨⟩))
      ⊢ wp frame (wpE ((K (F := F)).defs (D (F := F))) 𝒱 (SparseCore.T d) none) Set.univ
          (Prog.lift (.customCall (SparseCore.inner (Pipeline.entry 0)) ())) Q := by
  rw [lift_call]
  refine BIBase.Entails.trans ?_ ((K (F := F)).wp_liftProg (D (F := F)) 𝒱 (SparseCore.T d) Set.univ none regionCall Q)
  iintro ⟨#Hctx, Hb, Hh, HO, ⟨Hc, Ht⟩, Hk⟩
  ihave Hlev := (SparseCore.Cfg.ctx_levAts κ) $$ Hctx
  iapply (Pipeline.RegionSeg.wp (pcfgs (F := F)) adm (dats (Wreg m)) none hinj EP defs₀ 𝒱₀ (K (F := F)).L (K (F := F)).lev
    (region (Wreg m)) d none (fun _ h => nomatch h) .ret Q)
  isplitl [Hk]
  · iintro ⟨Hb, Hpost⟩
    ihave Hp := (Entails.of_eq (region_post m d)) $$ Hpost
    icases Hp with ⟨Hh, HO⟩
    rw [wp_ret]; imodintro
    iapply Hk
    isplitl [Hb]; · iexact Hb
    isplitl [Hh]; · iexact Hh
    iexact HO
  isplitl [Hb]; · iexact Hb
  isplitl [Hh HO]
  · iapply (Entails.of_eq (region_pre m d).symm)
    isplitl [Hh]; · iexact Hh
    iexact HO
  isplitl [Hlev]; · iexact Hlev
  isplitl [Hc]; · iexact Hc
  iexact Ht

/-- What is left at the end: every buffer at `Wend`. -/
abbrev FIN (d : Dev nD) : sProp 𝕄 := StableHlo.held (d.tc : Thread nD τ) (Pipeline.ucRefs τ sig) (Wend m d)

/-- @main's text, its host operations grouped. -/
theorem main_eq (d : Dev nD) : main (F := F) d
    = (StableHlo.seq opsA >>= fun _ => sc.run d 0 >>= fun _ => StableHlo.seq opsB >>= fun _ =>
        Prog.lift (.customCall (SparseCore.inner (Pipeline.entry 0)) ()) >>= fun _ => StableHlo.seq opsC >>= fun _ => pure PUnit.unit) := by
  rfl

theorem hmain [∀ e, Nonempty (Elt F e)] (κ : GSem nD τ sig → ℕ) (d : Dev nD) :
    iprop((K (F := F)).ctx EH (P (fT m) (fI m) (fO m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄)
      = StableHlo.held (d.tc : Thread nD τ) (Pipeline.ucRefs τ sig) (StableHlo.launchContents m d) from
    Pipeline.unscopedBufs_held d (StableHlo.launchContents m d), main_eq]
  have hA := StableHlo.wp_seq (defs := (K (F := F)).defs (D (F := F))) (Ix := HIx 1) (Name := ℕ) (U := UU) (Lvl := ℕ) 𝒱 none Set.univ d (Pipeline.ucRefs τ sig)
    (fun _ => sc.run d 0 >>= fun _ => StableHlo.seq (opsB (F := F)) >>= fun _ =>
        Prog.lift (.customCall (SparseCore.inner (Pipeline.entry 0)) ()) >>= fun _ => StableHlo.seq opsC >>= fun _ => pure PUnit.unit)
    (K := fun _ => iprop((K (F := F)).tcSt EH d 1 ∗ FIN m d ∗ boundary (SparseCore.T d) ∗ (K (F := F)).tcSems0 d))
    opsA opsA_sub opsA_fresh (StableHlo.launchContents m d)
  rw [show StableHlo.after opsA (StableHlo.launchContents m d) = Wcall m d from rfl] at hA
  iintro ⟨#Hctx, Hst, ⟨Hb, Hh, Hts, -⟩, HG⟩
  iapply hA $$ [Hb Hh]
  · isplitl [Hb] <;> iassumption
  iintro ⟨Hb, Hh⟩
  -- the SparseCore call
  rw [wp_bind]
  ihave Hh := (Entails.of_eq (show (StableHlo.held (d.tc : Thread nD τ) (Pipeline.ucRefs τ sig) (Wcall m d) : sProp 𝕄)
      = iprop(iprop((iLoc d ↦{fullShare} fI m d) ∗ (tLoc d ↦{fullShare} fT m d) ∗ (oLoc d ↦{fullShare} fO m d))
        ∗ StableHlo.held (d.tc : Thread nD τ) (Pipeline.ucRefs τ sig \ callRefs) (Wcall m d)) by
    rw [StableHlo.held_sub_split _ callRefs_sub (Wcall m d), held_callRefs]; rfl)) $$ Hh
  icases Hh with ⟨⟨Hi, Ht, Ho⟩, Hrest⟩
  iapply ((K (F := F)).wp_run (D (F := F)) 𝒱 (EH := EH) (P := P (fT m) (fI m) (fO m)) κ d 0)
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq (fT m) (fI m) (fO m) d)) $$ Hdn
  icases Hdn' with ⟨Hi, Ht, Ho⟩
  ihave Hh := (Entails.of_eq (show iprop(iprop((iLoc d ↦{fullShare} fI m d) ∗ (tLoc d ↦{fullShare} fT m d) ∗ (oLoc d ↦{fullShare} fG (fT m) (fI m) d))
      ∗ StableHlo.held (d.tc : Thread nD τ) (Pipeline.ucRefs τ sig \ callRefs) (Wcall m d))
      = (StableHlo.held (d.tc : Thread nD τ) (Pipeline.ucRefs τ sig) (Wgot m d) : sProp 𝕄) by
    rw [StableHlo.held_sub_split _ callRefs_sub (Wgot m d), held_callRefs, held_rest, Wgot_v0, Wgot_v1, Wgot_v2])) $$ [Hi Ht Ho Hrest]
  · isplitr [Hrest]
    · isplitl [Hi]; · iexact Hi
      isplitl [Ht]; · iexact Ht
      iexact Ho
    iexact Hrest
  -- the operations between the calls
  have hB := StableHlo.wp_seq (defs := (K (F := F)).defs (D (F := F))) (Ix := HIx 1) (Name := ℕ) (U := UU) (Lvl := ℕ) 𝒱 none Set.univ d (Pipeline.ucRefs τ sig)
    (fun _ => Prog.lift (.customCall (SparseCore.inner (Pipeline.entry 0)) ()) >>= fun _ => StableHlo.seq (opsC (F := F)) >>= fun _ => pure PUnit.unit)
    (K := fun _ => iprop((K (F := F)).tcSt EH d 1 ∗ FIN m d ∗ boundary (SparseCore.T d) ∗ (K (F := F)).tcSems0 d))
    opsB opsB_sub opsB_fresh (Wgot m d)
  rw [show StableHlo.after opsB (Wgot m d) = Wreg m d from rfl] at hB
  iapply hB $$ [Hb Hh]
  · isplitl [Hb] <;> iassumption
  iintro ⟨Hb, Hh⟩
  rw [wp_bind]
  -- the TensorCore call
  unfold SparseCore.Cfg.tcSt
  icases Hst with ⟨⟨%Wt, %hW, HO⟩, Hst⟩
  iapply (wp_region m κ d _ (fT m) (fI m) (fO m))
  isplitr; · iexact Hctx
  isplitl [Hb]; · iexact Hb
  isplitl [Hh]; · iexact Hh
  isplitl [HO]
  · iexists Wt; isplitr
    · ipureintro; exact hW
    rw [show ((0 : Fin 1).val + 1) = 1 from rfl, (K (F := F)).Otc_end d (le_refl 1)]
    iexact HO
  isplitl [HG]; · iexact HG
  iintro ⟨Hb, Hh, ⟨%Wt', %hW', HO⟩⟩
  have hC := StableHlo.wp_seq (defs := (K (F := F)).defs (D (F := F))) (Ix := HIx 1) (Name := ℕ) (U := UU) (Lvl := ℕ) 𝒱 none Set.univ d (Pipeline.ucRefs τ sig)
    (fun _ => pure PUnit.unit)
    (K := fun _ => iprop((K (F := F)).tcSt EH d 1 ∗ FIN m d ∗ boundary (SparseCore.T d) ∗ (K (F := F)).tcSems0 d))
    opsC opsC_sub opsC_fresh (Wout m d)
  rw [show StableHlo.after opsC (Wout m d) = Wend m d from rfl] at hC
  unfold SparseCore.Cfg.tcSt at hC
  iapply hC $$ [Hb Hh]
  · isplitl [Hb] <;> iassumption
  iintro ⟨Hb, Hh⟩
  rw [wp_pure]; imodintro
  isplitl [HO Hst]
  · isplitl [HO]
    · iexists Wt'; isplitr
      · ipureintro; exact hW'
      rw [(K (F := F)).Otc_end d (le_refl 1)]
      iexact HO
    iexact Hst
  isplitl [Hh]; · iexact Hh
  isplitl [Hb] <;> iassumption

/-! ## The run -/

/-- Every buffer of @main's core at `Wend`. -/
def fq (d : Dev nD) (s' : Phys nD τ sig (Elt F)) : Prop :=
  ∀ b ∈ Pipeline.ucRefs τ sig, s'.mem.mem ((d.tc : Thread nD τ).1, b) = Wend m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((d.tc : Thread nD τ).1, b)) (Wend m d) s') $$ [Hh HSI]
  · isplitl [Hh] <;> iassumption
  icases Hr with ⟨%h, -⟩
  ipureintro; exact h

/-- The program's run, from ids that name rows of the table: every buffer of @main ends at `Wend`, every counter at zero. -/
theorem run_main [∀ e, Nonempty (Elt F e)] (hpre : IdsOK (fI m)) :
    θ_run (defs (F := F)) (threads (F := F)) ⟨m, fun _ => 0, ρ⟩ (fun r =>
      (∀ d : Dev nD, ∀ b : Ref sig .tc, b.isScoped = false → r.2.mem ((d.tc : Thread nD τ).loc b) = Wend m d (Proc.devRef .tc b))
        ∧ r.2.sem = fun _ => 0) :=
  SparseCore.Cfg.θ_run_sc_quiescent (K := K (F := F)) (D := D (F := F)) (𝒱 := 𝒱) (EH := EH) (P := P (fT m) (fI m) (fO m)) (A := ∅) facts v₀
    (fun q hq => match q with | 0 => nomatch hq)
    (fun q _ => match q with | 0 => tileObl (fT m) (fI m) (fO m) facts hpre)
    (fun q _ => match q with | 0 => SparseCore.Cfg.VecSplit.of_plain (vecSplit (fT m) (fI m) (fO m)))
    m ρ main (fun d => G d) (FIN m) (u₀ (F := F)) (sep_elim_left.trans (hu₀ (fT m) (fI m) (fO m))) (hmain m ρ) (fq m) (hfin m)
    _ (fun _ h hz => ⟨fun d b hb => h d _ (Pipeline.devRef_mem_ucRefs hb), hz⟩)

end Cert.Proof.Ideal

end
-- ==== Proof.Ideal.Frame.lean ====
/-
  What the run leaves of the arguments (all of them as they were), and the precondition read as a range of the ids:
  the program's frame.
-/
module

public import proofs.«01_k».proof.Proof.Ideal.Main
public import proofs.«01_k».proof.Pre_ids_in_range
public import Idealize.ShloMosaic.Lib.ReduceAll
public import Idealize.ShloMosaic.Lib.Pipeline.RegionArraysS

@[expose] public section

noncomputable section

namespace Cert.Proof.Ideal

open Cert.KernelIdeal Cert.KernelIdeal.Gen

open Idealize.ShloMosaic
open Idealize.ShloMosaic.TcCoe
open Idealize.SL Idealize.SL.Sem
open Idealize.ShloMosaic.StableHlo (after_of_forall_not_mem devRef_ne_of_ne)

variable {F : FTy → Type} [FloatOps F] [Named F]
variable (m : (ℓ : Loc nD τ sig) → Buf (Elt F) ℓ) (ρ : Dev nD → PrngReg)

/-- The buffers that @main writes. -/
abbrev written : List (Ref sig .tc) :=
  [main_v0, main_v1, main_v2, main_v3, main_v4, main_v5, main_v6, main_v7, main_cst, main_v8, main_v9, main_v10, main_v11]

/-- The reshapes before the SparseCore call write two buffers; -/
theorem Wcall_keep (d : Dev nD) (b : Ref sig .tc) (hb : b ∉ written) :
    Wcall m d (Proc.devRef .tc b) = m ((d.tc : Thread nD τ).loc b) := by
  have hne : ∀ r ∈ written, (Proc.devRef (τ := τ) .tc b) ≠ Proc.devRef .tc r := fun r hr => devRef_ne_of_ne fun e => hb (e ▸ hr)
  refine after_of_forall_not_mem _ _ fun op h => ?_
  fin_cases h
  · rw [StableHlo.reshape_writes, Finset.mem_singleton]; exact hne _ (by simp)
  · rw [StableHlo.reshape_writes, Finset.mem_singleton]; exact hne _ (by simp)

/-- up to the TensorCore call no argument is written, -/
theorem Wreg_keep (d : Dev nD) (b : Ref sig .tc) (hb : b ∉ written) :
    Wreg m d (Proc.devRef .tc b) = m ((d.tc : Thread nD τ).loc b) := by
  have hne : ∀ r ∈ written, (Proc.devRef (τ := τ) .tc b) ≠ Proc.devRef .tc r := fun r hr => devRef_ne_of_ne fun e => hb (e ▸ hr)
  refine (after_of_forall_not_mem _ _ fun op h => ?_).trans ((Function.update_of_ne (hne _ (by simp)) _ _).trans (Wcall_keep m d b hb))
  fin_cases h
  · rw [StableHlo.reshape_writes, Finset.mem_singleton]; exact hne _ (by simp)
  · rw [StableHlo.reshape_writes, Finset.mem_singleton]; exact hne _ (by simp)
  · rw [StableHlo.reshape_writes, Finset.mem_singleton]; exact hne _ (by simp)
  · rw [StableHlo.unary_writes, Finset.mem_singleton]; exact hne _ (by simp)
  · rw [StableHlo.unary_writes, Finset.mem_singleton]; exact hne _ (by simp)
  · rw [StableHlo.nullary_writes, Finset.mem_singleton]; exact hne _ (by simp)
  · rw [StableHlo.unary_writes, Finset.mem_singleton]; exact hne _ (by simp)
  · rw [StableHlo.binary_writes, Finset.mem_singleton]; exact hne _ (by simp)

theorem out_only (b : Ref sig .tc) (hb : b ≠ main_v10) (w : Fin 12) (e : Pipeline.arrRef cfg1.spec w = b) : (cfg1.win w).isOut = false := by
  fin_cases w
  all_goals first
    | rfl
    | exact absurd e.symm hb

/-- nor by it, nor after it. -/
theorem Wend_keep (d : Dev nD) (b : Ref sig .tc) (hb : b ∉ written) :
    Wend m d (Proc.devRef .tc b) = m ((d.tc : Thread nD τ).loc b) := by
  have hne : ∀ r ∈ written, (Proc.devRef (τ := τ) .tc b) ≠ Proc.devRef .tc r := fun r hr => devRef_ne_of_ne fun e => hb (e ▸ hr)
  refine (after_of_forall_not_mem _ _ fun op h => ?_).trans
    ((Pipeline.afterRegion_keeps (dats (Wreg m) 0 d) (Wreg m d) winFacts1.arr_inj (fun w => dats_A (Wreg m) d w) b
      fun w e => out_only b (fun e => hb (e ▸ by simp)) w e).trans (Wreg_keep m d b hb))
  fin_cases h
  rw [StableHlo.reshape_writes, Finset.mem_singleton]; exact hne _ (by simp)

/-! ## The ids -/

theorem andi_ofBool (a b : Bool) : IntOp.andi (BitVec.ofBool a) (BitVec.ofBool b) = BitVec.ofBool (a && b) := by
  cases a <;> cases b <;> decide
theorem ofBool_one (a : Bool) : (BitVec.ofBool a = 1#1) = (a = true) := by cases a <;> decide

/-- A word that is at least 0 and below 100000, read signed, is a number below 100000. -/
theorem lt_of_compared (w : BitVec 32) (e : IntOp.andi (IntOp.cmpi .sge w 0#32) (IntOp.cmpi .slt w 100000#32) = 1#1) :
    w.toNat < 100000 := by
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- Ids that are all in range reach the SparseCore call in range. -/
theorem idsOK_of_lt (h : ∀ (d : Dev nD) (j : S4x2048.Idx), ((m ((d.tc : Thread nD τ).loc main_arg1) : IVec S4x2048 32) j).toNat < 100000) :
    IdsOK (fI m) := by
  intro d j
  have e : fI m d = shapeCast S8192 (m ((d.tc : Thread nD τ).loc main_arg1) : IVec S4x2048 32) shapeCasts_S4x2048_S8192 := by
    show StableHlo.after opsA (StableHlo.launchContents m d) (Proc.devRef .tc main_v1) = _
    after_results
    rfl
  rw [e]
  exact h d _

/-- The precondition, element by element. -/
theorem ids_of_pre [Cert.Pre_ids_in_range.Facts]
    {a0 a1 a2 a3 a4 a5 a6 a7 a8 a9 a10 a11 a12 a13 a14 a15 a16 a17 a18 a19 a20}
    (h : Cert.Pre_ids_in_range.fn (F := F) a0 a1 a2 a3 a4 a5 a6 a7 a8 a9 a10 a11 a12 a13 a14 a15 a16 a17 a18 a19 a20 = fun _ => 1#1)
    (j : S4x2048.Idx) : (a1 j).toNat < 100000 := by
  haveI : Subsingleton (Cert.Pre_ids_in_range.S_).Idx := ⟨fun a b => funext fun i => i.elim0⟩
  have e := Host.reduce_andi_all _ _ _ _ (fun i => i.elim0) (congrFun h (fun i => i.elim0)) j
  exact lt_of_compared _ e

end Cert.Proof.Ideal

end
-- ==== Proof.Math.Top2.lean ====
module

public import Idealize.ShloMosaic.Lib.SortPrefix
public import Idealize.ShloMosaic.PureOps.Ideal
public import Mathlib.Data.EReal.Operations
public import Mathlib.Data.Finset.Max
public import Mathlib.Data.Prod.Lex

@[expose] public section

/-! The largest and the second largest entry of a list of extended reals, the earlier of equal entries first. -/

noncomputable section

namespace Cert.Proof.Math

open Idealize.ShloMosaic

variable {n : Nat}

/-- Entry `i` is the largest, and the first of those equal to it. -/
def IsFirst (x : Fin n → EReal) (i : Fin n) : Prop := ∀ p, x p < x i ∨ (x p = x i ∧ i ≤ p)

/-- Entry `j` comes next after `i`. -/
def IsNext (x : Fin n → EReal) (i j : Fin n) : Prop := j ≠ i ∧ ∀ p, p ≠ i → x p < x j ∨ (x p = x j ∧ j ≤ p)

/-- Among the positions of a set that is not empty one is first. -/
theorem exists_first (x : Fin n → EReal) (s : Finset (Fin n)) (hs : s.Nonempty) :
    ∃ i ∈ s, ∀ p ∈ s, x p < x i ∨ (x p = x i ∧ i ≤ p) := by
  obtain ⟨i, hi, h⟩ := s.exists_max_image (fun p => toLex (x p, OrderDual.toDual p)) hs
  refine ⟨i, hi, fun p hp => ?_⟩
  have := h p hp
  rw [Prod.Lex.toLex_le_toLex] at this
  rcases this with h | ⟨h, h'⟩
  · exact Or.inl h
  · exact Or.inr ⟨h, h'⟩

theorem exists_top2 (x : Fin n → EReal) (hn : 2 ≤ n) : ∃ i j, IsFirst x i ∧ IsNext x i j := by
  obtain ⟨i, -, hi⟩ := exists_first x Finset.univ ⟨⟨0, by omega⟩, Finset.mem_univ _⟩
  obtain ⟨j, hj, h⟩ := exists_first x (Finset.univ.erase i) (by
    rw [← Finset.card_pos, Finset.card_erase_of_mem (Finset.mem_univ _), Finset.card_univ, Fintype.card_fin]; omega)
  exact ⟨i, j, fun p => hi p (Finset.mem_univ _), (Finset.mem_erase.mp hj).1,
    fun p hp => h p (Finset.mem_erase.mpr ⟨hp, Finset.mem_univ _⟩)⟩

theorem IsFirst.le {x : Fin n → EReal} {i : Fin n} (h : IsFirst x i) (p : Fin n) : x p ≤ x i := by
  rcases h p with h | h
  · exact h.le
  · exact h.1.le

theorem IsNext.le {x : Fin n → EReal} {i j : Fin n} (h : IsNext x i j) (p : Fin n) (hp : p ≠ i) : x p ≤ x j := by
  rcases h.2 p hp with h | h
  · exact h.le
  · exact h.1.le

/-- A stable sort does not see a tie broken by the position. -/
theorem stableSort_tie {ι : Type} (R R' : ι → ι → Bool) : (l : List ι) → (l.Pairwise fun a b => R b a = R' b a) →
    stableSort R l = stableSort R' l
  | [], _ => rfl
  | a :: l, h => by
      rw [List.pairwise_cons] at h
      unfold stableSort
      rw [stableSort_tie R R' l h.2]
      exact insertBefore_congr R R' a _ fun b hb => h.1 b ((perm_stableSort R' l).mem_iff.mp hb)

/-- The order of a sort by decreasing value. -/
def gtB (x : Fin n → EReal) (k k' : Fin n) : Bool := decide (x k' < x k)

/-- The same with the position after the value. -/
def gtPos (x : Fin n → EReal) (k k' : Fin n) : Bool :=
  decide (x k' < x k) || (decide (x k = x k') && decide (k < k'))

theorem gtPos_total (x : Fin n → EReal) : StrictTotalBefore (gtPos x) :=
  StrictTotalBefore.of_key_then_position (fun a b : EReal => decide (b < a)) x (by simp) (fun a b c hab hbc => by
    simp only [decide_eq_true_eq] at *; exact hbc.trans hab) fun a b => by
    simp only [decide_eq_true_eq]
    rcases lt_trichotomy a b with h | h | h <;> simp [h]

theorem sortedFrom_gt (x : Fin n → EReal) (k : Fin n) : sortedFrom (gtB x) k = sortedFrom (gtPos x) k := by
  have h : sortPositions n (gtB x) = sortPositions n (gtPos x) := by
    refine stableSort_tie _ _ _ ((List.pairwise_lt_finRange n).imp fun {a b} hab => ?_)
    simp [gtB, gtPos, hab.le]
  unfold sortedFrom
  simp only [h, List.get_eq_getElem, Fin.val_cast]

theorem gtPos_false {x : Fin n → EReal} {p i : Fin n} (h : x p < x i ∨ (x p = x i ∧ i ≤ p)) : gtPos x p i = false := by
  simp only [gtPos, Bool.or_eq_false_iff, Bool.and_eq_false_iff]
  rcases h with h | ⟨h, h'⟩
  · exact ⟨decide_eq_false (not_lt.mpr h.le), Or.inl (decide_eq_false h.ne)⟩
  · exact ⟨decide_eq_false (not_lt.mpr h.le), Or.inr (decide_eq_false (not_lt.mpr h'))⟩

/-- The sort puts the first entry at 0 and the next one at 1. -/
theorem sortedFrom_top2 (x : Fin n → EReal) {i j : Fin n} (h1 : IsFirst x i) (h2 : IsNext x i j) (hn : 2 ≤ n) :
    sortedFrom (gtB x) ⟨0, by omega⟩ = i ∧ sortedFrom (gtB x) ⟨1, by omega⟩ = j := by
  have key := (gtPos_total x).sortedFrom_eq_of_prefix (k := 2) hn ![i, j] (by
      intro a b hab
      fin_cases a <;> fin_cases b <;> simp_all [h2.1, h2.1.symm]) (by
      intro a b hab
      have : a = 0 ∧ b = 1 := by omega
      obtain ⟨rfl, rfl⟩ := this
      exact gtPos_false (h1 j)) (by
      intro a p hp
      have hpi : p ≠ i := fun e => hp 0 e.symm
      fin_cases a
      · exact gtPos_false (h1 p)
      · exact gtPos_false (h2.2 p hpi))
  rw [sortedFrom_gt, sortedFrom_gt]
  exact ⟨key 0, key 1⟩

end Cert.Proof.Math
-- ==== Proof.Math.Neuron.lean ====
/-
  The integrate-and-fire neuron over the extended reals, in the two forms in which the programs run it: the reference
  charges a membrane, fires a logistic spike and subtracts it; the kernel carries five times the distance of the membrane
  from its threshold and fires the hyperbolic tangent of that. Both end with the same mean of sixteen spikes.
-/
module

public import Idealize.ShloMosaic.PureOps.Ideal
public import Idealize.ShloMosaic.PureOps.Ideal.Laws
public import Idealize.ShloMosaic.Lib.IdealHost
public import Mathlib.Analysis.SpecialFunctions.Trigonometric.DerivHyp

@[expose] public section

noncomputable section

namespace Cert.Proof.Math

open Idealize.ShloMosaic

/-! ### Constants of the two programs -/

theorem c_9_4 : Ideal.ofBits .f32 0x40100000#32 = ((9 / 4 : ℝ) : EReal) := by
  simp [Ideal.ofBits, Ideal.ieee]; rw [← EReal.coe_mul]; norm_num
theorem c_9_4h : Ideal.ofBits .bf16 0x4010#16 = ((9 / 4 : ℝ) : EReal) := by
  simp [Ideal.ofBits, Ideal.ieee]; rw [← EReal.coe_mul]; norm_num
theorem c_11_4 : Ideal.ofBits .f32 0x40300000#32 = ((11 / 4 : ℝ) : EReal) := by
  simp [Ideal.ofBits, Ideal.ieee]; rw [← EReal.coe_mul]; norm_num
theorem c_11_4h : Ideal.ofBits .bf16 0x4030#16 = ((11 / 4 : ℝ) : EReal) := by
  simp [Ideal.ofBits, Ideal.ieee]; rw [← EReal.coe_mul]; norm_num
theorem c_half : Ideal.ofBits .f32 0x3F000000#32 = ((1 / 2 : ℝ) : EReal) := by
  simp [Ideal.ofBits, Ideal.ieee]; rw [← EReal.coe_mul]; norm_num
theorem c_halfh : Ideal.ofBits .bf16 0x3F00#16 = ((1 / 2 : ℝ) : EReal) := by
  simp [Ideal.ofBits, Ideal.ieee]; rw [← EReal.coe_mul]; norm_num
theorem c_32nd : Ideal.ofBits .f32 0x3D000000#32 = ((1 / 32 : ℝ) : EReal) := by
  simp [Ideal.ofBits, Ideal.ieee]; rw [← EReal.coe_mul]; norm_num
theorem c_32ndh : Ideal.ofBits .bf16 0x3D00#16 = ((1 / 32 : ℝ) : EReal) := by
  simp [Ideal.ofBits, Ideal.ieee]; rw [← EReal.coe_mul]; norm_num
theorem c_5 : Ideal.ofBits .f32 0x40A00000#32 = ((5 : ℝ) : EReal) := by
  simp [Ideal.ofBits, Ideal.ieee]; rw [← EReal.coe_mul]; norm_num
theorem c_9 : Ideal.ofBits .f32 0x41100000#32 = ((9 : ℝ) : EReal) := by
  simp [Ideal.ofBits, Ideal.ieee]; rw [← EReal.coe_mul]; norm_num
theorem c_10 : Ideal.ofBits .f32 0x41200000#32 = ((10 : ℝ) : EReal) := by
  simp [Ideal.ofBits, Ideal.ieee]; rw [← EReal.coe_mul]; norm_num
theorem c_16 : Ideal.ofBits .f32 0x41800000#32 = ((16 : ℝ) : EReal) := by
  simp [Ideal.ofBits, Ideal.ieee]; rw [← EReal.coe_mul]; norm_num
theorem c_3_2 : Ideal.ofBits .f32 0x3FC00000#32 = ((3 / 2 : ℝ) : EReal) := by
  simp [Ideal.ofBits, Ideal.ieee]; rw [← EReal.coe_mul]; norm_num
theorem c_neg1 : Ideal.ofBits .f32 0xBF800000#32 = ((-1 : ℝ) : EReal) := by
  simp [Ideal.ofBits, Ideal.ieee]; rw [← EReal.coe_mul]; norm_num
theorem c_4 : Ideal.ofBits .f32 0x40800000#32 = ((4 : ℝ) : EReal) := by
  simp [Ideal.ofBits, Ideal.ieee]; rw [← EReal.coe_mul]; norm_num
theorem c_768 : Ideal.ofBits .f32 0x44400000#32 = ((768 : ℝ) : EReal) := by
  simp [Ideal.ofBits, Ideal.ieee]; rw [← EReal.coe_mul]; norm_num

/-! ### A logistic as a hyperbolic tangent -/

/-- The logistic function as the reference writes it. -/
def sig (x : EReal) : EReal := Ideal.div 1 (1 + Ideal.exp (-x))

theorem div_one (x : EReal) : Ideal.div x 1 = x := by
  rw [show (1 : EReal) = ((1 : ℝ) : EReal) from rfl, Ideal.div_coe one_ne_zero]; simp

theorem div_real (x : EReal) {y : ℝ} (h : y ≠ 0) : Ideal.div x (y : EReal) = x * ((1 / y : ℝ) : EReal) :=
  Ideal.div_coe h x

theorem exp_coe (r : ℝ) : Ideal.exp (r : EReal) = (Real.exp r : EReal) := rfl
theorem exp_top : Ideal.exp ⊤ = ⊤ := rfl
theorem exp_bot : Ideal.exp ⊥ = 0 := rfl

theorem sig_coe (r : ℝ) : sig (r : EReal) = ((1 / 2 + 1 / 2 * Real.tanh (r / 2) : ℝ) : EReal) := by
  have e : (1 : EReal) + Ideal.exp (-(r : EReal)) = ((1 + Real.exp (-r) : ℝ) : EReal) := by
    rw [show -(r : EReal) = ((-r : ℝ) : EReal) by simp, exp_coe]; simp
  have hp : (1 + Real.exp (-r) : ℝ) ≠ 0 := by positivity
  rw [sig, e, Ideal.div_coe hp, one_mul]
  congr 1
  have h1 : Real.exp (-r) = Real.exp (-(r / 2)) * Real.exp (-(r / 2)) := by rw [← Real.exp_add]; congr 1; ring
  have h2 : Real.exp (r / 2) * Real.exp (-(r / 2)) = 1 := by rw [← Real.exp_add]; simp
  rw [Real.tanh_eq_sinh_div_cosh, Real.sinh_eq, Real.cosh_eq, h1]
  have p1 := Real.exp_pos (r / 2)
  have p2 := Real.exp_pos (-(r / 2))
  generalize Real.exp (r / 2) = a at *
  generalize Real.exp (-(r / 2)) = b at *
  have : a + b ≠ 0 := by positivity
  have : 1 + b * b ≠ 0 := by positivity
  field_simp
  nlinarith [h2]

theorem sig_top : sig ⊤ = 1 := by rw [sig, EReal.neg_top, exp_bot, add_zero, div_one]
theorem sig_bot : sig ⊥ = 0 := by
  rw [sig, EReal.neg_bot, exp_top, show (1 : EReal) + ⊤ = ⊤ from rfl, Ideal.div, if_neg (by simp)]; simp

theorem tanh_coe (r : ℝ) : Ideal.tanh (r : EReal) = (Real.tanh r : EReal) := rfl
theorem tanh_top : Ideal.tanh ⊤ = 1 := rfl
theorem tanh_bot : Ideal.tanh ⊥ = -1 := rfl

/-- A hyperbolic tangent is a real number. -/
theorem tanh_real (x : EReal) : ∃ r : ℝ, Ideal.tanh x = (r : EReal) := by
  induction x using EReal.rec with
  | bot => exact ⟨-1, by simp [tanh_bot]⟩
  | coe r => exact ⟨_, rfl⟩
  | top => exact ⟨1, by simp [tanh_top]⟩

/-- A logistic is half of one plus the hyperbolic tangent of half the argument. -/
theorem sig_eq (x : EReal) : sig x = ((1 / 2 : ℝ) : EReal) + ((1 / 2 : ℝ) : EReal) * Ideal.tanh (((1 / 2 : ℝ) : EReal) * x) := by
  induction x using EReal.rec with
  | bot =>
    rw [sig_bot, EReal.coe_mul_bot_of_pos (by norm_num), tanh_bot, show (-1 : EReal) = ((-1 : ℝ) : EReal) by simp,
      ← EReal.coe_mul, ← EReal.coe_add]; norm_num
  | coe r =>
    rw [sig_coe, ← EReal.coe_mul, tanh_coe, ← EReal.coe_mul, ← EReal.coe_add]; congr 3; ring_nf
  | top =>
    rw [sig_top, EReal.coe_mul_top_of_pos (by norm_num), tanh_top, mul_one, ← EReal.coe_add]; norm_num

/-- A logistic is a real number between zero and one. -/
theorem sig_real (x : EReal) : ∃ r : ℝ, 0 ≤ r ∧ r ≤ 1 ∧ sig x = (r : EReal) := by
  induction x using EReal.rec with
  | bot => exact ⟨0, le_refl _, by norm_num, by simp [sig_bot]⟩
  | coe r =>
    refine ⟨1 / 2 + 1 / 2 * Real.tanh (r / 2), ?_, ?_, sig_coe r⟩
    · have := Real.neg_one_lt_tanh (r / 2); linarith
    · have := Real.tanh_lt_one (r / 2); linarith
  | top => exact ⟨1, by norm_num, le_refl _, by simp [sig_top]⟩

/-! ### The two neurons -/

/-- The kernel's state after `n` further steps under the drive `J`. -/
def kv (J : EReal) : ℕ → EReal
  | 0 => J - ((9 / 4 : ℝ) : EReal)
  | n + 1 => ((9 / 10 : ℝ) : EReal) * kv J n + J - ((9 / 4 : ℝ) : EReal) * Ideal.tanh (kv J n)

/-- The sum of the kernel's first `n + 1` hyperbolic tangents. -/
def kacc (J : EReal) : ℕ → EReal
  | 0 => Ideal.tanh (kv J 0)
  | n + 1 => kacc J n + Ideal.tanh (kv J (n + 1))

/-- The rate that the kernel writes after sixteen steps. -/
def kRate (J : EReal) : EReal := ((1 / 2 : ℝ) : EReal) + kacc J 15 * ((1 / 32 : ℝ) : EReal)

/-- The reference's spike at membrane `m`. -/
def spk (m : EReal) : EReal := sig (((10 : ℝ) : EReal) * (m - 1))

/-- The reference's membrane, charged by `I`, at the moment of spike `n`. -/
def mem (I : EReal) : ℕ → EReal
  | 0 => Ideal.div (((9 : ℝ) : EReal) * 0) ((10 : ℝ) : EReal) + I
  | n + 1 => Ideal.div (((9 : ℝ) : EReal) * (mem I n - spk (mem I n))) ((10 : ℝ) : EReal) + I

/-- The sum of the reference's first `n` spikes. -/
def racc (I : EReal) : ℕ → EReal
  | 0 => 0
  | n + 1 => racc I n + spk (mem I n)

/-- The rate of the reference's neuron. -/
def rRate (I : EReal) : EReal := Ideal.div (racc I 16) ((16 : ℝ) : EReal)

/-- The reference's membrane over the reals. -/
def memR (r : ℝ) : ℕ → ℝ
  | 0 => r
  | n + 1 => 9 / 10 * (memR r n - (1 / 2 + 1 / 2 * Real.tanh (5 * (memR r n - 1)))) + r

theorem spk_coe (r : ℝ) : spk (r : EReal) = ((1 / 2 + 1 / 2 * Real.tanh (5 * (r - 1)) : ℝ) : EReal) := by
  rw [spk, show ((10 : ℝ) : EReal) * ((r : EReal) - 1) = ((10 * (r - 1) : ℝ) : EReal) by push_cast; rfl, sig_coe]
  congr 4; ring

theorem spk_top : spk ⊤ = 1 := by
  rw [spk, show (⊤ : EReal) - 1 = ⊤ from rfl, EReal.coe_mul_top_of_pos (by norm_num), sig_top]
theorem spk_bot : spk ⊥ = 0 := by
  rw [spk, show (⊥ : EReal) - 1 = ⊥ from rfl, EReal.coe_mul_bot_of_pos (by norm_num), sig_bot]

theorem mem_coe (r : ℝ) (n : ℕ) : mem r n = (memR r n : EReal) := by
  induction n with
  | zero => simp [mem, memR, div_real]
  | succ n ih =>
    rw [mem, ih, spk_coe, div_real _ (by norm_num), memR]; norm_cast; congr 1; ring

theorem kv_coe (r : ℝ) (n : ℕ) : kv ((5 * r - 11 / 4 : ℝ) : EReal) n = ((5 * (memR r n - 1) : ℝ) : EReal) := by
  induction n with
  | zero => rw [kv, memR]; norm_cast; ring
  | succ n ih => rw [kv, ih, tanh_coe, memR]; norm_cast; ring

/-- A sum of hyperbolic tangents over the reals. -/
def kaccR (r : ℝ) : ℕ → ℝ
  | 0 => Real.tanh (5 * (memR r 0 - 1))
  | n + 1 => kaccR r n + Real.tanh (5 * (memR r (n + 1) - 1))

theorem kacc_coe (r : ℝ) (n : ℕ) : kacc ((5 * r - 11 / 4 : ℝ) : EReal) n = (kaccR r n : EReal) := by
  induction n with
  | zero => rw [kacc, kv_coe, tanh_coe, kaccR]
  | succ n ih => rw [kacc, ih, kv_coe, tanh_coe, kaccR, EReal.coe_add]

theorem racc_coe (r : ℝ) (n : ℕ) : racc r (n + 1) = (((n + 1) / 2 + kaccR r n / 2 : ℝ) : EReal) := by
  induction n with
  | zero => rw [racc, racc, mem_coe, spk_coe, kaccR, zero_add]; congr 1; push_cast; ring
  | succ n ih => rw [racc, ih, mem_coe, spk_coe, kaccR, ← EReal.coe_add]; congr 1; push_cast; ring

theorem kv_top (n : ℕ) : kv ⊤ n = ⊤ := by
  induction n with
  | zero => rfl
  | succ n ih =>
    rw [kv, ih, tanh_top, EReal.coe_mul_top_of_pos (by norm_num), mul_one]; rfl
theorem kv_bot (n : ℕ) : kv ⊥ n = ⊥ := by
  induction n with
  | zero => rfl
  | succ n ih =>
    rw [kv, ih, tanh_bot, EReal.coe_mul_bot_of_pos (by norm_num)]; simp
theorem kacc_top (n : ℕ) : kacc ⊤ n = ((n + 1 : ℝ) : EReal) := by
  induction n with
  | zero => simp [kacc, kv_top, tanh_top]
  | succ n ih => rw [kacc, ih, kv_top, tanh_top]; push_cast; rfl
theorem kacc_bot (n : ℕ) : kacc ⊥ n = ((-(n + 1) : ℝ) : EReal) := by
  induction n with
  | zero => simp [kacc, kv_bot, tanh_bot]
  | succ n ih =>
    rw [kacc, ih, kv_bot, tanh_bot, show (-1 : EReal) = ((-1 : ℝ) : EReal) by simp, ← EReal.coe_add]
    congr 1; push_cast; ring
theorem mem_top (n : ℕ) : mem ⊤ n = ⊤ := by
  induction n with
  | zero => rw [mem, mul_zero, div_real _ (by norm_num), zero_mul, zero_add]
  | succ n ih =>
    rw [mem, ih, spk_top, show (⊤ : EReal) - 1 = ⊤ from rfl, EReal.coe_mul_top_of_pos (by norm_num),
      div_real _ (by norm_num), EReal.top_mul_coe_of_pos (by norm_num)]; rfl
theorem mem_bot (n : ℕ) : mem ⊥ n = ⊥ := by
  cases n <;> simp [mem]
theorem racc_top (n : ℕ) : racc ⊤ n = ((n : ℝ) : EReal) := by
  induction n with
  | zero => simp [racc]
  | succ n ih => rw [racc, ih, mem_top, spk_top]; push_cast; rfl
theorem racc_bot (n : ℕ) : racc ⊥ n = 0 := by
  induction n with
  | zero => simp [racc]
  | succ n ih => rw [racc, ih, mem_bot, spk_bot, zero_add]

/-- The kernel's neuron, driven by `5 I - 11/4`, writes the rate of the reference's neuron charged by `I`. -/
theorem kRate_eq (I : EReal) : kRate (((5 : ℝ) : EReal) * I - ((11 / 4 : ℝ) : EReal)) = rRate I := by
  induction I using EReal.rec with
  | bot =>
    rw [EReal.coe_mul_bot_of_pos (by norm_num), show (⊥ : EReal) - ((11 / 4 : ℝ) : EReal) = ⊥ from rfl, kRate, kacc_bot,
      rRate, racc_bot, div_real _ (by norm_num), zero_mul, ← EReal.coe_mul, ← EReal.coe_add]; norm_num
  | coe r =>
    rw [show ((5 : ℝ) : EReal) * (r : EReal) - ((11 / 4 : ℝ) : EReal) = ((5 * r - 11 / 4 : ℝ) : EReal) by push_cast; rfl,
      kRate, kacc_coe, rRate, racc_coe, div_real _ (by norm_num)]
    norm_cast; push_cast; ring
  | top =>
    rw [EReal.coe_mul_top_of_pos (by norm_num), show (⊤ : EReal) - ((11 / 4 : ℝ) : EReal) = ⊤ from rfl, kRate, kacc_top,
      rRate, racc_top, div_real _ (by norm_num), ← EReal.coe_mul, ← EReal.coe_mul, ← EReal.coe_add]
    congr 1; push_cast; norm_num

/-- The reference's rate is a real number. -/
theorem rRate_real (I : EReal) : ∃ r : ℝ, rRate I = (r : EReal) := by
  induction I using EReal.rec with
  | bot => exact ⟨0, by rw [rRate, racc_bot, div_real _ (by norm_num), zero_mul]; rfl⟩
  | coe r => exact ⟨_, by rw [rRate, racc_coe, div_real _ (by norm_num), ← EReal.coe_mul]⟩
  | top => exact ⟨_, by rw [rRate, racc_top, div_real _ (by norm_num), ← EReal.coe_mul]⟩

end Cert.Proof.Math
-- ==== Proof.Math.Router.lean ====
module

public import proofs.«01_k».proof.Proof.Math.Top2
public import proofs.«01_k».proof.Proof.Math.Neuron
public import Mathlib.Algebra.BigOperators.Ring.Finset
public import Mathlib.Data.Finset.Fold
public import Mathlib.Algebra.Order.BigOperators.Group.Finset

@[expose] public section

/-! The second largest score of a row, and the router's two chosen experts with their weights. -/

noncomputable section

namespace Cert.Proof.Math

open Idealize.ShloMosaic

variable {n : Nat}

/-- The largest entry. -/
def top (x : Fin n → EReal) : EReal := Finset.univ.fold max ⊥ x

theorem top_eq {x : Fin n → EReal} {i : Fin n} (h : ∀ p, x p ≤ x i) : top x = x i :=
  le_antisymm (Finset.fold_max_le _ |>.mpr ⟨bot_le, fun p _ => h p⟩)
    (Finset.le_fold_max _ |>.mpr (Or.inr ⟨i, Finset.mem_univ _, le_rfl⟩))

/-- The second largest entry: the largest itself if two entries reach it, and otherwise the largest of the rest. -/
def kth (z : Fin n → EReal) : EReal :=
  if ((3 / 2 : ℝ) : EReal) ≤ ∑ p, (if top z ≤ z p then (1 : EReal) else 0) then top z
  else top fun p => if top z ≤ z p then ⊥ else z p

theorem kth_eq {z : Fin n → EReal} {i j : Fin n} (h1 : IsFirst z i) (h2 : IsNext z i j) : kth z = z j := by
  have ht : top z = z i := top_eq h1.le
  unfold kth
  rw [ht, Finset.sum_boole]
  have hi : i ∈ Finset.univ.filter fun p => z i ≤ z p := by simp
  rcases h1 j with h | ⟨h, -⟩
  · have hf : (Finset.univ.filter fun p => z i ≤ z p) = {i} := by
      ext p
      simp only [Finset.mem_filter, Finset.mem_univ, true_and, Finset.mem_singleton]
      constructor
      · intro hp
        by_contra hne
        exact absurd (hp.trans (h2.le p hne)) (not_le.mpr h)
      · rintro rfl; exact le_rfl
    rw [hf, if_neg]
    · have hj : ¬ z i ≤ z j := not_le.mpr h
      rw [top_eq (i := j)]
      · rw [if_neg hj]
      · intro p
        rw [if_neg hj]
        split
        · exact bot_le
        · next hp =>
          refine h2.le p fun e => hp ?_
          rw [e]
    · simp only [Finset.card_singleton, Nat.cast_one, not_le]
      rw [← EReal.coe_one, EReal.coe_lt_coe_iff]
      norm_num
  · have hc : 2 ≤ (Finset.univ.filter fun p => z i ≤ z p).card := by
      have : ({i, j} : Finset (Fin n)) ⊆ Finset.univ.filter fun p => z i ≤ z p := by
        intro p hp
        simp only [Finset.mem_insert, Finset.mem_singleton] at hp
        rcases hp with rfl | rfl
        · exact hi
        · simp [h]
      refine le_trans ?_ (Finset.card_le_card this)
      rw [Finset.card_pair h2.1.symm]
    rw [if_pos, h]
    have : ((2 : ℝ) : EReal) ≤ (((Finset.univ.filter fun p => z i ≤ z p).card : ℝ) : EReal) := by
      rw [EReal.coe_le_coe_iff]; exact_mod_cast hc
    refine le_trans ?_ this
    rw [EReal.coe_le_coe_iff]; norm_num

/-- A number, cut off at the largest signed one, as a word. -/
def w31 (a : Nat) : BitVec 32 := BitVec.ofNat 32 (min a 2147483647)

/-- The smaller of two such words is the word of the smaller number. -/
theorem minsi_w31 (a b : Nat) : w31 (min a b) = IntOp.minsi (w31 a) (w31 b) := by
  symm
  unfold IntOp.minsi w31
  have hs : (BitVec.ofNat 32 (min a 2147483647)).slt (BitVec.ofNat 32 (min b 2147483647))
      = decide (min a 2147483647 < min b 2147483647) := by
    have e : ∀ c, (BitVec.ofNat 32 (min c 2147483647)).toInt = ((min c 2147483647 : Nat) : Int) := by
      intro c
      rw [BitVec.toInt_eq_toNat_of_lt] <;> simp only [BitVec.toNat_ofNat] <;> omega
    unfold BitVec.slt
    rw [e, e]
    simp only [Nat.cast_lt]
  rw [hs]
  by_cases h : min a 2147483647 < min b 2147483647
  · simp only [h, decide_true, if_true]; congr 1; omega
  · simp only [h, decide_false]; simp only [Bool.false_eq_true, if_false]; congr 1; omega

/-- The first position whose entry reaches the largest, as a word. -/
theorem first_word {x : Fin 8 → EReal} {i : Fin 8} (h : IsFirst x i) :
    Finset.univ.fold IntOp.minsi (2147483647#32) (fun k : Fin 8 => if top x ≤ x k then BitVec.ofNat 32 k.val else 8#32)
      = BitVec.ofNat 32 i.val := by
  have e : (fun k : Fin 8 => if top x ≤ x k then BitVec.ofNat 32 k.val else 8#32)
      = fun k : Fin 8 => w31 (if top x ≤ x k then k.val else 8) := by
    funext k
    have := k.isLt
    split
    · unfold w31; congr 1; omega
    · rfl
  rw [e, show (2147483647#32) = w31 2147483647 from rfl,
    Finset.fold_hom (m := w31) minsi_w31]
  have ht : top x = x i := top_eq h.le
  have : Finset.univ.fold min 2147483647 (fun k : Fin 8 => if top x ≤ x k then k.val else 8) = i.val := by
    have := i.isLt
    refine le_antisymm (Finset.fold_min_le _ |>.mpr (Or.inr ⟨i, Finset.mem_univ _, by rw [if_pos ht.le]⟩))
      (Finset.le_fold_min _ |>.mpr ⟨by omega, fun k _ => ?_⟩)
    split
    · next hk =>
      rw [ht] at hk
      rcases h k with h' | ⟨-, h'⟩
      · exact absurd hk (not_le.mpr h')
      · exact h'
    · omega
  rw [this]
  unfold w31; congr 1; omega

theorem first_bit {x : Fin 8 → EReal} {i : Fin 8} (h : IsFirst x i) (e : Fin 8) :
    IntOp.cmpi .eq (BitVec.ofNat 32 e.val)
      (Finset.univ.fold IntOp.minsi (2147483647#32) (fun k : Fin 8 => if top x ≤ x k then BitVec.ofNat 32 k.val else 8#32))
      = BitVec.ofBool (decide (e = i)) := by
  rw [first_word h]
  have : ∀ e i : Fin 8, IntOp.cmpi .eq (BitVec.ofNat 32 e.val) (BitVec.ofNat 32 i.val) = BitVec.ofBool (decide (e = i)) := by
    decide
  exact this e i

/-- With the first expert struck out the next one is first. -/
theorem first_of_next {a : Fin 8 → ℝ} (ha : ∀ k, 0 < a k) {i j : Fin 8}
    (h : IsNext (fun k => ((a k : ℝ) : EReal)) i j) :
    IsFirst (fun k => if k = i then ((-1 : ℝ) : EReal) else ((a k : ℝ) : EReal)) j := by
  intro p
  simp only [h.1, if_false]
  by_cases hp : p = i
  · left
    simp only [hp, if_true, EReal.coe_lt_coe_iff]
    linarith [ha j]
  · simp only [hp, if_false]
    exact h.2 p hp

/-- The weight of expert `e`, experts `i` and `j` being chosen. -/
def wt (ε : EReal) (x : Fin 8 → EReal) (i j e : Fin 8) : EReal :=
  Ideal.div ((if e = i then x e else 0) + (if e = j then x e else 0)) (x i + x j + ε * ∑ k, x k)

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem div_coe (a b : ℝ) (h : b ≠ 0) : Ideal.div (a : EReal) (b : EReal) = ((a / b : ℝ) : EReal) := by
  rw [div_real _ h, ← EReal.coe_mul]; congr 1; ring

/-- The chosen experts of the quotients are those of the exponentials. -/
theorem first_div {a : Fin 8 → ℝ} {S : ℝ} (hS : 0 < S) {i : Fin 8} (h : IsFirst (fun k => ((a k : ℝ) : EReal)) i) :
    IsFirst (fun k => ((a k / S : ℝ) : EReal)) i := by
  intro p
  rcases h p with h | ⟨h, h'⟩
  · left
    rw [EReal.coe_lt_coe_iff] at *
    exact div_lt_div_of_pos_right h hS
  · right
    rw [EReal.coe_eq_coe_iff] at *
    exact ⟨by rw [h], h'⟩

theorem next_div {a : Fin 8 → ℝ} {S : ℝ} (hS : 0 < S) {i j : Fin 8} (h : IsNext (fun k => ((a k : ℝ) : EReal)) i j) :
    IsNext (fun k => ((a k / S : ℝ) : EReal)) i j := by
  refine ⟨h.1, fun p hp => ?_⟩
  rcases h.2 p hp with h | ⟨h, h'⟩
  · left
    rw [EReal.coe_lt_coe_iff] at *
    exact div_lt_div_of_pos_right h hS
  · right
    rw [EReal.coe_eq_coe_iff] at *
    exact ⟨by rw [h], h'⟩

/-- The two quotients, each over their sum, put at the chosen experts: the same weight. -/
theorem wt_eq {a : Fin 8 → ℝ} (ha : ∀ k, 0 < a k) {ε : ℝ} (hε : 0 < ε) (i j e : Fin 8) :
    Ideal.div ((a i / ∑ k, a k : ℝ) : EReal) (((a i / ∑ k, a k : ℝ) : EReal) + ((a j / ∑ k, a k : ℝ) : EReal) + (ε : EReal))
        * (if e = i then 1 else 0)
      + Ideal.div ((a j / ∑ k, a k : ℝ) : EReal) (((a i / ∑ k, a k : ℝ) : EReal) + ((a j / ∑ k, a k : ℝ) : EReal) + (ε : EReal))
        * (if e = j then 1 else 0)
      = wt (ε : EReal) (fun k => ((a k : ℝ) : EReal)) i j e := by
  have hS : 0 < ∑ k, a k := Finset.sum_pos (fun k _ => ha k) Finset.univ_nonempty
  unfold wt
  rw [coe_sum]
  generalize (∑ k, a k) = S at hS ⊢
  have h1 := ha i
  have h2 := ha j
  have d1 : a i / S + a j / S + ε ≠ 0 := by positivity
  have d2 : a i + a j + ε * S ≠ 0 := by positivity
  have key : ∀ b : ℝ, b / S / (a i / S + a j / S + ε) = b / (a i + a j + ε * S) := by
    intro b; field_simp
  simp only [← EReal.coe_add, ← EReal.coe_mul]
  rw [div_coe _ _ d1, div_coe _ _ d1, key, key]
  by_cases e1 : e = i <;> by_cases e2 : e = j <;>
    simp only [e1, e2, if_true, if_false, mul_one, mul_zero, add_zero, zero_add]
  · subst e1; subst e2
    simp only [if_true, mul_one, ← EReal.coe_add]
    rw [div_coe _ _ d2]; congr 1; ring
  · subst e1
    simp only [e2, if_false, mul_zero, add_zero]
    rw [div_coe _ _ d2]
  · subst e2
    simp only [if_true, e1, if_false, mul_one, mul_zero, zero_add]
    rw [div_coe _ _ d2]
  · rw [← EReal.coe_zero, div_coe _ _ d2]; simp

end Cert.Proof.Math
-- ==== Proof.Math.Row.lean ====
module

public import proofs.«01_k».proof.Proof.Math.Router

@[expose] public section

/-! One token's row: what the network makes of it, and the equalities by which the kernel's shorter forms agree. -/

noncomputable section

namespace Cert.Proof.Math

open Idealize.ShloMosaic

/-- A real number of at least 0 may be taken inside a sum. -/
theorem mul_sum_real {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s h ih =>
    rw [Finset.sum_insert h, Finset.sum_insert h,
      EReal.left_distrib_of_nonneg_of_ne_top (by exact_mod_cast hr) (EReal.coe_ne_top r), ih]

/-- The gain of token `s` of a batch row with scores `z`. -/
def gain (z : Fin 2048 → EReal) (s : Fin 2048) : EReal := 1 + sig (z s) * (if kth z ≤ z s then 1 else 0)

theorem gain_real (z : Fin 2048 → EReal) (s : Fin 2048) : ∃ r : ℝ, 0 ≤ r ∧ gain z s = (r : EReal) := by
  obtain ⟨r, h0, -, h⟩ := sig_real (z s)
  unfold gain
  split
  · exact ⟨1 + r, by linarith, by rw [h, mul_one, EReal.coe_add, EReal.coe_one]⟩
  · exact ⟨1, by norm_num, by rw [mul_zero, add_zero, EReal.coe_one]⟩

/-- The encoder's rates. -/
def enc (g : EReal) (x : Fin 768 → EReal) (We : Fin 768 → Fin 512 → EReal) (h : Fin 512) : EReal :=
  rRate (∑ k, x k * g * We k h)

/-- The encoder's rates, mapped to 64 numbers. -/
def cont (R : Fin 512 → EReal) (Ws : Fin 512 → Fin 64 → EReal) (m : Fin 64) : EReal := ∑ h, R h * Ws h m

/-- The router's scores. -/
def logit (g : EReal) (c : Fin 64 → EReal) (W1 : Fin 64 → Fin 64 → EReal) (W2 : Fin 64 → Fin 8 → EReal) (e : Fin 8) : EReal :=
  (∑ k, Ideal.tanh (∑ m, c m * W1 m k) * W2 k e) * g

/-- The exponentials of the scores, the largest taken off. -/
def expo (l : Fin 8 → EReal) (e : Fin 8) : EReal := Ideal.exp (l e - top l)

/-- The small constant of the weights. -/
def epsW : EReal := Ideal.ofBits .f32 0x3089705F#32

/-- The small constant of the normalisation. -/
def epsN : EReal := Ideal.ofBits .f32 0x3727C5AC#32

theorem epsW_real : ∃ r : ℝ, 0 < r ∧ epsW = (r : EReal) := by
  refine ⟨9007199 * 2 ^ (-53 : ℤ), by positivity, ?_⟩
  simp [epsW, Ideal.ofBits, Ideal.ieee]

theorem epsN_real : ∃ r : ℝ, 0 < r ∧ epsN = (r : EReal) := by
  refine ⟨10995116 * 2 ^ (-40 : ℤ), by positivity, ?_⟩
  simp [epsN, Ideal.ofBits, Ideal.ieee]

/-- The first and the second expert. -/
def chosen (x : Fin 8 → EReal) : Fin 8 × Fin 8 :=
  ((exists_top2 x (by norm_num)).choose, (exists_top2 x (by norm_num)).choose_spec.choose)

theorem chosen_first (x : Fin 8 → EReal) : IsFirst x (chosen x).1 :=
  (exists_top2 x (by norm_num)).choose_spec.choose_spec.1

theorem chosen_next (x : Fin 8 → EReal) : IsNext x (chosen x).1 (chosen x).2 :=
  (exists_top2 x (by norm_num)).choose_spec.choose_spec.2

/-- The weight of each expert. -/
def mix (l : Fin 8 → EReal) (e : Fin 8) : EReal := wt epsW (expo l) (chosen (expo l)).1 (chosen (expo l)).2 e

/-- What expert `e` gives. -/
def expert (c : Fin 64 → EReal) (A : Fin 8 → Fin 64 → Fin 256 → EReal) (B : Fin 8 → Fin 256 → Fin 64 → EReal) (e : Fin 8)
    (m : Fin 64) : EReal := ∑ k, max (∑ q, c q * A e q k) 0 * B e k m

/-- The experts, weighted and added up in order. -/
def moe (c : Fin 64 → EReal) (w : Fin 8 → EReal) (A : Fin 8 → Fin 64 → Fin 256 → EReal) (B : Fin 8 → Fin 256 → Fin 64 → EReal)
    (m : Fin 64) : EReal :=
  expert c A B 0 m * w 0 + expert c A B 1 m * w 1 + expert c A B 2 m * w 2 + expert c A B 3 m * w 3 + expert c A B 4 m * w 4
    + expert c A B 5 m * w 5 + expert c A B 6 m * w 6 + expert c A B 7 m * w 7

/-- Back to 512 rates. -/
def back (o : Fin 64 → EReal) (C : Fin 64 → Fin 512 → EReal) (h : Fin 512) : EReal := sig (∑ m, o m * C m h)

/-- The decoder's rates. -/
def dec (g : EReal) (b : Fin 512 → EReal) (D : Fin 512 → Fin 768 → EReal) (d : Fin 768) : EReal := rRate (∑ h, b h * g * D h d)

def mean (s : Fin 768 → EReal) : EReal := Ideal.div (∑ d, s d) (768 : ℝ)

/-- The row brought to mean 0 and variance 1. -/
def norm (s : Fin 768 → EReal) (d : Fin 768) : EReal :=
  Ideal.div (s d - mean s) (Ideal.sqrt (mean (fun d => (s d - mean s) * (s d - mean s)) + epsN))

/-- The whole row of one token. -/
def row (z : Fin 2048 → EReal) (s : Fin 2048) (x : Fin 768 → EReal) (We : Fin 768 → Fin 512 → EReal)
    (Ws : Fin 512 → Fin 64 → EReal) (W1 : Fin 64 → Fin 64 → EReal) (W2 : Fin 64 → Fin 8 → EReal)
    (A : Fin 8 → Fin 64 → Fin 256 → EReal) (B : Fin 8 → Fin 256 → Fin 64 → EReal) (C : Fin 64 → Fin 512 → EReal)
    (D : Fin 512 → Fin 768 → EReal) (d : Fin 768) : EReal :=
  norm (dec (gain z s) (back (moe (cont (enc (gain z s) x We) Ws)
    (mix (logit (gain z s) (cont (enc (gain z s) x We) Ws) W1 W2)) A B) C) D) d

/-! ### The equalities -/

/-- The drive of a neuron layer, scaled after the sum instead of before. -/
theorem drive_eq {n : Nat} {g : EReal} (hg : ∃ r : ℝ, 0 ≤ r ∧ g = (r : EReal)) (x w : Fin n → EReal) :
    ((5 : ℝ) : EReal) * g * ∑ k, x k * w k = ((5 : ℝ) : EReal) * ∑ k, x k * g * w k := by
  obtain ⟨r, hr, rfl⟩ := hg
  rw [mul_assoc, mul_sum_real _ _ hr]
  refine congrArg _ (Finset.sum_congr rfl fun k _ => ?_)
  rw [mul_comm (r : EReal) (x k * w k), mul_assoc, mul_assoc, mul_comm (w k)]

theorem rate_drive {n : Nat} {g : EReal} (hg : ∃ r : ℝ, 0 ≤ r ∧ g = (r : EReal)) (x w : Fin n → EReal) :
    kRate (((5 : ℝ) : EReal) * g * (∑ k, x k * w k) - ((11 / 4 : ℝ) : EReal)) = rRate (∑ k, x k * g * w k) := by
  rw [drive_eq hg, kRate_eq]

/-- The logistic function by the hyperbolic tangent of the half. -/
theorem back_eq (o : Fin 64 → EReal) (C : Fin 64 → Fin 512 → EReal) (h : Fin 512) :
    ((1 / 2 : ℝ) : EReal) + ((1 / 2 : ℝ) : EReal) * Ideal.tanh (∑ m, o m * (((1 / 2 : ℝ) : EReal) * C m h)) = back o C h := by
  unfold back
  rw [sig_eq, mul_sum_real _ _ (by norm_num)]
  have : ∀ m, o m * (((1 / 2 : ℝ) : EReal) * C m h) = ((1 / 2 : ℝ) : EReal) * (o m * C m h) := fun m => mul_left_comm _ _ _
  simp only [this]

theorem sum_real {n : Nat} (f : Fin n → EReal) (h : ∀ k, ∃ r : ℝ, f k = (r : EReal)) : ∃ r : ℝ, ∑ k, f k = (r : EReal) := by
  choose a ha using h
  exact ⟨∑ k, a k, by simp only [ha, coe_sum]⟩

/-- The router's scores are real when its last weights are. -/
theorem logit_real {g : EReal} (hg : ∃ r : ℝ, 0 ≤ r ∧ g = (r : EReal)) (c : Fin 64 → EReal) (W1 : Fin 64 → Fin 64 → EReal)
    {W2 : Fin 64 → Fin 8 → EReal} (h2 : ∀ k e, ∃ r : ℝ, W2 k e = (r : EReal)) (e : Fin 8) :
    ∃ r : ℝ, logit g c W1 W2 e = (r : EReal) := by
  obtain ⟨r, -, rfl⟩ := hg
  obtain ⟨t, ht⟩ := sum_real (fun k => Ideal.tanh (∑ m, c m * W1 m k) * W2 k e) fun k => by
    obtain ⟨a, ha⟩ := tanh_real (∑ m, c m * W1 m k)
    obtain ⟨b, hb⟩ := h2 k e
    exact ⟨a * b, by rw [ha, hb, EReal.coe_mul]⟩
  exact ⟨t * r, by unfold logit; rw [ht, EReal.coe_mul]⟩

/-- The exponentials of real scores are positive reals. -/
theorem expo_real {l : Fin 8 → EReal} (hl : ∀ e, ∃ r : ℝ, l e = (r : EReal)) :
    ∃ a : Fin 8 → ℝ, (∀ e, 0 < a e) ∧ expo l = fun e => ((a e : ℝ) : EReal) := by
  choose b hb using hl
  obtain ⟨i, -, hi, -⟩ := exists_top2 l (by norm_num)
  refine ⟨fun e => Real.exp (b e - b i), fun e => Real.exp_pos _, funext fun e => ?_⟩
  unfold expo
  rw [top_eq hi.le, hb e, hb i, ← EReal.coe_sub, exp_coe]

/-- The kernel's form of the normalisation. -/
theorem norm_eq {s : Fin 768 → EReal} (hs : ∀ d, ∃ r : ℝ, s d = (r : EReal)) (d : Fin 768) :
    (s d - ∑ k, s k * ((1 / 768 : ℝ) : EReal))
      * Ideal.rsqrt ((∑ k, s k * s k * ((1 / 768 : ℝ) : EReal))
          - (∑ k, s k * ((1 / 768 : ℝ) : EReal)) * (∑ k, s k * ((1 / 768 : ℝ) : EReal)) + epsN) = norm s d := by
  choose a ha using hs
  obtain ⟨ε, hε, he⟩ := epsN_real
  have hm : mean s = (((∑ k, a k) / 768 : ℝ) : EReal) := by
    unfold mean
    simp only [ha]
    rw [coe_sum, div_coe _ _ (by norm_num)]
  have hm' : (∑ k, s k * ((1 / 768 : ℝ) : EReal)) = (((∑ k, a k) / 768 : ℝ) : EReal) := by
    simp only [ha, ← EReal.coe_mul, coe_sum]
    congr 1; rw [← Finset.sum_mul]; ring
  have hq : (∑ k, s k * s k * ((1 / 768 : ℝ) : EReal)) = (((∑ k, a k * a k) / 768 : ℝ) : EReal) := by
    simp only [ha, ← EReal.coe_mul, coe_sum]
    congr 1; rw [← Finset.sum_mul]; ring
  have hv : mean (fun d => (s d - mean s) * (s d - mean s))
      = ((((∑ k, a k * a k) / 768 - (∑ k, a k) / 768 * ((∑ k, a k) / 768) : ℝ)) : EReal) := by
    unfold mean at hm ⊢
    simp only [hm]
    simp only [ha, ← EReal.coe_mul, ← EReal.coe_sub, coe_sum]
    rw [div_coe _ _ (by norm_num)]
    congr 1
    generalize hμ : (∑ k, a k) / 768 = μ
    have e : ∀ k, (a k - μ) * (a k - μ) = a k * a k - 2 * μ * a k + μ * μ := fun k => by ring
    simp only [e, Finset.sum_add_distrib, Finset.sum_sub_distrib, ← Finset.mul_sum, Finset.sum_const, Finset.card_univ,
      Fintype.card_fin, nsmul_eq_mul]
    have : (∑ k, a k) = 768 * μ := by rw [← hμ]; ring
    rw [this]; push_cast; ring
  have hp : 0 ≤ (∑ k, a k * a k) / 768 - (∑ k, a k) / 768 * ((∑ k, a k) / 768) := by
    have e : (∑ k, a k * a k) / 768 - (∑ k, a k) / 768 * ((∑ k, a k) / 768)
        = (∑ k, (a k - (∑ k, a k) / 768) * (a k - (∑ k, a k) / 768)) / 768 := by
      generalize hμ : (∑ k, a k) / 768 = μ
      have e : ∀ k, (a k - μ) * (a k - μ) = a k * a k - 2 * μ * a k + μ * μ := fun k => by ring
      simp only [e, Finset.sum_add_distrib, Finset.sum_sub_distrib, ← Finset.mul_sum, Finset.sum_const, Finset.card_univ,
        Fintype.card_fin, nsmul_eq_mul]
      have : (∑ k, a k) = 768 * μ := by rw [← hμ]; ring
      rw [this]; push_cast; ring
    rw [e]
    exact div_nonneg (Finset.sum_nonneg fun k _ => mul_self_nonneg _) (by norm_num)
  unfold norm
  rw [hv, hm, hm', hq, he, ha d]
  generalize (∑ k, a k * a k) / 768 = q at hp ⊢
  generalize (∑ k, a k) / 768 = μ at hp ⊢
  simp only [← EReal.coe_mul, ← EReal.coe_sub, ← EReal.coe_add]
  have hpos : 0 < q - μ * μ + ε := by linarith
  have h1 : Ideal.rsqrt ((q - μ * μ + ε : ℝ) : EReal) = (((Real.sqrt (q - μ * μ + ε))⁻¹ : ℝ) : EReal) := by
    show (if q - μ * μ + ε < 0 then (⊥ : EReal) else if q - μ * μ + ε = 0 then ⊤ else _) = _
    rw [if_neg hpos.not_gt, if_neg hpos.ne']
  have h2 : Ideal.sqrt ((q - μ * μ + ε : ℝ) : EReal) = ((Real.sqrt (q - μ * μ + ε) : ℝ) : EReal) := by
    show (if q - μ * μ + ε < 0 then (⊥ : EReal) else _) = _
    rw [if_neg hpos.not_gt]
  rw [h1, h2, div_coe _ _ (Real.sqrt_pos.mpr hpos).ne', ← EReal.coe_mul, div_eq_mul_inv]

end Cert.Proof.Math
-- ==== Proof.Reference.Rates.lean ====
module

public import proofs.«01_k».proof.Proof.Gen.ReferenceIdeal.Run
public import proofs.«01_k».proof.Proof.Math.Row
public import Idealize.ShloMosaic.Lib.Pointwise
public import Idealize.ShloMosaic.Lib.IdealHost

@[expose] public section

/-! The reference's two neuron layers: sixteen spikes, read at an index. -/

noncomputable section

namespace Cert.Proof.Reference

open Cert.ReferenceIdeal Cert.ReferenceIdeal.Gen Cert.ReferenceIdeal.Value

open Idealize.ShloMosaic

/-! ### The neuron layers -/

section Neuron

variable {F : FTy → Type} [FloatOps F] {s : Shape} (hb : S_.BroadcastsInDim s ![])

/-- A number at every index. -/
def fillG (w : BitVec 32) : FVec F s .f32 := broadcastInDim s ![] hb (constant S_ .f32 w)

/-- The spikes at membranes `m`. -/
def spkG (m : FVec F s .f32) : FVec F s .f32 :=
  Host.divf (fillG hb 0x3F800000#32) (addf (fillG hb 0x3F800000#32)
    (Host.exp (Host.negf (mulf (fillG hb 0x41200000#32) (subf m (fillG hb 0x3F800000#32))))))

/-- The membranes, charged by `I`, at the moment of spike `n`. -/
def memG (I : FVec F s .f32) : ℕ → FVec F s .f32
  | 0 => addf (Host.divf (mulf (fillG hb 0x41100000#32) (fillG hb 0x00000000#32)) (fillG hb 0x41200000#32)) I
  | n + 1 => addf (Host.divf (mulf (fillG hb 0x41100000#32) (subf (memG I n) (spkG hb (memG I n)))) (fillG hb 0x41200000#32)) I

/-- The first `n` spikes, added up. -/
def raccG (I : FVec F s .f32) : ℕ → FVec F s .f32
  | 0 => fillG hb 0x00000000#32
  | n + 1 => addf (raccG I n) (spkG hb (memG hb I n))

/-- The rates of sixteen spikes. -/
def rateG (I : FVec F s .f32) : FVec F s .f32 := Host.divf (raccG hb I 16) (fillG hb 0x41800000#32)

end Neuron

variable {F : FTy → Type} [FloatOps F] (V0 : Valuation τ sig (Elt F))

set_option maxRecDepth 100000 in
theorem decoded_eq : res_main_v842 V0 = rateG bcast_S_S4x2048x768 (res_main_v566 V0) := by
  rfl

set_option maxRecDepth 100000 in
theorem cont_eq : res_main_v305 V0
    = addf (Host.dotGeneral dot_S8192x512_S512x64_S8192x64_1_0_0_1_n_n none
        (Host.divf (Host.reduceAdd (shapeCast S8192x1x512 (rateG bcast_S_S4x2048x512 (res_main_v21 V0)) shapeCasts_S4x2048x512_S8192x1x512)
          (constant S_ .f32 0x00000000#32) reducesTo_S8192x1x512_S8192x512_d1 h_S_)
          (broadcastInDim S8192x512 ![] bcast_S_S8192x512 (constant S_ .f32 0x3F800000#32))) (V0 (Proc.devRef .tc main_arg5)))
      (broadcastInDim S8192x64 ![0, 1] bcast_S1x64_S8192x64_0_1 (broadcastInDim S1x64 ![1] bcast_S64_S1x64_1 (V0 (Proc.devRef .tc main_arg6)))) := by
  rfl

variable (V : Valuation τ sig (Elt Ideal))

theorem mem_apply {s : Shape} (hb : S_.BroadcastsInDim s ![]) (I : FVec Ideal s .f32) (n : ℕ) (i : s.Idx) :
    memG hb I n i = Math.mem (I i) n := by
  induction n with
  | zero =>
    show Ideal.div (Ideal.ofBits .f32 0x41100000#32 * Ideal.ofBits .f32 0x00000000#32) (Ideal.ofBits .f32 0x41200000#32) + I i = _
    rw [Math.c_9, Math.c_10, Ideal.ofBits_zero_f32]; rfl
  | succ n ih =>
    show Ideal.div (Ideal.ofBits .f32 0x41100000#32 * (memG hb I n i
      - Ideal.div (Ideal.ofBits .f32 0x3F800000#32) (Ideal.ofBits .f32 0x3F800000#32
        + Ideal.exp (-(Ideal.ofBits .f32 0x41200000#32 * (memG hb I n i - Ideal.ofBits .f32 0x3F800000#32))))))
      (Ideal.ofBits .f32 0x41200000#32) + I i = _
    rw [ih, Math.c_9, Math.c_10, Ideal.ofBits_one_f32]; rfl

theorem racc_apply {s : Shape} (hb : S_.BroadcastsInDim s ![]) (I : FVec Ideal s .f32) (n : ℕ) (i : s.Idx) :
    raccG hb I n i = Math.racc (I i) n := by
  induction n with
  | zero => exact Ideal.ofBits_zero_f32
  | succ n ih =>
    show raccG hb I n i + Ideal.div (Ideal.ofBits .f32 0x3F800000#32) (Ideal.ofBits .f32 0x3F800000#32
        + Ideal.exp (-(Ideal.ofBits .f32 0x41200000#32 * (memG hb I n i - Ideal.ofBits .f32 0x3F800000#32)))) = _
    rw [ih, mem_apply, Math.c_10, Ideal.ofBits_one_f32]; rfl

theorem rate_apply {s : Shape} (hb : S_.BroadcastsInDim s ![]) (I : FVec Ideal s .f32) (i : s.Idx) :
    rateG hb I i = Math.rRate (I i) := by
  show Ideal.div (raccG hb I 16 i) (Ideal.ofBits .f32 0x41800000#32) = _
  rw [racc_apply, Math.c_16]; rfl

end Cert.Proof.Reference
-- ==== Proof.Reference.TopK.lean ====
module

public import proofs.«01_k».proof.Proof.Math.Top2
public import Idealize.ShloMosaic.Lib.Pointwise

@[expose] public section

/-! The two greatest entries of each row, as the reference takes them. -/

noncomputable section

namespace Cert.Proof.Reference

open Idealize.ShloMosaic

variable {A N : Nat} (x : (⟨2, ![A, N]⟩ : Shape).Idx → EReal)
  (h : (⟨2, ![A, N]⟩ : Shape).Slices (fun _ => 0) ⟨2, ![A, 2]⟩)

/-- The order in which row `a` is sorted. -/
def rowOrder (a : Fin A) (k : Fin N) : Fin N := sortedFrom (Math.gtB fun p => x (ix2 a p)) k

theorem along_ix2 (a : Fin A) (p k : Fin N) : (ix2 a p : (⟨2, ![A, N]⟩ : Shape).Idx).along 1 k = ix2 a k := by
  funext d; match d with
  | 0 => rfl
  | 1 => rfl

theorem before_eq (a : Fin A) (k k' : Fin N) :
    (FloatOps.cmpfTotal (F := Ideal) (φ := .f32) .gt (x (ix2 a k)) (x (ix2 a k')) == 1#1) = Math.gtB (fun p => x (ix2 a p)) k k' := by
  show (BitVec.ofBool (decide (x (ix2 a k') < x (ix2 a k))) == 1#1) = decide (x (ix2 a k') < x (ix2 a k))
  cases decide (x (ix2 a k') < x (ix2 a k)) <;> rfl

theorem topK_apply (a : Fin A) (k : Fin 2) (hn : 2 ≤ N) :
    (Host.topK ⟨2, ![A, 2]⟩ 1 (FloatOps.cmpfTotal (F := Ideal) (φ := .f32) .gt) x h).1 (ix2 a k)
      = x (ix2 a (rowOrder x a ⟨k.val, by omega⟩))
    ∧ (Host.topK ⟨2, ![A, 2]⟩ 1 (FloatOps.cmpfTotal (F := Ideal) (φ := .f32) .gt) x h).2 (ix2 a k)
      = BitVec.ofNat 32 (rowOrder x a ⟨k.val, by omega⟩).val := by
  have hs : ∀ {α : Type} (y : (⟨2, ![A, N]⟩ : Shape).Idx → α), extractStridedSlice ⟨2, ![A, 2]⟩ (fun _ => 0) y h (ix2 a k)
      = y (ix2 a ⟨k.val, by omega⟩) := by
    intro α y
    unfold extractStridedSlice
    refine congrArg y ?_
    funext d; apply Fin.ext; match d with
    | 0 => exact Nat.zero_add _
    | 1 => exact Nat.zero_add _
  have ho : sortedFrom (fun k k' => FloatOps.cmpfTotal (F := Ideal) (φ := .f32) .gt (x (ix2 a k)) (x (ix2 a k')) == 1#1)
      = rowOrder x a := by
    funext q
    unfold rowOrder
    congr 1
    funext k k'
    exact before_eq x a k k'
  have hv : ∀ {α : Type} (y : (⟨2, ![A, N]⟩ : Shape).Idx → α) (f : Fin N → (⟨2, ![A, N]⟩ : Shape).Idx), (∀ q, f q = ix2 a q) →
      y (f (sortedFrom (fun q q' => FloatOps.cmpfTotal (F := Ideal) (φ := .f32) .gt (x (f q)) (x (f q')) == 1#1) ⟨k.val, by omega⟩))
        = y (ix2 a (rowOrder x a ⟨k.val, by omega⟩)) := by
    intro α y f hf
    obtain rfl : f = ix2 a := funext hf
    rw [← ho]
  constructor
  · refine (hs (Host.sort2 _ 1 (fun l r : EReal × BitVec 32 => FloatOps.cmpfTotal (F := Ideal) (φ := .f32) .gt l.1 r.1) x
      (fun i => BitVec.ofNat 32 (i 1).val)).1).trans ?_
    exact hv x (fun q => (ix2 a ⟨k.val, by omega⟩ : (⟨2, ![A, N]⟩ : Shape).Idx).along 1 q) (along_ix2 a _)
  · refine (hs (Host.sort2 _ 1 (fun l r : EReal × BitVec 32 => FloatOps.cmpfTotal (F := Ideal) (φ := .f32) .gt l.1 r.1) x
      (fun i => BitVec.ofNat 32 (i 1).val)).2).trans ?_
    exact hv (fun i => BitVec.ofNat 32 (i 1).val)
      (fun q => (ix2 a ⟨k.val, by omega⟩ : (⟨2, ![A, N]⟩ : Shape).Idx).along 1 q) (along_ix2 a _)

/-- Where `i` is the first greatest of row `a` and `j` the next: the two entries and their positions. -/
theorem topK_two (a : Fin A) {i j : Fin N} (hn : 2 ≤ N) (h1 : Math.IsFirst (fun p => x (ix2 a p)) i)
    (h2 : Math.IsNext (fun p => x (ix2 a p)) i j) (k : Fin 2) :
    (Host.topK ⟨2, ![A, 2]⟩ 1 (FloatOps.cmpfTotal (F := Ideal) (φ := .f32) .gt) x h).1 (ix2 a k) = x (ix2 a (![i, j] k))
    ∧ (Host.topK ⟨2, ![A, 2]⟩ 1 (FloatOps.cmpfTotal (F := Ideal) (φ := .f32) .gt) x h).2 (ix2 a k)
      = BitVec.ofNat 32 (![i, j] k).val := by
  have ho : rowOrder x a ⟨k.val, by omega⟩ = ![i, j] k := by
    obtain ⟨h3, h4⟩ := Math.sortedFrom_top2 _ h1 h2 hn
    match k with
    | 0 => exact h3
    | 1 => exact h4
  obtain ⟨h3, h4⟩ := topK_apply x h a k hn
  rw [h3, h4, ho]
  exact ⟨rfl, rfl⟩

end Cert.Proof.Reference
-- ==== Proof.Reference.Scores.lean ====
module

public import proofs.«01_k».proof.Proof.Gen.ReferenceIdeal.Run
public import proofs.«01_k».proof.Proof.Reference.TopK
public import proofs.«01_k».proof.Proof.Math.Row

@[expose] public section

/-! The reference's scores, looked up by the token ids, and the gains made of them. -/

noncomputable section

namespace Cert.Proof.Reference

open Cert.ReferenceIdeal Cert.ReferenceIdeal.Gen Cert.ReferenceIdeal.Value

open Idealize.ShloMosaic

/-- Entry `n` of the table, counted modulo its length. -/
def place (n : ℕ) : Fin 100000 := ⟨n % 100000, Nat.mod_lt n (by decide)⟩

/-- The gather reads the table at the start index, kept inside the table. -/
theorem gather_apply {α : Type} (x : S100000x1.Idx → α) (idx : IVec S4x2048x1 32) (b : Fin 4) (s : Fin 2048) (n : ℕ)
    (hn : n < 100000) (hi : (idx (ix3 b s 0)).toInt = n) :
    Host.gather gather_S100000x1_S4x2048x1_S4x2048x1_2_0_n_n_0_2_11 x idx (ix3 b s 0) = x (ix2 (place n) 0) := by
  unfold Host.gather
  refine congrArg x ?_
  funext a
  match a with
  | 1 => exact Subsingleton.elim (α := Fin 1) _ _
  | 0 =>
    apply Fin.ext
    have hk : (0 : Fin 2) ∉ gather_S100000x1_S4x2048x1_S4x2048x1_2_0_n_n_0_2_11.sKept := by
      rw [GatherDims.mem_sKept]; simp [gather_S100000x1_S4x2048x1_S4x2048x1_2_0_n_n_0_2_11]
    have hb : (0 : Fin 2) ∉ gather_S100000x1_S4x2048x1_S4x2048x1_2_0_n_n_0_2_11.operandBatchingDims := List.not_mem_nil
    have hm : (0 : Fin 2) ∈ gather_S100000x1_S4x2048x1_S4x2048x1_2_0_n_n_0_2_11.startIndexMap := List.mem_singleton.mpr rfl
    have hsi : gather_S100000x1_S4x2048x1_S4x2048x1_2_0_n_n_0_2_11.siIdx (ix3 b s 0)
        ⟨List.idxOf (0 : Fin 2) gather_S100000x1_S4x2048x1_S4x2048x1_2_0_n_n_0_2_11.startIndexMap, List.idxOf_lt_length_iff.2 hm⟩
        = ix3 b s 0 := by
      funext c
      match c with
      | 0 => rfl
      | 1 => rfl
      | 2 => exact Subsingleton.elim (α := Fin 1) _ _
    simp only [GatherDims.operandIdx, GatherDims.batchCoord_eq_zero _ _ _ hb, GatherDims.offCoord_eq_zero _ _ _ hk,
      Nat.add_zero, GatherDims.start, dif_pos hm, hsi, hi]
    show min (Int.toNat n) (100000 - 1) = n % 100000
    rw [Nat.mod_eq_of_lt hn]
    omega

/-- An id in range passes the checks of the look-up. -/
theorem id_word (w : BitVec 32) (h : w.toNat < 100000) :
    Scalar.select (IntOp.cmpi .slt w 0#32) (IntOp.addi w 100000#32) w = w ∧ IntOp.cmpi .sge w 0#32 = 1#1
      ∧ IntOp.cmpi .sle w 99999#32 = 1#1 ∧ w.toInt = w.toNat := by
  have ht : w.toInt = w.toNat := by rw [BitVec.toInt_eq_toNat_cond]; split <;> omega
  have h0 : w.slt 0#32 = false := by
    rw [BitVec.slt_eq_decide, ht]; simp
  have h1 : (0#32).sle w = true := by
    rw [BitVec.sle_eq_decide, ht]; simp
  have h2 : w.sle 99999#32 = true := by
    rw [BitVec.sle_eq_decide, ht]; simp; omega
  refine ⟨?_, ?_, ?_, ht⟩
  · show Scalar.select (BitVec.ofBool (w.slt 0#32)) _ _ = _
    rw [h0]; rfl
  · show BitVec.ofBool ((0#32).sle w) = _
    rw [h1]; rfl
  · show BitVec.ofBool (w.sle 99999#32) = _
    rw [h2]; rfl

variable (V : Valuation τ sig (Elt Ideal))

/-- The token ids name entries of the table. -/
def InRange : Prop := ∀ (b : Fin 4) (s : Fin 2048), ((V (Proc.devRef .tc main_arg1) : IVec S4x2048 32) (ix2 b s)).toNat < 100000

/-- The score of token `s` of batch row `b`. -/
def Z (b : Fin 4) (s : Fin 2048) : EReal :=
  (V (Proc.devRef .tc main_arg2) : FVec Ideal S100000x1 .f32)
    (ix2 (place ((V (Proc.devRef .tc main_arg1) : IVec S4x2048 32) (ix2 b s)).toNat) 0)

variable {V}

theorem fold_one {ι : Type} (S : Finset ι) (f : ι → BitVec 1) (h : ∀ i, f i = 1#1) : Finset.fold IntOp.andi 1#1 f S = 1#1 := by
  classical
  induction S using Finset.induction_on with
  | empty => rfl
  | insert a S ha ih => rw [Finset.fold_insert ha, ih, h]; rfl

theorem start_apply (h : InRange V) (b : Fin 4) (s : Fin 2048) (k : Fin 1) :
    (res_main_call0_v5 V : IVec S4x2048x1 32) (ix3 b s k) = (V (Proc.devRef .tc main_arg1) : IVec S4x2048 32) (ix2 b s) := by
  pointwise [res_main_call0_v5]
  exact (id_word _ (h b s)).1

theorem score_apply (h : InRange V) (b : Fin 4) (s : Fin 2048) : (res_main_v1 V : FVec Ideal S4x2048 .f32) (ix2 b s) = Z V b s := by
  pointwise [res_main_v1]
  rw [fold_one]
  · exact gather_apply _ _ b s _ (h b s) (by rw [start_apply h]; exact (id_word _ (h b s)).2.2.2)
  · intro x
    obtain ⟨-, h1, h2, -⟩ := id_word _ (h (x 0) (x 1))
    have e : (res_main_call0_v5 V : IVec S4x2048x1 32) x = (V (Proc.devRef .tc main_arg1) : IVec S4x2048 32) (ix2 (x 0) (x 1)) := by
      refine (congrArg (res_main_call0_v5 V : IVec S4x2048x1 32) ?_).trans (start_apply h (x 0) (x 1) (x 2))
      funext a
      match a with
      | 0 => rfl
      | 1 => rfl
      | 2 => rfl
    show IntOp.andi (IntOp.cmpi .sge ((res_main_call0_v5 V : IVec S4x2048x1 32) x) 0#32)
      (IntOp.cmpi .sle ((res_main_call0_v5 V : IVec S4x2048x1 32) x) 99999#32) = 1#1
    rw [e, h1, h2]; rfl

theorem bit_number (p : Prop) [Decidable p] :
    (FloatOps.uitofp .f32 (BitVec.ofBool (decide p)) : Ideal .f32) = (if p then 1 else 0 : EReal) := by
  by_cases hp : p
  · rw [if_pos hp, decide_eq_true hp]
    show (((1 : ℕ) : ℝ) : EReal) = 1
    norm_num
  · rw [if_neg hp, decide_eq_false hp]
    show (((0 : ℕ) : ℝ) : EReal) = 0
    norm_num

theorem gain_apply (h : InRange V) (b : Fin 4) (s : Fin 2048) :
    (res_main_v14 V : FVec Ideal S4x2048 .f32) (ix2 b s) = Math.gain (Z V b) s := by
  have hz : ∀ p, (res_main_v1 V : FVec Ideal S4x2048 .f32) (ix2 b p) = Z V b p := score_apply h b
  obtain ⟨i, j, h1, h2⟩ := Math.exists_top2 (Z V b) (by norm_num)
  have hx : (fun p => (res_main_v1 V : FVec Ideal S4x2048 .f32) (ix2 b p)) = Z V b := funext hz
  have ht := (topK_two (res_main_v1 V) sliceFits_S4x2048_S4x2 b (by norm_num) (hx ▸ h1) (hx ▸ h2) 1).1
  pointwise [res_main_v14]
  rw [hz]
  rw [bit_number]
  refine congrArg (fun u => 1 + Math.sig (Z V b s) * (if u ≤ Z V b s then (1 : EReal) else 0)) ?_
  rw [Math.kth_eq h1 h2]
  exact ht.trans (hz j)

end Cert.Proof.Reference
-- ==== Proof.Reference.Stages.lean ====
module

public import proofs.«01_k».proof.Proof.Reference.Rates
public import proofs.«01_k».proof.Proof.Reference.Scores

@[expose] public section

/-! The reference's stages, read at an index: the row functions of Math/Row.lean. -/

noncomputable section

namespace Cert.Proof.Reference

open Cert.ReferenceIdeal Cert.ReferenceIdeal.Gen Cert.ReferenceIdeal.Value

open Idealize.ShloMosaic

variable (V : Valuation τ sig (Elt Ideal))

/-- What is assumed of the arguments: ids in range, biases 0, the normalisation's scale 1, the router's last weights real. -/
structure Given : Prop where
  ids : InRange V
  b4 : ∀ i : Fin 512, (V (Proc.devRef .tc main_arg4) : FVec Ideal S512 .f32) (ix1 i) = (0 : EReal)
  b6 : ∀ i : Fin 64, (V (Proc.devRef .tc main_arg6) : FVec Ideal S64 .f32) (ix1 i) = (0 : EReal)
  b8 : ∀ (e : Fin 8) (i : Fin 256), (V (Proc.devRef .tc main_arg8) : FVec Ideal S8x256 .f32) (ix2 e i) = (0 : EReal)
  b10 : ∀ (e : Fin 8) (i : Fin 64), (V (Proc.devRef .tc main_arg10) : FVec Ideal S8x64 .f32) (ix2 e i) = (0 : EReal)
  b12 : ∀ i : Fin 64, (V (Proc.devRef .tc main_arg12) : FVec Ideal S64 .f32) (ix1 i) = (0 : EReal)
  b14 : ∀ i : Fin 8, (V (Proc.devRef .tc main_arg14) : FVec Ideal S8 .f32) (ix1 i) = (0 : EReal)
  b16 : ∀ i : Fin 512, (V (Proc.devRef .tc main_arg16) : FVec Ideal S512 .f32) (ix1 i) = (0 : EReal)
  b18 : ∀ i : Fin 768, (V (Proc.devRef .tc main_arg18) : FVec Ideal S768 .f32) (ix1 i) = (0 : EReal)
  g19 : ∀ i : Fin 768, (V (Proc.devRef .tc main_arg19) : FVec Ideal S768 .f32) (ix1 i) = (1 : EReal)
  b20 : ∀ i : Fin 768, (V (Proc.devRef .tc main_arg20) : FVec Ideal S768 .f32) (ix1 i) = (0 : EReal)
  w13 : ∀ (k : Fin 64) (e : Fin 8), ∃ a : ℝ, (V (Proc.devRef .tc main_arg13) : FVec Ideal S64x8 .f32) (ix2 k e) = (a : EReal)

/-! ### The arguments as the row functions take them -/

/-- The batch row and the place in it of row `r` of the flattened tokens. -/
def bOf (r : Fin 8192) : Fin 4 := ⟨r.val / 2048, by omega⟩
def sOf (r : Fin 8192) : Fin 2048 := ⟨r.val % 2048, Nat.mod_lt _ (by norm_num)⟩
/-- The flattened row of a token. -/
def rowOf (b : Fin 4) (s : Fin 2048) : Fin 8192 := ⟨b.val * 2048 + s.val, by omega⟩

theorem bOf_rowOf (b : Fin 4) (s : Fin 2048) : bOf (rowOf b s) = b := by
  apply Fin.ext; show (b.val * 2048 + s.val) / 2048 = b.val; omega
theorem sOf_rowOf (b : Fin 4) (s : Fin 2048) : sOf (rowOf b s) = s := by
  apply Fin.ext; show (b.val * 2048 + s.val) % 2048 = s.val; omega

def aX (b : Fin 4) (s : Fin 2048) (k : Fin 768) : EReal := (V (Proc.devRef .tc main_arg0) : FVec Ideal S4x2048x768 .f32) (ix3 b s k)
def aWe (k : Fin 768) (h : Fin 512) : EReal := (V (Proc.devRef .tc main_arg3) : FVec Ideal S768x512 .f32) (ix2 k h)
def aWs (h : Fin 512) (m : Fin 64) : EReal := (V (Proc.devRef .tc main_arg5) : FVec Ideal S512x64 .f32) (ix2 h m)
def aA (e : Fin 8) (q : Fin 64) (k : Fin 256) : EReal := (V (Proc.devRef .tc main_arg7) : FVec Ideal S8x64x256 .f32) (ix3 e q k)
def aB (e : Fin 8) (k : Fin 256) (m : Fin 64) : EReal := (V (Proc.devRef .tc main_arg9) : FVec Ideal S8x256x64 .f32) (ix3 e k m)
def aW1 (m k : Fin 64) : EReal := (V (Proc.devRef .tc main_arg11) : FVec Ideal S64x64 .f32) (ix2 m k)
def aW2 (k : Fin 64) (e : Fin 8) : EReal := (V (Proc.devRef .tc main_arg13) : FVec Ideal S64x8 .f32) (ix2 k e)
def aC (m : Fin 64) (h : Fin 512) : EReal := (V (Proc.devRef .tc main_arg15) : FVec Ideal S64x512 .f32) (ix2 m h)
def aD (h : Fin 512) (d : Fin 768) : EReal := (V (Proc.devRef .tc main_arg17) : FVec Ideal S512x768 .f32) (ix2 h d)

/-- A token's gain, its 64 numbers, its router scores. -/
def G (r : Fin 8192) : EReal := Math.gain (Z V (bOf r)) (sOf r)
def C (r : Fin 8192) : Fin 64 → EReal := Math.cont (Math.enc (G V r) (aX V (bOf r) (sOf r)) (aWe V)) (aWs V)
def L (r : Fin 8192) : Fin 8 → EReal := Math.logit (G V r) (C V r) (aW1 V) (aW2 V)

/-- The weight and the number of the `k`-th chosen expert. -/
def pick (r : Fin 8192) (k : Fin 2) : EReal := (res_main_v334 V : FVec Ideal S8192x2 .f32) (ix2 r k)
def pickNo (r : Fin 8192) (k : Fin 2) : BitVec 32 := (res_main_indices_107 V : IVec S8192x2 32) (ix2 r k)

variable {V}

/-! ### The stages -/

theorem drive_apply (H : Given V) (b : Fin 4) (s : Fin 2048) (h : Fin 512) :
    (res_main_v21 V : FVec Ideal S4x2048x512 .f32) (ix3 b s h)
      = (∑ k, aX V b s k * Math.gain (Z V b) s * aWe V k h : EReal) := by
  pointwise [res_main_v21]
  rw [H.b4, add_zero, gain_apply H.ids]
  rfl

theorem cont_apply (H : Given V) (r : Fin 8192) (m : Fin 64) :
    (res_main_v305 V : FVec Ideal S8192x64 .f32) (ix2 r m) = C V r m := by
  rw [cont_eq]
  pointwise
  rw [H.b6, add_zero]
  unfold C Math.cont
  show @Eq EReal _ _
  refine Finset.sum_congr rfl fun h _ => ?_
  rw [Math.div_one, Fin.sum_univ_one, rate_apply]
  refine congrArg (fun u => Math.rRate u * aWs V h m) ?_
  exact drive_apply H (bOf r) (sOf r) h

theorem logit_apply (H : Given V) (r : Fin 8192) (e : Fin 8) :
    (res_main_v317 V : FVec Ideal S8192x8 .f32) (ix2 r e) = L V r e := by
  pointwise [res_main_v317]
  simp only [H.b12, H.b14, add_zero, cont_apply H]
  rw [show (res_main_v14 V : FVec Ideal S4x2048 .f32) (ix2 ⟨r.val / 2048, _⟩ ⟨r.val % 2048, _⟩) = G V r from gain_apply H.ids _ _]
  rfl

theorem logits_real (H : Given V) (r : Fin 8192) (e : Fin 8) : ∃ a : ℝ, L V r e = (a : EReal) :=
  Math.logit_real (Math.gain_real _ _) _ _ H.w13 e

theorem c_negInf : Ideal.ofBits FTy.f32 0xFF800000#32 = ⊥ := by
  simp [Ideal.ofBits, Ideal.ieee]

theorem lift_ix1 (h : S8192x8.Reduces [1] S8192) (r : Fin 8192) (k : Fin 8) : h.lift (ix1 r) k = ix2 r k := by
  funext a
  match a with
  | 0 => rfl
  | 1 => rfl

theorem top_apply (H : Given V) (r : Fin 8192) :
    max (Ideal.ofBits FTy.f32 0xFF800000#32) (Finset.fold max (Ideal.ofBits FTy.f32 0xFF800000#32)
      (res_main_v317 V : FVec Ideal S8192x8 .f32) {i | reducesTo_S8192x8_S8192_d1.drop i = ix1 r}) = Math.top (L V r) := by
  have hr : S8192x8.Reduces [1] S8192 := by decide
  rw [Shape.ReducesTo.drop_eq_drop reducesTo_S8192x8_S8192_d1 hr, c_negInf]
  refine (max_eq_right bot_le).trans ((Eq.trans ?_ (hr.fold_filter_drop_single (max : EReal → EReal → EReal) ⊥
    (res_main_v317 V) (ix1 r))).trans ?_)
  · congr
  unfold Math.top
  congr 1
  funext k
  exact (congrArg (res_main_v317 V : FVec Ideal S8192x8 .f32) (lift_ix1 hr r k)).trans (logit_apply H r k)

theorem expo_apply (H : Given V) (r : Fin 8192) (e : Fin 8) :
    (res_main_v324 V : FVec Ideal S8192x8 .f32) (ix2 r e) = Math.expo (L V r) e := by
  pointwise [res_main_v324]
  rw [logit_apply H]
  exact congrArg (fun u => Ideal.exp (L V r e - u)) (top_apply H r)

theorem share_apply (H : Given V) (r : Fin 8192) (e : Fin 8) :
    (res_main_v328 V : FVec Ideal S8192x8 .f32) (ix2 r e) = Ideal.div (Math.expo (L V r) e) (∑ k, Math.expo (L V r) k) := by
  pointwise [res_main_v328]
  simp only [expo_apply H]

theorem word_number (i e : Fin 8) :
    (FloatOps.uitofp .f32 (IntOp.cmpi .eq (BitVec.ofNat 32 i.val) (BitVec.ofNat 32 e.val)) : Ideal .f32) = (if e = i then 1 else 0 : EReal) := by
  have : IntOp.cmpi .eq (BitVec.ofNat 32 i.val) (BitVec.ofNat 32 e.val) = BitVec.ofBool (decide (e = i)) := by
    revert i e; decide
  rw [this, bit_number]

/-- The two weights, each where its expert is the one asked for. -/
theorem mix_apply (H : Given V) (r : Fin 8192) (e : Fin 8) :
    ∑ k, pick V r k * (FloatOps.uitofp .f32 (IntOp.cmpi .eq (pickNo V r k) (BitVec.ofNat 32 e.val)) : Ideal .f32)
      = Math.mix (L V r) e := by
  obtain ⟨a, ha, hL⟩ := Math.expo_real (logits_real H r)
  obtain ⟨ε, hε, hE⟩ := Math.epsW_real
  have hS : 0 < ∑ k, a k := Finset.sum_pos (fun k _ => ha k) ⟨0, Finset.mem_univ _⟩
  have h1 := Math.chosen_first (Math.expo (L V r))
  have h2 := Math.chosen_next (Math.expo (L V r))
  unfold Math.mix
  generalize (Math.chosen (Math.expo (L V r))).1 = i at h1 h2 ⊢
  generalize (Math.chosen (Math.expo (L V r))).2 = j at h2 ⊢
  rw [hL] at h1 h2 ⊢
  have hx : (fun p => (res_main_v328 V : FVec Ideal S8192x8 .f32) (ix2 r p)) = fun k => ((a k / ∑ k, a k : ℝ) : EReal) := by
    funext p
    rw [share_apply H, hL]
    simp only []
    rw [Math.coe_sum, Math.div_coe _ _ hS.ne']
  have h1' : Math.IsFirst (fun p => (res_main_v328 V : FVec Ideal S8192x8 .f32) (ix2 r p)) i := by
    rw [hx]; exact Math.first_div hS h1
  have h2' : Math.IsNext (fun p => (res_main_v328 V : FVec Ideal S8192x8 .f32) (ix2 r p)) i j := by
    rw [hx]; exact Math.next_div hS h2
  have ht := topK_two (res_main_v328 V) sliceFits_S8192x8_S8192x2 r (by norm_num) h1' h2'
  have hv : ∀ k, (res_main_values_106 V : FVec Ideal S8192x2 .f32) (ix2 r k) = ((a (![i, j] k) / ∑ k, a k : ℝ) : EReal) :=
    fun k => (ht k).1.trans (congrFun hx _)
  have hi : ∀ k, pickNo V r k = BitVec.ofNat 32 (![i, j] k).val := fun k => (ht k).2
  have hw : ∀ k, pick V r k
      = Ideal.div ((a (![i, j] k) / ∑ k, a k : ℝ) : EReal) (((a i / ∑ k, a k : ℝ) : EReal) + ((a j / ∑ k, a k : ℝ) : EReal) + (ε : EReal)) := by
    intro k
    unfold pick
    pointwise [res_main_v334]
    simp only [hv, Fin.sum_univ_two]
    rw [← hE]
    rfl
  simp only [hi, hw, word_number, Fin.sum_univ_two]
  rw [hE]
  exact Math.wt_eq ha hε i j e

end Cert.Proof.Reference
-- ==== Proof.SetUp.lean ====
/-
  The precondition of the value claim, element by element: ids in range, every bias 0, the norm's scale 1 and shift 0,
  the router's last weights real.
-/
module

public import proofs.«01_k».proof.Pre_as_set_up
public import proofs.«01_k».proof.Proof.Ideal.Frame
public import proofs.«01_k».proof.Proof.Reference.Stages

@[expose] public section

noncomputable section

namespace Cert.Proof.SetUp

open Cert.Pre_as_set_up

open Idealize.ShloMosaic

/-- The precondition's side conditions. -/
theorem facts : Cert.Pre_as_set_up.Facts where
  bcast_S_S4x2048 := by decide
  reducesTo_S4x2048_S_d0_1 := by decide
  h_S_ := by decide
  bcast_S_S512 := by decide
  reducesTo_S512_S_d0 := by decide
  bcast_S_S64 := by decide
  reducesTo_S64_S_d0 := by decide
  bcast_S_S8x256 := by decide
  reducesTo_S8x256_S_d0_1 := by decide
  bcast_S_S8x64 := by decide
  reducesTo_S8x64_S_d0_1 := by decide
  bcast_S_S8 := by decide
  reducesTo_S8_S_d0 := by decide
  bcast_S_S768 := by decide
  reducesTo_S768_S_d0 := by decide
  bcast_S_S64x8 := by decide
  reducesTo_S64x8_S_d0_1 := by decide

/-- What the precondition says of the arrays it speaks of. -/
structure Says (a1 : IVec S4x2048 32) (a4 : FVec Ideal S512 .f32) (a6 : FVec Ideal S64 .f32) (a8 : FVec Ideal S8x256 .f32)
    (a10 : FVec Ideal S8x64 .f32) (a12 : FVec Ideal S64 .f32) (a13 : FVec Ideal S64x8 .f32) (a14 : FVec Ideal S8 .f32)
    (a16 : FVec Ideal S512 .f32) (a18 a19 a20 : FVec Ideal S768 .f32) : Prop where
  ids : ∀ j, (a1 j).toNat < 100000
  b4 : ∀ j, a4 j = (0 : EReal)
  b6 : ∀ j, a6 j = (0 : EReal)
  b8 : ∀ j, a8 j = (0 : EReal)
  b10 : ∀ j, a10 j = (0 : EReal)
  b12 : ∀ j, a12 j = (0 : EReal)
  w13 : ∀ j, ∃ r : ℝ, a13 j = (r : EReal)
  b14 : ∀ j, a14 j = (0 : EReal)
  b16 : ∀ j, a16 j = (0 : EReal)
  b18 : ∀ j, a18 j = (0 : EReal)
  g19 : ∀ j, a19 j = (1 : EReal)
  b20 : ∀ j, a20 j = (0 : EReal)

theorem both {a b : BitVec 1} (h : IntOp.andi a b = 1#1) : a = 1#1 ∧ b = 1#1 := by
  revert a b; decide

instance : Subsingleton S_.Idx := ⟨fun _ _ => funext fun i => i.elim0⟩

/-- A comparison of floats for equality that answers 1. -/
theorem eq_of_oeq {a b : EReal} (h : Ideal.cmp .oeq a b = 1#1) : a = b :=
  of_decide_eq_true ((Cert.Proof.Ideal.ofBool_one _).mp h)

theorem c_inf : Ideal.ofBits FTy.f32 0x7F800000#32 = ⊤ := by
  simp [Ideal.ofBits, Ideal.ieee]

/-- A number whose magnitude is below infinity is real. -/
theorem real_of_olt {a : EReal} (h : Ideal.cmp .olt (max a (-a)) ⊤ = 1#1) : ∃ r : ℝ, a = (r : EReal) := by
  have h : max a (-a) < ⊤ := of_decide_eq_true ((Cert.Proof.Ideal.ofBool_one _).mp h)
  induction a with
  | bot => simp at h
  | top => simp at h
  | coe r => exact ⟨r, rfl⟩

theorem eq_zero_of_all [Facts] {s : Shape} {axes : List (Fin s.rank)} (a : FVec Ideal s .f32) (hb : S_.BroadcastsInDim s (![] : Fin 0 → Fin s.rank))
    (hr : s.ReducesTo axes S_) (i : S_.Idx)
    (h : Host.reduce IntOp.andi (cmpf .oeq a (broadcastInDim s ![] hb (constant S_ .f32 0x00000000#32))) (constantI S_ 1 1#1) hr Facts.h_S_ i = 1#1)
    (j : s.Idx) : a j = (0 : EReal) :=
  (eq_of_oeq (Host.reduce_andi_all _ _ _ _ i h j)).trans Ideal.ofBits_zero_f32

theorem eq_one_of_all [Facts] {s : Shape} {axes : List (Fin s.rank)} (a : FVec Ideal s .f32) (hb : S_.BroadcastsInDim s (![] : Fin 0 → Fin s.rank))
    (hr : s.ReducesTo axes S_) (i : S_.Idx)
    (h : Host.reduce IntOp.andi (cmpf .oeq a (broadcastInDim s ![] hb (constant S_ .f32 0x3F800000#32))) (constantI S_ 1 1#1) hr Facts.h_S_ i = 1#1)
    (j : s.Idx) : a j = (1 : EReal) :=
  (eq_of_oeq (Host.reduce_andi_all _ _ _ _ i h j)).trans Ideal.ofBits_one_f32

theorem real_of_all [Facts] {s : Shape} {axes : List (Fin s.rank)} (a : FVec Ideal s .f32) (hb : S_.BroadcastsInDim s (![] : Fin 0 → Fin s.rank))
    (hr : s.ReducesTo axes S_) (i : S_.Idx)
    (h : Host.reduce IntOp.andi (cmpf .olt (Host.absf a) (broadcastInDim s ![] hb (constant S_ .f32 0x7F800000#32))) (constantI S_ 1 1#1) hr Facts.h_S_ i = 1#1)
    (j : s.Idx) : ∃ r : ℝ, a j = (r : EReal) := by
  have e : Ideal.cmp .olt (max (a j) (-(a j : EReal))) (Ideal.ofBits FTy.f32 0x7F800000#32) = 1#1 := Host.reduce_andi_all _ _ _ _ i h j
  rw [c_inf] at e
  exact real_of_olt e

/-- The precondition, read. -/
theorem read_pre [Facts] {a0 a1 a2 a3 a4 a5 a6 a7 a8 a9 a10 a11 a12 a13 a14 a15 a16 a17 a18 a19 a20}
    (h : Cert.Pre_as_set_up.fn (F := Ideal) a0 a1 a2 a3 a4 a5 a6 a7 a8 a9 a10 a11 a12 a13 a14 a15 a16 a17 a18 a19 a20 = fun _ => 1#1) :
    Says a1 a4 a6 a8 a10 a12 a13 a14 a16 a18 a19 a20 := by
  have i : S_.Idx := fun a => a.elim0
  replace h := congrFun h i
  unfold fn fn_part1 fn_part2 fn_part3 at h
  replace h := both h; obtain ⟨h, h13⟩ := h
  replace h := both h; obtain ⟨h, h20⟩ := h
  replace h := both h; obtain ⟨h, h19⟩ := h
  replace h := both h; obtain ⟨h, h18⟩ := h
  replace h := both h; obtain ⟨h, h16⟩ := h
  replace h := both h; obtain ⟨h, h14⟩ := h
  replace h := both h; obtain ⟨h, h12⟩ := h
  replace h := both h; obtain ⟨h, h10⟩ := h
  replace h := both h; obtain ⟨h, h8⟩ := h
  replace h := both h; obtain ⟨h, h6⟩ := h
  replace h := both h; obtain ⟨h, h4⟩ := h
  have q1 : ∀ j, (a1 j).toNat < 100000 := fun j => Cert.Proof.Ideal.lt_of_compared _ (Host.reduce_andi_all _ _ _ _ i h j)
  have q4 := eq_zero_of_all a4 _ _ i h4
  have q6 := eq_zero_of_all a6 _ _ i h6
  have q8 := eq_zero_of_all a8 _ _ i h8
  have q10 := eq_zero_of_all a10 _ _ i h10
  have q12 := eq_zero_of_all a12 _ _ i h12
  have q13 := real_of_all a13 _ _ i h13
  have q14 := eq_zero_of_all a14 _ _ i h14
  have q16 := eq_zero_of_all a16 _ _ i h16
  have q18 := eq_zero_of_all a18 _ _ i h18
  have q19 := eq_one_of_all a19 _ _ i h19
  have q20 := eq_zero_of_all a20 _ _ i h20
  clear h h4 h6 h8 h10 h12 h13 h14 h16 h18 h19 h20
  exact ⟨q1, q4, q6, q8, q10, q12, q13, q14, q16, q18, q19, q20⟩

end Cert.Proof.SetUp
-- ==== Proof.Ideal.Payload.lean ====
/-
  What one grid point of the TensorCore call writes, as a composition of named stages: gains, encoder neuron, router,
  experts, decoder neuron, norm. The stages are stated over any float values, and the run's pieces are that composition.
-/
module

public import proofs.«01_k».proof.Proof.Ideal.Body
public import Idealize.ShloMosaic.Lib.WholeRead

@[expose] public section

noncomputable section

namespace Cert.Proof.Ideal

open Cert.KernelIdeal Cert.KernelIdeal.Gen

open Idealize.ShloMosaic

variable {F : FTy → Type} [FloatOps F] [Named F]

/-- The neuron's state at step `n` under the drive `J`: decayed by `d`, driven, pulled back by `c` hyperbolic tangents. -/
def stateV {s : Shape} {φ : FTy} (d c : F φ) (J : FVec F s φ) : ℕ → FVec F s φ
  | 0 => subf J (broadcast s c)
  | n + 1 => subf (addf (mulf (broadcast s d) (stateV d c J n)) J) (mulf (broadcast s c) (tanh (stateV d c J n)))

/-- The sum of the first `n + 1` hyperbolic tangents. -/
def tanhsV {s : Shape} {φ : FTy} (d c : F φ) (J : FVec F s φ) : ℕ → FVec F s φ
  | 0 => tanh (stateV d c J 0)
  | n + 1 => addf (tanhsV d c J n) (tanh (stateV d c J (n + 1)))

/-- The rate of sixteen steps. -/
def rateV {s : Shape} {φ : FTy} (d c h q : F φ) (J : FVec F s φ) : FVec F s φ :=
  addf (broadcast s h) (mulf (tanhsV d c J 15) (broadcast s q))

/-- The encoder's rates of the block's rows, from the gains as a column, the rows and the weights. -/
def encV (g : FVec F S1024x1 .f32) (x : Vec F S1024x768 .f32) (We : Vec F S768x512 .f32) : FVec F S1024x512 .f32 :=
  rateV (Named.named κ "decay" 0x3F666666#32) (Scalar.ofBits .f32 0x40100000#32) (Scalar.ofBits .f32 0x3F000000#32)
    (Scalar.ofBits .f32 0x3D000000#32) (k1_pay6 g x We)

/-- The experts' weights of the block's rows, from the gains as a row, the rates and the router's weights. -/
def mixV (gr : FVec F S1x1024 .f32) (r : FVec F S1024x512 .f32) (Ws : Vec F S512x64 .f32) (R1 : Vec F S64x64 .f32)
    (R2 : Vec F S8x64 .f32) : FVec F S1024x8 .f32 :=
  k1_pay42 (k1_pay35 gr r Ws R1 R2) (k1_pay36 gr r Ws R1 R2) (k1_pay37 gr r Ws R1 R2) (k1_pay38 gr r Ws R1 R2)
    (k1_pay40 gr r Ws R1 R2) (k1_pay41 gr r Ws R1 R2)

/-- One expert's share: its output on the block's rows times its weight, column `k` of `w`. -/
def shareV (c : FVec F S1024x64 .f32) (w : FVec F S1024x8 .f32) (A : Vec F S1x64x256 .f32) (B : Vec F S1x256x64 .f32)
    (k : ℕ) (hk : S1024x8.Slices ![0, k] S1024x1) : FVec F S1024x64 .f32 :=
  mulf (k1_pay45 c A B) (broadcastTo S1024x64 (extractStridedSlice S1024x1 ![0, k] w hk) broadcasts_S1024x1_S1024x64)

/-- The eight experts' shares, added up. -/
def moeV (c : FVec F S1024x64 .f32) (w : FVec F S1024x8 .f32) (A : Fin 8 → Vec F S1x64x256 .f32)
    (B : Fin 8 → Vec F S1x256x64 .f32) : FVec F S1024x64 .f32 :=
  addf (addf (addf (addf (addf (addf (addf (addf (broadcast S1024x64 (Scalar.ofBits .f32 0x00000000#32))
    (shareV c w (A 0) (B 0) 0 slices_S1024x8_o0_0_S1024x1)) (shareV c w (A 1) (B 1) 1 slices_S1024x8_o0_1_S1024x1))
    (shareV c w (A 2) (B 2) 2 slices_S1024x8_o0_2_S1024x1)) (shareV c w (A 3) (B 3) 3 slices_S1024x8_o0_3_S1024x1))
    (shareV c w (A 4) (B 4) 4 slices_S1024x8_o0_4_S1024x1)) (shareV c w (A 5) (B 5) 5 slices_S1024x8_o0_5_S1024x1))
    (shareV c w (A 6) (B 6) 6 slices_S1024x8_o0_6_S1024x1)) (shareV c w (A 7) (B 7) 7 slices_S1024x8_o0_7_S1024x1)

/-- The rates that go to the decoder, from the experts' sum and the halved weights. -/
def backV (o : FVec F S1024x64 .f32) (C : Vec F S64x512 .f32) : FVec F S1024x512 .f32 :=
  addf (broadcast S1024x512 (Scalar.ofBits .f32 0x3F000000#32)) (mulf (broadcast S1024x512 (Scalar.ofBits .f32 0x3F000000#32))
    (tanh (matmul dot_S1024x64_S64x512_S1024x512_1_0_0_1_n_n none o (shapeCast S64x512 C shapeCasts_S64x512_S64x512)
      (constant S1024x512 .f32 0x00000000#32))))

/-- The decoder neuron's drive. -/
def driveV (g : FVec F S1024x1 .f32) (b : FVec F S1024x512 .f32) (D : Vec F S512x768 .f32) : FVec F S1024x768 .bf16 :=
  subf (mulf (broadcastTo S1024x768 (truncf .bf16 (mulf (broadcast S1024x1 (Scalar.ofBits .f32 0x40A00000#32)) g) bitsLt_bf16_f32)
      broadcasts_S1024x1_S1024x768)
    (truncf .bf16 (matmul dot_S1024x512_S512x768_S1024x768_1_0_0_1_n_n none b D (constant S1024x768 .f32 0x00000000#32))
      bitsLt_bf16_f32)) (broadcast S1024x768 (Scalar.ofBits .bf16 0x4030#16))

/-- The decoder's rates. -/
def decV (J : FVec F S1024x768 .bf16) : FVec F S1024x768 .bf16 :=
  rateV (Named.named κ "decay" 0x3F66#16) (Scalar.ofBits .bf16 0x4010#16) (Scalar.ofBits .bf16 0x3F00#16)
    (Scalar.ofBits .bf16 0x3D00#16) J

/-- A row mean: the product with a column of the named reciprocal. -/
def meanV (s : FVec F S1024x768 .f32) : FVec F S1024x1 .f32 :=
  matmul dot_S1024x768_S768x1_S1024x1_1_0_0_1_n_n none s (broadcast S768x1 (Named.named (F := F) (φ := .f32) κ "inv_d" 0x3AAAAAAB#32))
    (constant S1024x1 .f32 0x00000000#32)

/-- The norm of each row. -/
def normV (s : FVec F S1024x768 .f32) : FVec F S1024x768 .f32 :=
  mulf (subf s (broadcastTo S1024x768 (meanV s) broadcasts_S1024x1_S1024x768))
    (broadcastTo S1024x768 (rsqrt (addf (subf (meanV (mulf s s)) (mulf (meanV s) (meanV s)))
      (broadcast S1024x1 (Scalar.ofBits .f32 0x3727C5AC#32)))) broadcasts_S1024x1_S1024x768)

/-- The block that a grid point writes, from what it loads. -/
def blockV (z : Vec F S1x1x2048 .f32) (s : Vec F S1024x1 .f32) (sr : Vec F S1x1x1024 .f32) (x : Vec F S1024x768 .f32)
    (We : Vec F S768x512 .f32) (Ws : Vec F S512x64 .f32) (R1 : Vec F S64x64 .f32) (R2 : Vec F S8x64 .f32)
    (A : Fin 8 → Vec F S1x64x256 .f32) (B : Fin 8 → Vec F S1x256x64 .f32) (C : Vec F S64x512 .f32) (D : Vec F S512x768 .f32) :
    FVec F S1024x768 .f32 :=
  normV (extf .f32 (decV (driveV (k1_pay3 z s) (backV (moeV (k1_pay34 (encV (k1_pay3 z s) x We) Ws)
    (mixV (k1_pay5 (k1_pay4 z sr)) (encV (k1_pay3 z s) x We) Ws R1 R2) A B) C) D)) bitsLt_bf16_f32)

/-- Expert `k`'s first weights, a slice of a stack of eight. -/
def sliceA (x : Vec F S8x64x256 .f32) (k : Fin 8) : Vec F S1x64x256 .f32 := fun j =>
  x ((Rect.unit (s := S8x64x256) ![k.val, 0, 0] S1x64x256.size
    (fun a => by fin_cases k <;> revert a <;> decide)).toLoadRect.idx j)
/-- Expert `k`'s second weights. -/
def sliceB (x : Vec F S8x256x64 .f32) (k : Fin 8) : Vec F S1x256x64 .f32 := fun j =>
  x ((Rect.unit (s := S8x256x64) ![k.val, 0, 0] S1x256x64.size
    (fun a => by fin_cases k <;> revert a <;> decide)).toLoadRect.idx j)

/-- A load of a whole buffer held at contents that read `X`. -/
theorem load_unread {sp : Space} {sh : Shape} {e : EltTy} {m : Memref sig .tc sp sh e} (h : m.IsWhole) (X : sh.Idx → Elt F e) (B : LoadRect sh) :
    View.readAt (Elt F) m.view B (h.unread X) = fun x => X (B.idx x) :=
  funext fun x => h.readAt_unread X B x

set_option maxRecDepth 100000 in
set_option maxHeartbeats 4000000 in
/-- The pieces of the body's run: one store, of `blockV` of what is loaded. -/
theorem bodyRun_pieces (c : Dev nD) (i : grid1.Coords) (arg2 : Memref sig .tc .vmem S1024x768 .f32) (harg2 : arg2.IsWhole) (arg3 : Memref sig .tc .vmem S1x1x2048 .f32) (harg3 : arg3.IsWhole) (arg4 : Memref sig .tc .vmem S1024x1 .f32) (harg4 : arg4.IsWhole) (arg5 : Memref sig .tc .vmem S768x512 .f32) (harg5 : arg5.IsWhole) (arg6 : Memref sig .tc .vmem S512x64 .f32) (harg6 : arg6.IsWhole) (arg7 : Memref sig .tc .vmem S8x64x256 .f32) (harg7 : arg7.IsWhole) (arg8 : Memref sig .tc .vmem S8x256x64 .f32) (harg8 : arg8.IsWhole) (arg9 : Memref sig .tc .vmem S64x64 .f32) (harg9 : arg9.IsWhole) (arg10 : Memref sig .tc .vmem S8x64 .f32) (harg10 : arg10.IsWhole) (arg11 : Memref sig .tc .vmem S64x512 .f32) (harg11 : arg11.IsWhole) (arg12 : Memref sig .tc .vmem S512x768 .f32) (harg12 : arg12.IsWhole) (arg13 : Memref sig .tc .vmem S1024x768 .f32) (harg13 : arg13.IsWhole)
    (x0 : Vec F S1024x768 .f32) (x1 : Vec F S1x1x2048 .f32) (x2 : Vec F S1024x1 .f32) (x3 : Vec F S768x512 .f32) (x4 : Vec F S512x64 .f32) (x5 : Vec F S8x64x256 .f32) (x6 : Vec F S8x256x64 .f32) (x7 : Vec F S64x64 .f32) (x8 : Vec F S8x64 .f32) (x9 : Vec F S64x512 .f32) (x10 : Vec F S512x768 .f32) :
    (bodyRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1
      = [⟨Rect.unit (s := S1024x768) ![0, 0] S1024x768.size inb_S1024x768_S1024x768_0_0,
          blockV (View.readAt (Elt F) arg3.view (Rect.unit ![0, 0, 0] S1x1x2048.size inb_S1x1x2048_S1x1x2048_0_0_0).toLoadRect (harg3.unread x1))
            (View.readAt (Elt F) arg4.view (Rect.unit ![0, 0] S1024x1.size inb_S1024x1_S1024x1_0_0).toLoadRect (harg4.unread x2))
            (View.readAt (Elt F) arg3.view (Rect.unit (s := S1x1x2048) (k1_off1 i) S1x1x1024.size (k1_off1_inb i)).toLoadRect (harg3.unread x1))
            (View.readAt (Elt F) arg2.view (Rect.unit ![0, 0] S1024x768.size inb_S1024x768_S1024x768_0_0).toLoadRect (harg2.unread x0))
            (View.readAt (Elt F) arg5.view (Rect.unit ![0, 0] S768x512.size inb_S768x512_S768x512_0_0).toLoadRect (harg5.unread x3))
            (View.readAt (Elt F) arg6.view (Rect.unit ![0, 0] S512x64.size inb_S512x64_S512x64_0_0).toLoadRect (harg6.unread x4))
            (View.readAt (Elt F) arg9.view (Rect.unit ![0, 0] S64x64.size inb_S64x64_S64x64_0_0).toLoadRect (harg9.unread x7))
            (View.readAt (Elt F) arg10.view (Rect.unit ![0, 0] S8x64.size inb_S8x64_S8x64_0_0).toLoadRect (harg10.unread x8))
            (fun k => View.readAt (Elt F) arg7.view (Rect.unit (s := S8x64x256) ![k.val, 0, 0] S1x64x256.size (fun a => by fin_cases k <;> revert a <;> decide)).toLoadRect (harg7.unread x5))
            (fun k => View.readAt (Elt F) arg8.view (Rect.unit (s := S8x256x64) ![k.val, 0, 0] S1x256x64.size (fun a => by fin_cases k <;> revert a <;> decide)).toLoadRect (harg8.unread x6))
            (View.readAt (Elt F) arg11.view (Rect.unit ![0, 0] S64x512.size inb_S64x512_S64x512_0_0).toLoadRect (harg11.unread x9))
            (View.readAt (Elt F) arg12.view (Rect.unit ![0, 0] S512x768.size inb_S512x768_S512x768_0_0).toLoadRect (harg12.unread x10))⟩] := by
  rfl

end Cert.Proof.Ideal
-- ==== Proof.Ideal.Blocks.lean ====
/-
  The TensorCore call's windows at coordinates: which entry of its array each entry of a window's block is, and the
  block that a grid point leaves, as `blockV` of those blocks.
-/
module

public import proofs.«01_k».proof.Proof.Ideal.Region
public import proofs.«01_k».proof.Proof.Ideal.Payload
public import Idealize.ShloMosaic.Lib.Pipeline.ValueKit
public import Idealize.ShloMosaic.Lib.Pipeline.Value
public import Idealize.ShloMosaic.Lib.Pointwise

@[expose] public section

noncomputable section

namespace Cert.Proof.Ideal

open Cert.KernelIdeal Cert.KernelIdeal.Gen

open Idealize.ShloMosaic
open Idealize.ShloMosaic.TcCoe

variable {F : FTy → Type} [FloatOps F] [Named F]
variable (W : Dev nD → Valuation τ sig (Elt F)) (c : Dev nD) (t : Fin cfg1.N)

/-! ### Block indices, decided over the eight grid points -/

theorem index0 : ∀ t : Fin cfg1.N, win1_0.index t = ![t.val, 0] := (by decide +kernel : ∀ t : Fin grid1.N, win1_0.index t = ![t.val, 0])
theorem index1 : ∀ t : Fin cfg1.N, win1_1.index t = ![t.val / 2, 0, 0] := (by decide +kernel : ∀ t : Fin grid1.N, win1_1.index t = ![t.val / 2, 0, 0])
theorem index2 : ∀ t : Fin cfg1.N, win1_2.index t = ![t.val, 0] := (by decide +kernel : ∀ t : Fin grid1.N, win1_2.index t = ![t.val, 0])
theorem index3 : ∀ t : Fin cfg1.N, win1_3.index t = ![0, 0] := (by decide +kernel : ∀ t : Fin grid1.N, win1_3.index t = ![0, 0])
theorem index4 : ∀ t : Fin cfg1.N, win1_4.index t = ![0, 0] := (by decide +kernel : ∀ t : Fin grid1.N, win1_4.index t = ![0, 0])
theorem index5 : ∀ t : Fin cfg1.N, win1_5.index t = ![0, 0, 0] := (by decide +kernel : ∀ t : Fin grid1.N, win1_5.index t = ![0, 0, 0])
theorem index6 : ∀ t : Fin cfg1.N, win1_6.index t = ![0, 0, 0] := (by decide +kernel : ∀ t : Fin grid1.N, win1_6.index t = ![0, 0, 0])
theorem index7 : ∀ t : Fin cfg1.N, win1_7.index t = ![0, 0] := (by decide +kernel : ∀ t : Fin grid1.N, win1_7.index t = ![0, 0])
theorem index8 : ∀ t : Fin cfg1.N, win1_8.index t = ![0, 0] := (by decide +kernel : ∀ t : Fin grid1.N, win1_8.index t = ![0, 0])
theorem index9 : ∀ t : Fin cfg1.N, win1_9.index t = ![0, 0] := (by decide +kernel : ∀ t : Fin grid1.N, win1_9.index t = ![0, 0])
theorem index10 : ∀ t : Fin cfg1.N, win1_10.index t = ![0, 0] := (by decide +kernel : ∀ t : Fin grid1.N, win1_10.index t = ![0, 0])
theorem index11 : ∀ t : Fin cfg1.N, win1_11.index t = ![t.val, 0] := (by decide +kernel : ∀ t : Fin grid1.N, win1_11.index t = ![t.val, 0])

/-- The half of its batch row that a point works on. -/
theorem off1 : ∀ t : Fin cfg1.N, k1_off1 (grid1.coords t) = ![0, 0, 1024 * (t.val % 2)] :=
  (by decide +kernel : ∀ t : Fin grid1.N, k1_off1 (grid1.coords t) = ![0, 0, 1024 * (t.val % 2)])

/-- The row of the flattened tokens that row `r` of point `t`'s block is, and the point's batch row. -/
def tokenAt (r : Fin 1024) : Fin 8192 := ⟨t.val * 1024 + r.val, by have h : t.val < 8 := t.isLt; omega⟩
def batchAt : Fin 4 := ⟨t.val / 2, by have h : t.val < 8 := t.isLt; omega⟩

/-! ### The blocks -/

theorem blk0 (r : Fin 1024) (k : Fin 768) :
    iblk W c 0 t (ix2 r k) = (W c (Proc.devRef .tc main_v3) : FVec F S8192x768 .f32) (ix2 (tokenAt t r) k) := by
  unfold tokenAt
  blk_ext! [iblk, index0]

theorem blk1 (p : Fin 2048) :
    iblk W c 1 t (ix3 0 0 p) = (W c (Proc.devRef .tc main_v4) : FVec F S4x1x2048 .f32) (ix3 (batchAt t) 0 p) := by
  unfold batchAt
  blk_ext! [iblk, index1]

theorem blk2 (r : Fin 1024) :
    iblk W c 2 t (ix2 r 0) = (W c (Proc.devRef .tc main_v5) : FVec F S8192x1 .f32) (ix2 (tokenAt t r) 0) := by
  unfold tokenAt
  blk_ext! [iblk, index2]

theorem blk3 (i : Fin 768) (j : Fin 512) :
    iblk W c 3 t (ix2 i j) = (W c (Proc.devRef .tc main_arg3) : FVec F S768x512 .f32) (ix2 i j) := by
  blk_ext! [iblk, index3]
theorem blk4 (i : Fin 512) (j : Fin 64) :
    iblk W c 4 t (ix2 i j) = (W c (Proc.devRef .tc main_arg5) : FVec F S512x64 .f32) (ix2 i j) := by
  blk_ext! [iblk, index4]
theorem blk5 (e : Fin 8) (i : Fin 64) (j : Fin 256) :
    iblk W c 5 t (ix3 e i j) = (W c (Proc.devRef .tc main_arg7) : FVec F S8x64x256 .f32) (ix3 e i j) := by
  blk_ext! [iblk, index5]
theorem blk6 (e : Fin 8) (i : Fin 256) (j : Fin 64) :
    iblk W c 6 t (ix3 e i j) = (W c (Proc.devRef .tc main_arg9) : FVec F S8x256x64 .f32) (ix3 e i j) := by
  blk_ext! [iblk, index6]
theorem blk7 (i j : Fin 64) :
    iblk W c 7 t (ix2 i j) = (W c (Proc.devRef .tc main_v6) : FVec F S64x64 .f32) (ix2 i j) := by
  blk_ext! [iblk, index7]
theorem blk8 (i : Fin 8) (j : Fin 64) :
    iblk W c 8 t (ix2 i j) = (W c (Proc.devRef .tc main_v7) : FVec F S8x64 .f32) (ix2 i j) := by
  blk_ext! [iblk, index8]
theorem blk9 (i : Fin 64) (j : Fin 512) :
    iblk W c 9 t (ix2 i j) = (W c (Proc.devRef .tc main_v9) : FVec F S64x512 .f32) (ix2 i j) := by
  blk_ext! [iblk, index9]
theorem blk10 (i : Fin 512) (j : Fin 768) :
    iblk W c 10 t (ix2 i j) = (W c (Proc.devRef .tc main_arg17) : FVec F S512x768 .f32) (ix2 i j) := by
  blk_ext! [iblk, index10]

/-! ### What a point leaves -/

/-- The scores of the rows of the point's block, as the row vector the body loads. -/
def halfRow : Vec F S1x1x1024 .f32 := fun x =>
  iblk W c 1 t ((Rect.unit (s := S1x1x2048) (k1_off1 (grid1.coords t)) S1x1x1024.size (k1_off1_inb (grid1.coords t))).toLoadRect.idx x)

/-- A load of a whole buffer, from its start, reads the buffer's contents. -/
theorem load_whole {sp : Space} {sh : Shape} {e : EltTy} {m : Memref sig .tc sp sh e} (h : m.IsWhole) (X : sh.Idx → Elt F e)
    (off : Fin sh.rank → ℕ) (ho : ∀ a, off a = 0) (inb) :
    View.readAt (Elt F) m.view (Rect.unit off sh.size inb).toLoadRect (h.unread X) = X := by
  rw [load_unread]
  funext x
  refine congrArg X (funext fun a => Fin.ext ?_)
  show off a + 1 * (x a).val = (x a).val
  rw [ho a]; omega

theorem zero2 : ∀ a, (![0, 0] : Fin 2 → ℕ) a = 0 := by decide
theorem zero3 : ∀ a, (![0, 0, 0] : Fin 3 → ℕ) a = 0 := by decide

set_option maxRecDepth 16384 in
/-- What point `t` leaves is `blockV` of the blocks it reads. -/
theorem outAt_eq : outAt W c t = blockV (iblk W c 1 t) (iblk W c 2 t) (halfRow W c t) (iblk W c 0 t) (iblk W c 3 t) (iblk W c 4 t)
    (iblk W c 7 t) (iblk W c 8 t) (sliceA (iblk W c 5 t)) (sliceB (iblk W c 6 t)) (iblk W c 9 t) (iblk W c 10 t) := by
  unfold outAt piecesAt
  rw [bodyRun_pieces]
  refine (View.read_writes_full _ _ inb_S1024x768_S1024x768_0_0 _ []).trans ?_
  congr 1
  · exact load_whole _ _ _ zero3 _
  · exact load_whole _ _ _ zero2 _
  · exact load_unread _ _ _
  · exact load_whole _ _ _ zero2 _
  · exact load_whole _ _ _ zero2 _
  · exact load_whole _ _ _ zero2 _
  · exact load_whole _ _ _ zero2 _
  · exact load_whole _ _ _ zero2 _
  · funext k; exact load_unread _ _ _
  · funext k; exact load_unread _ _ _
  · exact load_whole _ _ _ zero2 _
  · exact load_whole _ _ _ zero2 _

/-- Point `t`'s half row: its rows' scores. -/
theorem halfRow_apply (r : Fin 1024) :
    halfRow W c t (ix3 0 0 r) = (W c (Proc.devRef .tc main_v4) : FVec F S4x1x2048 .f32)
      (ix3 (batchAt t) 0 ⟨t.val % 2 * 1024 + r.val, by omega⟩) := by
  rw [← blk1 W c t]
  unfold halfRow
  refine congrArg (iblk W c 1 t) (funext fun a => Fin.ext ?_)
  show k1_off1 (grid1.coords t) a + 1 * ((ix3 0 0 r : S1x1x1024.Idx) a).val = _
  rw [off1 t]
  match a with
  | 0 => rfl
  | 1 => rfl
  | 2 => show 1024 * (t.val % 2) + 1 * r.val = t.val % 2 * 1024 + r.val; omega

theorem sliceA_apply (x : Vec F S8x64x256 .f32) (e : Fin 8) (i : Fin 64) (j : Fin 256) : sliceA x e (ix3 0 i j) = x (ix3 e i j) := by
  unfold sliceA
  refine congrArg x (funext fun a => Fin.ext ?_)
  match a with
  | 0 => show e.val + 1 * 0 = e.val; omega
  | 1 => show 0 + 1 * i.val = i.val; omega
  | 2 => show 0 + 1 * j.val = j.val; omega

theorem sliceB_apply (x : Vec F S8x256x64 .f32) (e : Fin 8) (i : Fin 256) (j : Fin 64) : sliceB x e (ix3 0 i j) = x (ix3 e i j) := by
  unfold sliceB
  refine congrArg x (funext fun a => Fin.ext ?_)
  match a with
  | 0 => show e.val + 1 * 0 = e.val; omega
  | 1 => show 0 + 1 * i.val = i.val; omega
  | 2 => show 0 + 1 * j.val = j.val; omega

/-! ### The output array, block by block -/

theorem index11_inj : ∀ t t' : Fin cfg1.N, win1_11.index t = win1_11.index t' → t = t' :=
  (by decide +kernel : ∀ t t' : Fin grid1.N, win1_11.index t = win1_11.index t' → t = t')

/-- Two points' output blocks do not meet. -/
theorem apart11 : ∀ t t' : Fin cfg1.N, (cfg1.win 11).flush t = true → (cfg1.win 11).flush t' = true → t ≠ t' →
    Disjoint ((cfg1.win 11).blk t).view.set ((cfg1.win 11).blk t').view.set :=
  fun t t' _ _ hne => (cfg1.win 11).disjoint_blk fun h => hne (index11_inj t t' h)

theorem flush11 : ∀ t : Fin cfg1.N, (cfg1.win 11).flush t = true := (by decide +kernel : ∀ t : Fin grid1.N, win1_11.flush t = true)

/-- Row `r` of block `t` of the output array after the region is row `r` of what point `t` left. -/
theorem out_apply (r : Fin 1024) (d : Fin 768) :
    ((dats W 0 c).arrAt 11 cfg1.N : FVec F S8192x768 .f32) (ix2 (tokenAt t r) d) = outAt W c t (ix2 r d) := by
  have h := congrFun ((dats W 0 c).read_blk_arrAt_eq_flushed 11 apart11 cfg1.N t t.isLt (flush11 t)) (ix2 r d)
  refine Eq.trans ?_ (h.trans ?_)
  · unfold tokenAt
    blk_ext! [index11]
  · unfold Pipeline.Dat.flushed
    rw [after_11]
    rfl

end Cert.Proof.Ideal
-- ==== Proof.Ideal.Arrays.lean ====
/-
  The arrays that the TensorCore call finds, entry by entry from the program's arguments: the token rows, the gathered
  scores in their two layouts, the transposed and the halved weights; and the program's result from the call's output.
-/
module

public import proofs.«01_k».proof.Proof.Ideal.Frame
public import proofs.«01_k».proof.Proof.Ideal.Blocks

@[expose] public section

noncomputable section

namespace Cert.Proof.Ideal

open Cert.KernelIdeal Cert.KernelIdeal.Gen

open Idealize.ShloMosaic
open Idealize.ShloMosaic.TcCoe

variable {F : FTy → Type} [FloatOps F] [Named F]
variable (m : (ℓ : Loc nD τ sig) → Buf (Elt F) ℓ) (c : Dev nD)

/-! ### The reshapes and transposes, at an index -/

theorem cast_table {α : Type} (X : S100000x1.Idx → α) (n : ℕ) :
    shapeCast S100000 X shapeCasts_S100000x1_S100000 (entry n) = X (ix2 ⟨n % 100000, Nat.mod_lt n (by decide)⟩ 0) := by
  have e : entry n = ix1 ⟨n % 100000, Nat.mod_lt n (by decide)⟩ := by
    funext a; match a with | 0 => rfl
  rw [e]
  pointwise
theorem cast_ids {α : Type} (X : S4x2048.Idx → α) (j : Fin 8192) :
    shapeCast S8192 X shapeCasts_S4x2048_S8192 (ix1 j)
      = X (ix2 ⟨j.val / 2048, by omega⟩ ⟨j.val % 2048, Nat.mod_lt _ (by norm_num)⟩) := by
  pointwise
theorem cast_rows {α : Type} (X : S4x2048x768.Idx → α) (j : Fin 8192) (k : Fin 768) :
    shapeCast S8192x768 X shapeCasts_S4x2048x768_S8192x768 (ix2 j k)
      = X (ix3 ⟨j.val / 2048, by omega⟩ ⟨j.val % 2048, Nat.mod_lt _ (by norm_num)⟩ k) := by
  pointwise
theorem cast_batch {α : Type} (X : S8192.Idx → α) (b : Fin 4) (p : Fin 2048) :
    shapeCast S4x1x2048 X shapeCasts_S8192_S4x1x2048 (ix3 b 0 p) = X (ix1 ⟨b.val * 2048 + p.val, by omega⟩) := by
  pointwise
theorem cast_col {α : Type} (X : S8192.Idx → α) (j : Fin 8192) :
    shapeCast S8192x1 X shapeCasts_S8192_S8192x1 (ix2 j 0) = X (ix1 j) := by
  pointwise
theorem cast_out {α : Type} (X : S8192x768.Idx → α) (b : Fin 4) (s : Fin 2048) (d : Fin 768) :
    shapeCast S4x2048x768 X shapeCasts_S8192x768_S4x2048x768 (ix3 b s d) = X (ix2 ⟨b.val * 2048 + s.val, by omega⟩ d) := by
  pointwise
theorem flip_w1 {α : Type} (X : S64x64.Idx → α) (i j : Fin 64) :
    transpose S64x64 [1, 0] X transposes_S64x64_S64x64_1_0 (ix2 i j) = X (ix2 j i) := by
  pointwise
theorem flip_w2 {α : Type} (X : S64x8.Idx → α) (i : Fin 8) (j : Fin 64) :
    transpose S8x64 [1, 0] X transposes_S64x8_S8x64_1_0 (ix2 i j) = X (ix2 j i) := by
  pointwise

theorem Wgot_keep (b : Ref sig .tc) (hb : b ∉ written) :
    Wgot m c (Proc.devRef .tc b) = m ((c.tc : Thread nD τ).loc b) :=
  (Function.update_of_ne (StableHlo.devRef_ne_of_ne fun e => hb (by rw [e]; simp)) _ _).trans (Wcall_keep m c b hb)

/-! ### What the SparseCore call is given, and the gathered scores -/

theorem fT_eq : fT m c = shapeCast S100000 (m ((c.tc : Thread nD τ).loc main_arg2) : FVec F S100000x1 .f32) shapeCasts_S100000x1_S100000 := by
  show StableHlo.after opsA (StableHlo.launchContents m c) (Proc.devRef .tc main_v0) = _
  after_results
  rfl
theorem fI_eq : fI m c = shapeCast S8192 (m ((c.tc : Thread nD τ).loc main_arg1) : IVec S4x2048 32) shapeCasts_S4x2048_S8192 := by
  show StableHlo.after opsA (StableHlo.launchContents m c) (Proc.devRef .tc main_v1) = _
  after_results
  rfl

/-- The table's row that a number names. -/
def rowAt (n : ℕ) : Fin 100000 := ⟨n % 100000, Nat.mod_lt n (by decide)⟩

/-- The score of token `s` of batch row `b`: the table at the token's id. -/
def scoreAt (b : Fin 4) (s : Fin 2048) : F .f32 :=
  (m ((c.tc : Thread nD τ).loc main_arg2) : FVec F S100000x1 .f32)
    (ix2 (rowAt ((m ((c.tc : Thread nD τ).loc main_arg1) : IVec S4x2048 32) (ix2 b s)).toNat) 0)

/-- The gathered scores, at the flattened token. -/
theorem gathered_apply (j : Fin 8192) :
    (Wgot m c (Proc.devRef .tc main_v2) : FVec F S8192 .f32) (ix1 j)
      = scoreAt m c ⟨j.val / 2048, by omega⟩ ⟨j.val % 2048, Nat.mod_lt _ (by norm_num)⟩ := by
  rw [Wgot_v2]
  unfold fG gathered
  rw [fT_eq, fI_eq]
  refine (cast_table _ _).trans ?_
  unfold scoreAt rowAt
  rw [cast_ids]

/-! ### What the TensorCore call finds -/

theorem v3_eq : Wreg m c (Proc.devRef .tc main_v3)
    = shapeCast S8192x768 (m ((c.tc : Thread nD τ).loc main_arg0) : FVec F S4x2048x768 .f32) shapeCasts_S4x2048x768_S8192x768 := by
  show StableHlo.after opsB (Wgot m c) (Proc.devRef .tc main_v3) = _
  after_results
  rw [Wgot_keep m c main_arg0 (by decide)]
  rfl
theorem v4_eq : Wreg m c (Proc.devRef .tc main_v4)
    = shapeCast S4x1x2048 (Wgot m c (Proc.devRef .tc main_v2) : FVec F S8192 .f32) shapeCasts_S8192_S4x1x2048 := by
  show StableHlo.after opsB (Wgot m c) (Proc.devRef .tc main_v4) = _
  after_results
  rfl
theorem v5_eq : Wreg m c (Proc.devRef .tc main_v5)
    = shapeCast S8192x1 (Wgot m c (Proc.devRef .tc main_v2) : FVec F S8192 .f32) shapeCasts_S8192_S8192x1 := by
  show StableHlo.after opsB (Wgot m c) (Proc.devRef .tc main_v5) = _
  after_results
  rfl
theorem v6_eq : Wreg m c (Proc.devRef .tc main_v6)
    = transpose S64x64 [1, 0] (m ((c.tc : Thread nD τ).loc main_arg11) : FVec F S64x64 .f32) transposes_S64x64_S64x64_1_0 := by
  show StableHlo.after opsB (Wgot m c) (Proc.devRef .tc main_v6) = _
  after_results
  rw [Wgot_keep m c main_arg11 (by decide)]
theorem v7_eq : Wreg m c (Proc.devRef .tc main_v7)
    = transpose S8x64 [1, 0] (m ((c.tc : Thread nD τ).loc main_arg13) : FVec F S64x8 .f32) transposes_S64x8_S8x64_1_0 := by
  show StableHlo.after opsB (Wgot m c) (Proc.devRef .tc main_v7) = _
  after_results
  rw [Wgot_keep m c main_arg13 (by decide)]
theorem v9_eq : Wreg m c (Proc.devRef .tc main_v9)
    = mulf (broadcastInDim S64x512 ![] bcast_S_S64x512 (constant S_ .f32 0x3F000000#32))
        (m ((c.tc : Thread nD τ).loc main_arg15) : FVec F S64x512 .f32) := by
  show StableHlo.after opsB (Wgot m c) (Proc.devRef .tc main_v9) = _
  after_results
  rw [Wgot_keep m c main_arg15 (by decide)]

theorem v3_apply (j : Fin 8192) (k : Fin 768) : (Wreg m c (Proc.devRef .tc main_v3) : FVec F S8192x768 .f32) (ix2 j k)
    = (m ((c.tc : Thread nD τ).loc main_arg0) : FVec F S4x2048x768 .f32)
        (ix3 ⟨j.val / 2048, by omega⟩ ⟨j.val % 2048, Nat.mod_lt _ (by norm_num)⟩ k) := by
  rw [v3_eq]
  exact cast_rows _ j k

theorem v4_apply (b : Fin 4) (p : Fin 2048) : (Wreg m c (Proc.devRef .tc main_v4) : FVec F S4x1x2048 .f32) (ix3 b 0 p) = scoreAt m c b p := by
  rw [v4_eq]
  refine (cast_batch _ b p).trans ((gathered_apply m c _).trans ?_)
  congr 1
  · apply Fin.ext; show (b.val * 2048 + p.val) / 2048 = b.val; omega
  · apply Fin.ext; show (b.val * 2048 + p.val) % 2048 = p.val; omega

theorem v5_apply (j : Fin 8192) : (Wreg m c (Proc.devRef .tc main_v5) : FVec F S8192x1 .f32) (ix2 j 0)
    = scoreAt m c ⟨j.val / 2048, by omega⟩ ⟨j.val % 2048, Nat.mod_lt _ (by norm_num)⟩ := by
  rw [v5_eq]
  exact (cast_col _ j).trans (gathered_apply m c j)

theorem v6_apply (i j : Fin 64) : (Wreg m c (Proc.devRef .tc main_v6) : FVec F S64x64 .f32) (ix2 i j)
    = (m ((c.tc : Thread nD τ).loc main_arg11) : FVec F S64x64 .f32) (ix2 j i) := by
  rw [v6_eq]
  exact flip_w1 _ i j

theorem v7_apply (i : Fin 8) (j : Fin 64) : (Wreg m c (Proc.devRef .tc main_v7) : FVec F S8x64 .f32) (ix2 i j)
    = (m ((c.tc : Thread nD τ).loc main_arg13) : FVec F S64x8 .f32) (ix2 j i) := by
  rw [v7_eq]
  exact flip_w2 _ i j

theorem v9_apply (i : Fin 64) (j : Fin 512) : (Wreg m c (Proc.devRef .tc main_v9) : FVec F S64x512 .f32) (ix2 i j)
    = FloatOps.mulf (FloatOps.ofBits .f32 0x3F000000#32) ((m ((c.tc : Thread nD τ).loc main_arg15) : FVec F S64x512 .f32) (ix2 i j)) := by
  rw [v9_eq]
  rfl

/-! ### The result -/

theorem result_eq : Wend m c (Proc.devRef .tc main_v11)
    = shapeCast S4x2048x768 ((dats (Wreg m) 0 c).arrAt 11 cfg1.N : FVec F S8192x768 .f32) shapeCasts_S8192x768_S4x2048x768 := by
  show StableHlo.after opsC (Wout m c) (Proc.devRef .tc main_v11) = _
  after_results
  have h := Pipeline.afterRegion_arr (dats (Wreg m) 0 c) (Wreg m c) winFacts1.arr_inj 11
  exact congrArg (fun X : FVec F S8192x768 .f32 => shapeCast S4x2048x768 X shapeCasts_S8192x768_S4x2048x768) h

theorem result_apply (b : Fin 4) (s : Fin 2048) (d : Fin 768) :
    (Wend m c (Proc.devRef .tc main_v11) : FVec F S4x2048x768 .f32) (ix3 b s d)
      = ((dats (Wreg m) 0 c).arrAt 11 cfg1.N : FVec F S8192x768 .f32) (ix2 ⟨b.val * 2048 + s.val, by omega⟩ d) := by
  rw [result_eq]
  exact cast_out _ b s d

end Cert.Proof.Ideal
-- ==== Proof.Ideal.BlockRow.lean ====
module

public import proofs.«01_k».proof.Proof.Ideal.Payload
public import proofs.«01_k».proof.Proof.Math.Row
public import Idealize.ShloMosaic.Lib.Pointwise

@[expose] public section

/-! The block's stages over the extended reals, read at a row: the row functions of Math/Row.lean. -/

noncomputable section

namespace Cert.Proof.Ideal

open Cert.KernelIdeal Cert.KernelIdeal.Gen

open Idealize.ShloMosaic

open Cert.Proof.Math (sig kth top gain enc cont logit expo mix expert moe back dec norm kRate kv kacc epsW epsN IsFirst IsNext
  chosen wt)

theorem c_negInf : Ideal.ofBits FTy.f32 0xFF800000#32 = ⊥ := by
  simp [Ideal.ofBits, Ideal.ieee]

theorem c_decay : (Named.named κ "decay" 0x3F666666#32 : Ideal .f32) = ((9 / 10 : ℝ) : EReal) :=
  IdealRules.named_const.ideal_named_scalar _ _ _ _ rfl

theorem c_decayh : (Named.named κ "decay" 0x3F66#16 : Ideal .bf16) = ((9 / 10 : ℝ) : EReal) :=
  IdealRules.named_const.ideal_named_scalar _ _ _ _ rfl

theorem c_neg : (Named.named κ "neg" 0xF149F2CA#32 : Ideal .f32) = ⊥ :=
  IdealRules.named_const.ideal_named_scalar _ _ _ _ rfl

theorem c_inv : (Named.named κ "inv_d" 0x3AAAAAAB#32 : Ideal .f32) = ((1 / 768 : ℝ) : EReal) :=
  IdealRules.named_const.ideal_named_scalar _ _ _ _ rfl

/-- A bit, read as a number by way of a word. -/
theorem bit_number (b : Bool) :
    (FloatOps.sitofp .f32 (BitVec.setWidth 32 (BitVec.ofBool b)) : Ideal .f32) = if b then (1 : EReal) else 0 := by
  have h : ∀ w : BitVec 32, (FloatOps.sitofp .f32 w : Ideal .f32) = ((w.toInt : ℝ) : EReal) := fun _ => rfl
  rw [h]
  cases b
  · rw [show (BitVec.setWidth 32 (BitVec.ofBool false)).toInt = 0 by decide]; simp
  · rw [show (BitVec.setWidth 32 (BitVec.ofBool true)).toInt = 1 by decide]; simp

/-! ### The gains -/

theorem drop_univ : (Finset.univ.filter fun i : S1x1x1x2048.Idx => reduces_S1x1x1x2048_S1.drop i = ix1 0)
    = Finset.univ.map ⟨fun k : Fin 2048 => (ix4 0 0 0 k : S1x1x1x2048.Idx), fun a b h => by
      have := congrFun h 3; exact this⟩ := by
  rw [Finset.filter_true_of_mem fun i _ => funext fun b => Fin.ext (by
    have h1 := (reduces_S1x1x1x2048_S1.drop i b).isLt
    have h2 := ((ix1 0 : S1.Idx) b).isLt
    have h3 : ∀ b, S1.size b = 1 := by decide
    exact (Nat.lt_one_iff.mp (lt_of_lt_of_eq h1 (h3 b))).trans (Nat.lt_one_iff.mp (lt_of_lt_of_eq h2 (h3 b))).symm)]
  ext i
  simp only [Finset.mem_univ, Finset.mem_map, true_and, Function.Embedding.coeFn_mk, true_iff]
  refine ⟨i 3, ?_⟩
  have h0 : ∀ (a : Fin 1), a = 0 := fun a => Subsingleton.elim _ _
  rw [eq_ix4 i, h0 (i 0), h0 (i 1), h0 (i 2)]
  rfl

theorem sum_all (v : S1x1x1x2048.Idx → EReal) :
    Ideal.reduceAdd reduces_S1x1x1x2048_S1 v (ix1 0) = ∑ k : Fin 2048, v (ix4 0 0 0 k) := by
  unfold Ideal.reduceAdd
  rw [drop_univ, Finset.sum_map]
  rfl

theorem max_all (f : S1x1x1x2048.Idx → EReal) :
    Finset.fold max ⊥ f (Finset.univ.filter fun i : S1x1x1x2048.Idx => reduces_S1x1x1x2048_S1.drop i = ix1 0)
      = top fun k => f (ix4 0 0 0 k) := by
  rw [drop_univ, Finset.fold_map]
  rfl

/-- The threshold: the second largest score of the batch row. -/
theorem pay2_apply (z : Vec Ideal S1x1x2048 .f32) : k1_pay2 z = kth fun p => z (ix3 0 0 p) := by
  unfold k1_pay2
  pointwise
  simp only [c_negInf, c_neg, Cert.Proof.Math.c_3_2, max_all, sum_all, ix4_3]
  pointwise
  simp only [bit_number, decide_eq_true_eq]
  rfl

theorem pay3_apply (z : Vec Ideal S1x1x2048 .f32) (s : Vec Ideal S1024x1 .f32) (Z : Fin 2048 → EReal)
    (hz : ∀ p, z (ix3 0 0 p) = Z p) (r : Fin 1024) (σ : Fin 2048) (hs : s (ix2 r 0) = Z σ) : k1_pay3 z s (ix2 r 0) = gain Z σ := by
  pointwise [k1_pay3]
  simp only [bit_number, decide_eq_true_eq, pay2_apply, hz, hs]
  rfl

theorem pay5_apply (z : Vec Ideal S1x1x2048 .f32) (s : Vec Ideal S1x1x1024 .f32) (Z : Fin 2048 → EReal)
    (hz : ∀ p, z (ix3 0 0 p) = Z p) (r : Fin 1024) (σ : Fin 2048) (hs : s (ix3 0 0 r) = Z σ) :
    k1_pay5 (k1_pay4 z s) (ix2 0 r) = gain Z σ := by
  pointwise [k1_pay5, k1_pay4]
  simp only [bit_number, decide_eq_true_eq, pay2_apply, hz, hs]
  rfl

/-! ### The neurons -/

theorem state_apply {s : Shape} {φ : FTy} (d c : Ideal φ) (hd : d = ((9 / 10 : ℝ) : EReal)) (hc : c = ((9 / 4 : ℝ) : EReal))
    (J : FVec Ideal s φ) (n : ℕ) (i : s.Idx) : stateV d c J n i = kv (J i) n := by
  induction n with
  | zero => subst hc; rfl
  | succ n ih =>
    show d * stateV d c J n i + J i - c * Ideal.tanh (stateV d c J n i) = _
    rw [ih, hd, hc]; rfl

theorem tanhs_apply {s : Shape} {φ : FTy} (d c : Ideal φ) (hd : d = ((9 / 10 : ℝ) : EReal)) (hc : c = ((9 / 4 : ℝ) : EReal))
    (J : FVec Ideal s φ) (n : ℕ) (i : s.Idx) : tanhsV d c J n i = kacc (J i) n := by
  induction n with
  | zero =>
    show Ideal.tanh (stateV d c J 0 i) = _
    rw [state_apply d c hd hc]; rfl
  | succ n ih =>
    show tanhsV d c J n i + Ideal.tanh (stateV d c J (n + 1) i) = _
    rw [ih, state_apply d c hd hc]; rfl

theorem rate_apply {s : Shape} {φ : FTy} (d c h q : Ideal φ) (hd : d = ((9 / 10 : ℝ) : EReal)) (hc : c = ((9 / 4 : ℝ) : EReal))
    (hh : h = ((1 / 2 : ℝ) : EReal)) (hq : q = ((1 / 32 : ℝ) : EReal)) (J : FVec Ideal s φ) (i : s.Idx) :
    rateV d c h q J i = kRate (J i) := by
  show h + tanhsV d c J 15 i * q = _
  rw [tanhs_apply d c hd hc, hh, hq]; rfl

theorem enc_apply (g : FVec Ideal S1024x1 .f32) (x : Vec Ideal S1024x768 .f32) (We : Vec Ideal S768x512 .f32) (r : Fin 1024)
    (G : EReal) (hg : g (ix2 r 0) = G) (hG : ∃ a : ℝ, 0 ≤ a ∧ G = (a : EReal)) (h : Fin 512) :
    encV g x We (ix2 r h) = enc G (fun k => x (ix2 r k)) (fun k h => We (ix2 k h)) h := by
  unfold encV
  refine (rate_apply _ _ _ _ c_decay Cert.Proof.Math.c_9_4 Cert.Proof.Math.c_half Cert.Proof.Math.c_32nd _ _).trans ?_
  pointwise [k1_pay6]
  rw [hg, Cert.Proof.Math.c_5, Cert.Proof.Math.c_11_4, Cert.Proof.Math.rate_drive hG]
  rfl

theorem dec_apply (g : FVec Ideal S1024x1 .f32) (b : FVec Ideal S1024x512 .f32) (D : Vec Ideal S512x768 .f32) (r : Fin 1024)
    (G : EReal) (hg : g (ix2 r 0) = G) (hG : ∃ a : ℝ, 0 ≤ a ∧ G = (a : EReal)) (d : Fin 768) :
    decV (driveV g b D) (ix2 r d) = dec G (fun h => b (ix2 r h)) (fun h d => D (ix2 h d)) d := by
  unfold decV
  refine (rate_apply _ _ _ _ c_decayh Cert.Proof.Math.c_9_4h Cert.Proof.Math.c_halfh Cert.Proof.Math.c_32ndh _ _).trans ?_
  pointwise [driveV]
  rw [hg, Cert.Proof.Math.c_5, Cert.Proof.Math.c_11_4h, Cert.Proof.Math.rate_drive hG]
  rfl

/-! ### The experts -/

theorem cont_apply (ra : FVec Ideal S1024x512 .f32) (Ws : Vec Ideal S512x64 .f32) (r : Fin 1024) (m : Fin 64) :
    k1_pay34 ra Ws (ix2 r m) = cont (fun h => ra (ix2 r h)) (fun h m => Ws (ix2 h m)) m := by
  pointwise [k1_pay34]
  rfl

theorem moe_apply (c : FVec Ideal S1024x64 .f32) (w : FVec Ideal S1024x8 .f32) (A : Fin 8 → Vec Ideal S1x64x256 .f32)
    (B : Fin 8 → Vec Ideal S1x256x64 .f32) (r : Fin 1024) (m : Fin 64) :
    moeV c w A B (ix2 r m) = moe (fun q => c (ix2 r q)) (fun e => w (ix2 r e)) (fun e q k => A e (ix3 0 q k))
      (fun e k m => B e (ix3 0 k m)) m := by
  pointwise [moeV, shareV, k1_pay45]
  rfl

theorem back_apply (o : FVec Ideal S1024x64 .f32) (C : Vec Ideal S64x512 .f32) (C' : Fin 64 → Fin 512 → EReal)
    (hC : ∀ m h, C (ix2 m h) = ((1 / 2 : ℝ) : EReal) * C' m h) (r : Fin 1024) (h : Fin 512) :
    backV o C (ix2 r h) = back (fun m => o (ix2 r m)) C' h := by
  pointwise [backV]
  simp only [hC, Cert.Proof.Math.c_half]
  rw [Cert.Proof.Math.back_eq]

theorem norm_apply (s : FVec Ideal S1024x768 .f32) (r : Fin 1024) (hs : ∀ d, ∃ a : ℝ, s (ix2 r d) = (a : EReal)) (d : Fin 768) :
    normV s (ix2 r d) = norm (fun d => s (ix2 r d)) d := by
  pointwise [normV, meanV]
  rw [← Cert.Proof.Math.norm_eq hs]
  simp only [c_inv]
  rfl

/-! ### The router -/

variable (gr : FVec Ideal S1x1024 .f32) (ra : FVec Ideal S1024x512 .f32) (Ws : Vec Ideal S512x64 .f32) (R1 : Vec Ideal S64x64 .f32)
    (R2 : Vec Ideal S8x64 .f32) (r : Fin 1024)

/-- The scores of the block's row `r`. -/
def scoreOf : Fin 8 → EReal :=
  logit (gr (ix2 0 r)) (cont (fun h => ra (ix2 r h)) (fun h m => Ws (ix2 h m))) (fun m k => R1 (ix2 k m)) (fun k e => R2 (ix2 e k))

theorem pay35_apply (e : Fin 8) : k1_pay35 gr ra Ws R1 R2 (ix2 e r) = expo (scoreOf gr ra Ws R1 R2 r) e := by
  pointwise [k1_pay35, k1_pay34]
  have h : ∀ e : Fin 8, (∑ x, R2 (ix2 e x) * Ideal.tanh (∑ x_1, R1 (ix2 x x_1) * ∑ h, ra (ix2 r h) * Ws (ix2 h x_1))) * gr (ix2 0 r)
      = scoreOf gr ra Ws R1 R2 r e := by
    intro e
    unfold scoreOf logit cont
    refine congrArg (· * _) (Finset.sum_congr rfl fun k _ => ?_)
    rw [mul_comm]
    exact congrArg (fun t => Ideal.tanh t * _) (Finset.sum_congr rfl fun m _ => mul_comm _ _)
  simp only [h, c_negInf]
  rfl

variable (hl : ∀ e, ∃ a : ℝ, scoreOf gr ra Ws R1 R2 r e = (a : EReal))

theorem pay37_apply : k1_pay37 gr ra Ws R1 R2 (ix2 0 r) = top (expo (scoreOf gr ra Ws R1 R2 r)) := by
  pointwise [k1_pay37]
  simp only [pay35_apply, c_negInf]
  rfl

theorem pay38_apply (e : Fin 8) : k1_pay38 gr ra Ws R1 R2 (ix2 e r)
    = BitVec.ofBool (decide (e = (chosen (expo (scoreOf gr ra Ws R1 R2 r))).1)) := by
  pointwise [k1_pay38]
  simp only [pay35_apply, pay37_apply]
  exact Cert.Proof.Math.first_bit (Cert.Proof.Math.chosen_first _) e

/-- The exponentials with the first expert struck out. -/
theorem pay39_apply (e : Fin 8) : k1_pay39 gr ra Ws R1 R2 (ix2 e r)
    = if e = (chosen (expo (scoreOf gr ra Ws R1 R2 r))).1 then ((-1 : ℝ) : EReal) else expo (scoreOf gr ra Ws R1 R2 r) e := by
  pointwise [k1_pay39]
  rw [pay38_apply, pay35_apply, Cert.Proof.Math.c_neg1]
  by_cases h : e = (chosen (expo (scoreOf gr ra Ws R1 R2 r))).1 <;> simp [h, Scalar.select]

include hl in
theorem struck_first : IsFirst (fun e => if e = (chosen (expo (scoreOf gr ra Ws R1 R2 r))).1 then ((-1 : ℝ) : EReal)
    else expo (scoreOf gr ra Ws R1 R2 r) e) (chosen (expo (scoreOf gr ra Ws R1 R2 r))).2 := by
  obtain ⟨a, ha, h⟩ := Cert.Proof.Math.expo_real hl
  have := Cert.Proof.Math.chosen_next (expo (scoreOf gr ra Ws R1 R2 r))
  rw [h] at this ⊢
  exact Cert.Proof.Math.first_of_next ha this

include hl in
theorem pay40_apply : k1_pay40 gr ra Ws R1 R2 (ix2 0 r)
    = expo (scoreOf gr ra Ws R1 R2 r) (chosen (expo (scoreOf gr ra Ws R1 R2 r))).2 := by
  pointwise [k1_pay40]
  simp only [pay39_apply, c_negInf]
  have h := Cert.Proof.Math.top_eq (struck_first gr ra Ws R1 R2 r hl).le
  refine h.trans ?_
  rw [if_neg (Cert.Proof.Math.chosen_next _).1]

include hl in
theorem pay41_apply (e : Fin 8) : k1_pay41 gr ra Ws R1 R2 (ix2 e r)
    = BitVec.ofBool (decide (e = (chosen (expo (scoreOf gr ra Ws R1 R2 r))).2)) := by
  have h := Cert.Proof.Math.first_bit (struck_first gr ra Ws R1 R2 r hl) e
  rw [← h, Cert.Proof.Math.top_eq (struck_first gr ra Ws R1 R2 r hl).le]
  pointwise [k1_pay41]
  simp only [pay39_apply, pay40_apply gr ra Ws R1 R2 r hl, if_neg (Cert.Proof.Math.chosen_next (expo (scoreOf gr ra Ws R1 R2 r))).1]

include hl in
theorem mix_apply (e : Fin 8) : mixV gr ra Ws R1 R2 (ix2 r e) = mix (scoreOf gr ra Ws R1 R2 r) e := by
  unfold mixV
  pointwise [k1_pay42]
  rw [pay38_apply, pay41_apply gr ra Ws R1 R2 r hl, pay40_apply gr ra Ws R1 R2 r hl, pay37_apply, pay35_apply]
  pointwise [k1_pay36]
  simp only [pay35_apply]
  rw [Cert.Proof.Math.top_eq (Cert.Proof.Math.chosen_first _).le]
  unfold mix wt
  rfl

/-! ### The block -/

/-- Row `r` of the block is the network's row of its token. -/
theorem block_apply (z : Vec Ideal S1x1x2048 .f32) (s : Vec Ideal S1024x1 .f32) (sr : Vec Ideal S1x1x1024 .f32)
    (x : Vec Ideal S1024x768 .f32) (We : Vec Ideal S768x512 .f32) (A : Fin 8 → Vec Ideal S1x64x256 .f32)
    (B : Fin 8 → Vec Ideal S1x256x64 .f32) (C : Vec Ideal S64x512 .f32) (D : Vec Ideal S512x768 .f32)
    (C' : Fin 64 → Fin 512 → EReal) (hC : ∀ m h, C (ix2 m h) = ((1 / 2 : ℝ) : EReal) * C' m h)
    (hR2 : ∀ e k, ∃ a : ℝ, R2 (ix2 e k) = (a : EReal))
    (Z : Fin 2048 → EReal) (hz : ∀ p, z (ix3 0 0 p) = Z p) (σ : Fin 2048) (hs : s (ix2 r 0) = Z σ) (hsr : sr (ix3 0 0 r) = Z σ)
    (d : Fin 768) :
    blockV z s sr x We Ws R1 R2 A B C D (ix2 r d)
      = Cert.Proof.Math.row Z σ (fun k => x (ix2 r k)) (fun k h => We (ix2 k h)) (fun h m => Ws (ix2 h m)) (fun m k => R1 (ix2 k m))
          (fun k e => R2 (ix2 e k)) (fun e q k => A e (ix3 0 q k)) (fun e k m => B e (ix3 0 k m)) C' (fun h d => D (ix2 h d)) d := by
  have hG := Cert.Proof.Math.gain_real Z σ
  have h3 := pay3_apply z s Z hz r σ hs
  have h5 := pay5_apply z sr Z hz r σ hsr
  have henc : (fun h => encV (k1_pay3 z s) x We (ix2 r h)) = enc (gain Z σ) (fun k => x (ix2 r k)) (fun k h => We (ix2 k h)) :=
    funext fun h => enc_apply _ x We r _ h3 hG h
  have hsc : scoreOf (k1_pay5 (k1_pay4 z sr)) (encV (k1_pay3 z s) x We) Ws R1 R2 r
      = logit (gain Z σ) (cont (enc (gain Z σ) (fun k => x (ix2 r k)) (fun k h => We (ix2 k h))) (fun h m => Ws (ix2 h m)))
          (fun m k => R1 (ix2 k m)) (fun k e => R2 (ix2 e k)) := by
    unfold scoreOf
    rw [h5, henc]
  have hdec : ∀ d, decV (driveV (k1_pay3 z s) (backV (moeV (k1_pay34 (encV (k1_pay3 z s) x We) Ws)
      (mixV (k1_pay5 (k1_pay4 z sr)) (encV (k1_pay3 z s) x We) Ws R1 R2) A B) C) D) (ix2 r d) = _ := fun d =>
    dec_apply _ _ D r _ h3 hG d
  unfold blockV
  rw [norm_apply _ r fun d => ?_]
  · unfold Cert.Proof.Math.row
    refine congrFun (congrArg norm (funext fun d => ?_)) d
    refine (hdec d).trans ?_
    refine congrFun (congrFun (congrArg (dec (gain Z σ)) (funext fun h => ?_)) _) d
    rw [back_apply _ C C' hC]
    refine congrFun (congrFun (congrArg back (funext fun m => ?_)) _) h
    rw [moe_apply]
    have e1 : (fun q => k1_pay34 (encV (k1_pay3 z s) x We) Ws (ix2 r q)) = cont (enc (gain Z σ) (fun k => x (ix2 r k))
        (fun k h => We (ix2 k h))) (fun h m => Ws (ix2 h m)) := funext fun q => by rw [cont_apply, henc]
    have e2 : (fun e => mixV (k1_pay5 (k1_pay4 z sr)) (encV (k1_pay3 z s) x We) Ws R1 R2 (ix2 r e)) = mix (logit (gain Z σ)
        (cont (enc (gain Z σ) (fun k => x (ix2 r k)) (fun k h => We (ix2 k h))) (fun h m => Ws (ix2 h m)))
          (fun m k => R1 (ix2 k m)) (fun k e => R2 (ix2 e k))) := funext fun e => by
      rw [mix_apply _ _ _ _ _ _ (fun e => by
        rw [hsc]
        exact Cert.Proof.Math.logit_real hG _ _ (fun k e => hR2 e k) e), hsc]
    rw [e1, e2]
  · obtain ⟨a, h⟩ := Cert.Proof.Math.rRate_real (∑ h, backV (moeV (k1_pay34 (encV (k1_pay3 z s) x We) Ws)
      (mixV (k1_pay5 (k1_pay4 z sr)) (encV (k1_pay3 z s) x We) Ws R1 R2) A B) C (ix2 r h) * gain Z σ * D (ix2 h d))
    exact ⟨a, (hdec d).trans h⟩

end Cert.Proof.Ideal
-- ==== Proof.Ideal.Value.lean ====
/-
  The kernel's result over the extended reals: at token `s` of batch row `b`, that token's row (Math/Row.lean) of the
  arguments — the scores gathered by the SparseCore call, the block computed by the TensorCore call.
-/
module

public import proofs.«01_k».proof.Proof.Ideal.Arrays
public import proofs.«01_k».proof.Proof.Ideal.BlockRow

@[expose] public section

noncomputable section

namespace Cert.Proof.Ideal

open Cert.KernelIdeal Cert.KernelIdeal.Gen

open Idealize.ShloMosaic
open Idealize.ShloMosaic.TcCoe

variable (m : (ℓ : Loc nD τ sig) → Buf (Elt Ideal) ℓ) (c : Dev nD)

/-- The kernel's arguments as the row functions take them. -/
def kX (b : Fin 4) (s : Fin 2048) (k : Fin 768) : EReal := (m ((c.tc : Thread nD τ).loc main_arg0) : FVec Ideal S4x2048x768 .f32) (ix3 b s k)
def kZ (b : Fin 4) (s : Fin 2048) : EReal := scoreAt (F := Ideal) m c b s
def kWe (k : Fin 768) (h : Fin 512) : EReal := (m ((c.tc : Thread nD τ).loc main_arg3) : FVec Ideal S768x512 .f32) (ix2 k h)
def kWs (h : Fin 512) (q : Fin 64) : EReal := (m ((c.tc : Thread nD τ).loc main_arg5) : FVec Ideal S512x64 .f32) (ix2 h q)
def kA (e : Fin 8) (q : Fin 64) (k : Fin 256) : EReal := (m ((c.tc : Thread nD τ).loc main_arg7) : FVec Ideal S8x64x256 .f32) (ix3 e q k)
def kB (e : Fin 8) (k : Fin 256) (q : Fin 64) : EReal := (m ((c.tc : Thread nD τ).loc main_arg9) : FVec Ideal S8x256x64 .f32) (ix3 e k q)
def kW1 (q k : Fin 64) : EReal := (m ((c.tc : Thread nD τ).loc main_arg11) : FVec Ideal S64x64 .f32) (ix2 q k)
def kW2 (k : Fin 64) (e : Fin 8) : EReal := (m ((c.tc : Thread nD τ).loc main_arg13) : FVec Ideal S64x8 .f32) (ix2 k e)
def kC (q : Fin 64) (h : Fin 512) : EReal := (m ((c.tc : Thread nD τ).loc main_arg15) : FVec Ideal S64x512 .f32) (ix2 q h)
def kD (h : Fin 512) (d : Fin 768) : EReal := (m ((c.tc : Thread nD τ).loc main_arg17) : FVec Ideal S512x768 .f32) (ix2 h d)

/-- The row of the block at which a token stands, and the point that computes it. -/
def pointOf (b : Fin 4) (s : Fin 2048) : Fin cfg1.N := ⟨b.val * 2 + s.val / 1024, by show _ < 8; omega⟩
def placeOf (s : Fin 2048) : Fin 1024 := ⟨s.val % 1024, Nat.mod_lt _ (by norm_num)⟩

theorem tokenAt_point (b : Fin 4) (s : Fin 2048) : tokenAt (pointOf b s) (placeOf s) = ⟨b.val * 2048 + s.val, by omega⟩ := by
  apply Fin.ext; show (b.val * 2 + s.val / 1024) * 1024 + s.val % 1024 = b.val * 2048 + s.val; omega
theorem batchAt_point (b : Fin 4) (s : Fin 2048) : batchAt (pointOf b s) = b := by
  apply Fin.ext; show (b.val * 2 + s.val / 1024) / 2 = b.val; omega

variable (hR2 : ∀ (k : Fin 64) (e : Fin 8), ∃ a : ℝ, kW2 m c k e = (a : EReal))

theorem score_half (b : Fin 4) (s : Fin 2048) :
    halfRow (Wreg m) c (pointOf b s) (ix3 0 0 (placeOf s)) = kZ m c b s := by
  rw [halfRow_apply, v4_apply]
  unfold kZ
  congr 1
  · exact batchAt_point b s
  · apply Fin.ext; show (b.val * 2 + s.val / 1024) % 2 * 1024 + s.val % 1024 = s.val; omega

theorem score_col (b : Fin 4) (s : Fin 2048) :
    iblk (Wreg m) c 2 (pointOf b s) (ix2 (placeOf s) 0) = kZ m c b s := by
  rw [blk2, v5_apply, tokenAt_point]
  unfold kZ
  congr 1
  · apply Fin.ext; show (b.val * 2048 + s.val) / 2048 = b.val; omega
  · apply Fin.ext; show (b.val * 2048 + s.val) % 2048 = s.val; omega

include hR2 in
/-- The kernel's result is the token's row. -/
theorem kernel_apply (b : Fin 4) (s : Fin 2048) (d : Fin 768) :
    (Wend m c (Proc.devRef .tc main_v11) : FVec Ideal S4x2048x768 .f32) (ix3 b s d)
      = Cert.Proof.Math.row (kZ m c b) s (kX m c b s) (kWe m c) (kWs m c) (kW1 m c) (kW2 m c) (kA m c) (kB m c) (kC m c) (kD m c) d := by
  rw [result_apply, ← tokenAt_point, out_apply, outAt_eq]
  refine (block_apply _ _ _ _ _ _ _ _ _ _ _ _ _ (kC m c) ?_ ?_ (kZ m c b) ?_ s (score_col m c b s) (score_half m c b s) d).trans ?_
  · intro q h
    rw [blk9, v9_apply]
    exact congrArg (fun u : EReal => u * kC m c q h) Cert.Proof.Math.c_half
  · intro e k
    rw [blk8, v7_apply]
    exact hR2 k e
  · intro p
    rw [blk1, v4_apply, batchAt_point]
    rfl
  · have e0 : (fun k => iblk (Wreg m) c 0 (pointOf b s) (ix2 (placeOf s) k)) = kX m c b s := by
      funext k
      rw [blk0, v3_apply, tokenAt_point]
      refine congrArg₂ (fun (b : Fin 4) (s : Fin 2048) => kX m c b s k) (Fin.ext ?_) (Fin.ext ?_)
      · show (b.val * 2048 + s.val) / 2048 = b.val; omega
      · show (b.val * 2048 + s.val) % 2048 = s.val; omega
    have e3 : (fun k h => iblk (Wreg m) c 3 (pointOf b s) (ix2 k h)) = kWe m c := by
      funext k h; rw [blk3, Wreg_keep m c main_arg3 (by decide)]; rfl
    have e4 : (fun k h => iblk (Wreg m) c 4 (pointOf b s) (ix2 k h)) = kWs m c := by
      funext k h; rw [blk4, Wreg_keep m c main_arg5 (by decide)]; rfl
    have e5 : (fun e q k => sliceA (iblk (Wreg m) c 5 (pointOf b s)) e (ix3 0 q k)) = kA m c := by
      funext e q k; rw [sliceA_apply, blk5, Wreg_keep m c main_arg7 (by decide)]; rfl
    have e6 : (fun e q k => sliceB (iblk (Wreg m) c 6 (pointOf b s)) e (ix3 0 q k)) = kB m c := by
      funext e q k; rw [sliceB_apply, blk6, Wreg_keep m c main_arg9 (by decide)]; rfl
    have e7 : (fun q k => iblk (Wreg m) c 7 (pointOf b s) (ix2 k q)) = kW1 m c := by
      funext q k; rw [blk7, v6_apply]; rfl
    have e8 : (fun k e => iblk (Wreg m) c 8 (pointOf b s) (ix2 e k)) = kW2 m c := by
      funext k e; rw [blk8, v7_apply]; rfl
    have e10 : (fun h d => iblk (Wreg m) c 10 (pointOf b s) (ix2 h d)) = kD m c := by
      funext k h; rw [blk10, Wreg_keep m c main_arg17 (by decide)]; rfl
    rw [e0, e3, e4, e5, e6, e7, e8, e10]

end Cert.Proof.Ideal
-- ==== Proof.Reference.Rows.lean ====
module

public import proofs.«01_k».proof.Proof.Reference.Stages

@[expose] public section

/-! The reference's result, read at an index: one row of Math/Row.lean for every token. -/

noncomputable section

namespace Cert.Proof.Reference

open Cert.ReferenceIdeal Cert.ReferenceIdeal.Gen Cert.ReferenceIdeal.Value

open Idealize.ShloMosaic

variable (V : Valuation τ sig (Elt Ideal))

/-- What expert `e` adds for row `r`. -/
def part (r : Fin 8192) (e : Fin 8) (m : Fin 64) : EReal := Math.expert (C V r) (aA V) (aB V) e m * Math.mix (L V r) e

variable {V}

set_option maxHeartbeats 1000000 in
theorem experts_012 (H : Given V) (r : Fin 8192) (m : Fin 64) :
    (res_main_v413 V : FVec Ideal S8192x64 .f32) (ix2 r m) = part V r 0 m + part V r 1 m + part V r 2 m := by
  pointwise [res_main_v413]
  simp only [H.b8, H.b10, add_zero, cont_apply H]
  unfold part
  rw [← mix_apply H r 0, ← mix_apply H r 1, ← mix_apply H r 2]
  rfl

set_option maxHeartbeats 1000000 in
theorem experts_345 (H : Given V) (r : Fin 8192) (m : Fin 64) :
    (res_main_v491 V : FVec Ideal S8192x64 .f32) (ix2 r m)
      = part V r 0 m + part V r 1 m + part V r 2 m + part V r 3 m + part V r 4 m + part V r 5 m := by
  pointwise [res_main_v491]
  simp only [H.b8, H.b10, add_zero, cont_apply H, experts_012 H]
  unfold part
  rw [← mix_apply H r 3, ← mix_apply H r 4, ← mix_apply H r 5]
  rfl

/-- The mean of four equal numbers. -/
theorem four_mean (x : EReal) : Ideal.div (∑ _k : Fin 4, Math.sig x) ((4 : ℝ) : EReal) = Math.sig x := by
  obtain ⟨a, -, -, h⟩ := Math.sig_real x
  rw [h, Math.coe_sum, Math.div_coe _ _ (by norm_num)]
  congr 1
  simp

/-- The rates that the decoder takes. -/
def R (V : Valuation τ sig (Elt Ideal)) (r : Fin 8192) : Fin 512 → EReal :=
  Math.back (Math.moe (C V r) (Math.mix (L V r)) (aA V) (aB V)) (aC V)

set_option maxHeartbeats 2000000 in
theorem decode_drive (H : Given V) (b : Fin 4) (s : Fin 2048) (d : Fin 768) :
    (res_main_v566 V : FVec Ideal S4x2048x768 .f32) (ix3 b s d)
      = (∑ h, R V (rowOf b s) h * Math.gain (Z V b) s * aD V h d : EReal) := by
  pointwise [res_main_v566]
  rw [H.b18, add_zero, gain_apply H.ids]
  show @Eq EReal _ _
  refine Finset.sum_congr rfl fun h _ => ?_
  refine congrArg (fun u => u * Math.gain (Z V b) s * aD V h d) ?_
  rw [Math.c_4]
  refine Eq.trans ?_ (four_mean (∑ m, Math.moe (C V (rowOf b s)) (Math.mix (L V (rowOf b s))) (aA V) (aB V) m * aC V m h))
  refine congrArg (fun u => Ideal.div u ((4 : ℝ) : EReal)) (Finset.sum_congr rfl fun _ _ => ?_)
  refine congrArg Math.sig ?_
  rw [H.b16, add_zero]
  refine Finset.sum_congr rfl fun m _ => ?_
  refine congrArg (fun u => u * aC V m h) ?_
  rw [show (⟨b.val * 2048 + s.val, _⟩ : Fin 8192) = rowOf b s from rfl]
  simp only [H.b8, H.b10, add_zero, cont_apply H, experts_345 H]
  unfold Math.moe
  rw [← mix_apply H (rowOf b s) 6, ← mix_apply H (rowOf b s) 7]
  rfl

theorem decoded_apply (H : Given V) (b : Fin 4) (s : Fin 2048) (d : Fin 768) :
    (res_main_v842 V : FVec Ideal S4x2048x768 .f32) (ix3 b s d)
      = Math.dec (Math.gain (Z V b) s) (R V (rowOf b s)) (aD V) d := by
  rw [decoded_eq, rate_apply]
  exact congrArg Math.rRate (decode_drive H b s d)

set_option maxHeartbeats 1000000 in
/-- The result at token `s` of batch row `b` is that token's row. -/
theorem result_apply (H : Given V) (b : Fin 4) (s : Fin 2048) (d : Fin 768) :
    (val19 V (Proc.devRef .tc main_v866) : FVec Ideal S4x2048x768 .f32) (ix3 b s d)
      = Math.row (Z V b) s (aX V b s) (aWe V) (aWs V) (aW1 V) (aW2 V) (aA V) (aB V) (aC V) (aD V) d := by
  rw [val19_main_v866]
  pointwise [res_main_v846, res_main_v848]
  rw [H.g19, H.b20]
  simp only [decoded_apply H, add_zero, mul_one]
  have hC : C V (rowOf b s) = Math.cont (Math.enc (Math.gain (Z V b) s) (aX V b s) (aWe V)) (aWs V) := by
    unfold C G; rw [bOf_rowOf, sOf_rowOf]
  have hL : L V (rowOf b s) = Math.logit (Math.gain (Z V b) s) (Math.cont (Math.enc (Math.gain (Z V b) s) (aX V b s) (aWe V)) (aWs V))
      (aW1 V) (aW2 V) := by
    unfold L; rw [hC]; unfold G; rw [bOf_rowOf, sOf_rowOf]
  unfold Math.row
  rw [← hL, ← hC, Math.c_768]
  rfl

end Cert.Proof.Reference
-- ==== Proof.Equal.lean ====
/-
  Kernel and reference over the extended reals, from equal arguments that the precondition holds of: equal results, as
  both are the tokens' rows.
-/
module

public import proofs.«01_k».proof.Proof.SetUp
public import proofs.«01_k».proof.Proof.Ideal.Value
public import proofs.«01_k».proof.Proof.Reference.Rows

@[expose] public section

noncomputable section

namespace Cert.Proof

open Idealize.ShloMosaic
open Idealize.ShloMosaic.TcCoe

variable (m : (ℓ : Loc Cert.KernelIdeal.nD Cert.KernelIdeal.τ Cert.KernelIdeal.sig) → Buf (Elt Idealize.ShloMosaic.Ideal) ℓ)
  (m' : (ℓ : Loc Cert.ReferenceIdeal.nD Cert.ReferenceIdeal.τ Cert.ReferenceIdeal.sig) → Buf (Elt Idealize.ShloMosaic.Ideal) ℓ)
  (c : Dev Cert.KernelIdeal.nD)

/-- The kernel's and the reference's argument, on device `c`. -/
abbrev argK (b : Ref Cert.KernelIdeal.sig .tc) := m ((c.tc : Thread Cert.KernelIdeal.nD Cert.KernelIdeal.τ).loc b)
abbrev argR (b : Ref Cert.ReferenceIdeal.sig .tc) := m' ((c.tc : Thread Cert.ReferenceIdeal.nD Cert.ReferenceIdeal.τ).loc b)

/-- What the precondition says of the kernel's arguments. -/
abbrev SaysOf : Prop :=
  SetUp.Says (argK m c Cert.KernelIdeal.main_arg1) (argK m c Cert.KernelIdeal.main_arg4) (argK m c Cert.KernelIdeal.main_arg6)
    (argK m c Cert.KernelIdeal.main_arg8) (argK m c Cert.KernelIdeal.main_arg10) (argK m c Cert.KernelIdeal.main_arg12)
    (argK m c Cert.KernelIdeal.main_arg13) (argK m c Cert.KernelIdeal.main_arg14) (argK m c Cert.KernelIdeal.main_arg16)
    (argK m c Cert.KernelIdeal.main_arg18) (argK m c Cert.KernelIdeal.main_arg19) (argK m c Cert.KernelIdeal.main_arg20)

/-- The two programs' arguments, equal. -/
structure Same : Prop where
  e0 : argR m' c Cert.ReferenceIdeal.main_arg0 = argK m c Cert.KernelIdeal.main_arg0
  e1 : argR m' c Cert.ReferenceIdeal.main_arg1 = argK m c Cert.KernelIdeal.main_arg1
  e2 : argR m' c Cert.ReferenceIdeal.main_arg2 = argK m c Cert.KernelIdeal.main_arg2
  e3 : argR m' c Cert.ReferenceIdeal.main_arg3 = argK m c Cert.KernelIdeal.main_arg3
  e4 : argR m' c Cert.ReferenceIdeal.main_arg4 = argK m c Cert.KernelIdeal.main_arg4
  e5 : argR m' c Cert.ReferenceIdeal.main_arg5 = argK m c Cert.KernelIdeal.main_arg5
  e6 : argR m' c Cert.ReferenceIdeal.main_arg6 = argK m c Cert.KernelIdeal.main_arg6
  e7 : argR m' c Cert.ReferenceIdeal.main_arg7 = argK m c Cert.KernelIdeal.main_arg7
  e8 : argR m' c Cert.ReferenceIdeal.main_arg8 = argK m c Cert.KernelIdeal.main_arg8
  e9 : argR m' c Cert.ReferenceIdeal.main_arg9 = argK m c Cert.KernelIdeal.main_arg9
  e10 : argR m' c Cert.ReferenceIdeal.main_arg10 = argK m c Cert.KernelIdeal.main_arg10
  e11 : argR m' c Cert.ReferenceIdeal.main_arg11 = argK m c Cert.KernelIdeal.main_arg11
  e12 : argR m' c Cert.ReferenceIdeal.main_arg12 = argK m c Cert.KernelIdeal.main_arg12
  e13 : argR m' c Cert.ReferenceIdeal.main_arg13 = argK m c Cert.KernelIdeal.main_arg13
  e14 : argR m' c Cert.ReferenceIdeal.main_arg14 = argK m c Cert.KernelIdeal.main_arg14
  e15 : argR m' c Cert.ReferenceIdeal.main_arg15 = argK m c Cert.KernelIdeal.main_arg15
  e16 : argR m' c Cert.ReferenceIdeal.main_arg16 = argK m c Cert.KernelIdeal.main_arg16
  e17 : argR m' c Cert.ReferenceIdeal.main_arg17 = argK m c Cert.KernelIdeal.main_arg17
  e18 : argR m' c Cert.ReferenceIdeal.main_arg18 = argK m c Cert.KernelIdeal.main_arg18
  e19 : argR m' c Cert.ReferenceIdeal.main_arg19 = argK m c Cert.KernelIdeal.main_arg19
  e20 : argR m' c Cert.ReferenceIdeal.main_arg20 = argK m c Cert.KernelIdeal.main_arg20

/-- The reference's contents at the launch. -/
abbrev VR : Valuation Cert.ReferenceIdeal.τ Cert.ReferenceIdeal.sig (Elt Idealize.ShloMosaic.Ideal) := StableHlo.launchContents m' c

variable {m m' c}

/-- The precondition of the kernel's arguments is what the reference's rows assume. -/
theorem given (E : Same m m' c) (H : SaysOf m c) : Reference.Given (VR m' c) where
  ids b s := (congrArg (fun X : IVec Cert.KernelIdeal.S4x2048 32 => (X (ix2 b s)).toNat) E.e1).trans_lt (H.ids _)
  b4 i := (congrFun E.e4 (ix1 i)).trans (H.b4 _)
  b6 i := (congrFun E.e6 (ix1 i)).trans (H.b6 _)
  b8 e i := (congrFun E.e8 (ix2 e i)).trans (H.b8 _)
  b10 e i := (congrFun E.e10 (ix2 e i)).trans (H.b10 _)
  b12 i := (congrFun E.e12 (ix1 i)).trans (H.b12 _)
  b14 i := (congrFun E.e14 (ix1 i)).trans (H.b14 _)
  b16 i := (congrFun E.e16 (ix1 i)).trans (H.b16 _)
  b18 i := (congrFun E.e18 (ix1 i)).trans (H.b18 _)
  g19 i := (congrFun E.e19 (ix1 i)).trans (H.g19 _)
  b20 i := (congrFun E.e20 (ix1 i)).trans (H.b20 _)
  w13 k e := (H.w13 (ix2 k e)).imp fun _ h => (congrFun E.e13 (ix2 k e)).trans h

theorem same_score (E : Same m m' c) (b : Fin 4) : Reference.Z (VR m' c) b = Ideal.kZ m c b := by
  funext s
  have h : ∀ (X X' : IVec Cert.KernelIdeal.S4x2048 32) (Y Y' : FVec Idealize.ShloMosaic.Ideal Cert.KernelIdeal.S100000x1 .f32),
      X = X' → Y = Y' → Y (ix2 (Reference.place (X (ix2 b s)).toNat) 0) = Y' (ix2 (Ideal.rowAt (X' (ix2 b s)).toNat) 0) := by
    rintro X _ Y _ rfl rfl; rfl
  exact h _ _ _ _ E.e1 E.e2

/-- The two rows of a token are one. -/
theorem same_row (E : Same m m' c) (b : Fin 4) (s : Fin 2048) (d : Fin 768) :
    Math.row (Reference.Z (VR m' c) b) s (Reference.aX (VR m' c) b s) (Reference.aWe (VR m' c)) (Reference.aWs (VR m' c))
        (Reference.aW1 (VR m' c)) (Reference.aW2 (VR m' c)) (Reference.aA (VR m' c)) (Reference.aB (VR m' c))
        (Reference.aC (VR m' c)) (Reference.aD (VR m' c)) d
      = Math.row (Ideal.kZ m c b) s (Ideal.kX m c b s) (Ideal.kWe m c) (Ideal.kWs m c) (Ideal.kW1 m c) (Ideal.kW2 m c)
        (Ideal.kA m c) (Ideal.kB m c) (Ideal.kC m c) (Ideal.kD m c) d := by
  have e0 : Reference.aX (VR m' c) b s = Ideal.kX m c b s := funext fun k => congrFun E.e0 (ix3 b s k)
  have e3 : Reference.aWe (VR m' c) = Ideal.kWe m c := funext fun k => funext fun h => congrFun E.e3 (ix2 k h)
  have e5 : Reference.aWs (VR m' c) = Ideal.kWs m c := funext fun k => funext fun h => congrFun E.e5 (ix2 k h)
  have e7 : Reference.aA (VR m' c) = Ideal.kA m c := funext fun e => funext fun k => funext fun h => congrFun E.e7 (ix3 e k h)
  have e9 : Reference.aB (VR m' c) = Ideal.kB m c := funext fun e => funext fun k => funext fun h => congrFun E.e9 (ix3 e k h)
  have e11 : Reference.aW1 (VR m' c) = Ideal.kW1 m c := funext fun k => funext fun h => congrFun E.e11 (ix2 k h)
  have e13 : Reference.aW2 (VR m' c) = Ideal.kW2 m c := funext fun k => funext fun h => congrFun E.e13 (ix2 k h)
  have e15 : Reference.aC (VR m' c) = Ideal.kC m c := funext fun k => funext fun h => congrFun E.e15 (ix2 k h)
  have e17 : Reference.aD (VR m' c) = Ideal.kD m c := funext fun k => funext fun h => congrFun E.e17 (ix2 k h)
  rw [same_score E, e0, e3, e5, e7, e9, e11, e13, e15, e17]

/-- Kernel and reference leave the same result. -/
theorem same_result (E : Same m m' c) (H : SaysOf m c) :
    (Cert.ReferenceIdeal.Value.val19 (VR m' c) (Proc.devRef .tc Cert.ReferenceIdeal.main_v866) : FVec Idealize.ShloMosaic.Ideal Cert.KernelIdeal.S4x2048x768 .f32)
      = (Ideal.Wend m c (Proc.devRef .tc Cert.KernelIdeal.main_v11) : FVec Idealize.ShloMosaic.Ideal Cert.KernelIdeal.S4x2048x768 .f32) := by
  have h : ∀ X Y : FVec Idealize.ShloMosaic.Ideal Cert.KernelIdeal.S4x2048x768 .f32,
      (∀ b s d, X (ix3 b s d) = Y (ix3 b s d)) → X = Y := fun X Y h => funext fun i => by rw [eq_ix3 i]; exact h _ _ _
  refine h _ _ fun b s d => ?_
  exact (Reference.result_apply (given E H) b s d).trans
    ((same_row E b s d).trans (Ideal.kernel_apply m c (fun k e => H.w13 (ix2 k e)) b s d).symm)

end Cert.Proof
-- ==== Proof.lean ====
/-
  The claims, assembled: the two kernels' frames (Words/Frame.lean and Ideal/Frame.lean), the reference's run
  (generated), the named constants, and the equality of the results over the extended reals (Equal.lean).
-/
module

public import proofs.«01_k».proof.Defs
public import proofs.«01_k».proof.Proof.Words.Frame
public import proofs.«01_k».proof.Proof.Ideal.Frame
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

/-- The precondition's side conditions. -/
theorem preFacts : Cert.Pre_ids_in_range.Facts where
  bcast_S_S4x2048 := by decide
  reducesTo_S4x2048_S_d0_1 := by decide
  h_S_ := by decide

/-- `Kernel` runs from ids in range, its arguments unchanged, every counter at zero. -/
theorem frameWords [Cert.Pre_ids_in_range.Facts] : Cert.quiescent_Kernel (hKernel := Cert.Kernel.Gen.facts) := by
  intro m g hpre
  have hid : Words.IdsOK (Words.fI m) := Words.idsOK_of_lt m fun d j => Words.ids_of_pre (hpre d) j
  refine (θ_run _ _ _).mono ?_ (Words.run_main m g hid)
  intro r h
  exact ⟨fun c => ⟨(h.1 c Cert.Kernel.main_arg0 rfl).trans (Words.Wend_keep m c Cert.Kernel.main_arg0 (by decide)),
        (h.1 c Cert.Kernel.main_arg1 rfl).trans (Words.Wend_keep m c Cert.Kernel.main_arg1 (by decide)),
        (h.1 c Cert.Kernel.main_arg2 rfl).trans (Words.Wend_keep m c Cert.Kernel.main_arg2 (by decide)),
        (h.1 c Cert.Kernel.main_arg3 rfl).trans (Words.Wend_keep m c Cert.Kernel.main_arg3 (by decide)),
        (h.1 c Cert.Kernel.main_arg4 rfl).trans (Words.Wend_keep m c Cert.Kernel.main_arg4 (by decide)),
        (h.1 c Cert.Kernel.main_arg5 rfl).trans (Words.Wend_keep m c Cert.Kernel.main_arg5 (by decide)),
        (h.1 c Cert.Kernel.main_arg6 rfl).trans (Words.Wend_keep m c Cert.Kernel.main_arg6 (by decide)),
        (h.1 c Cert.Kernel.main_arg7 rfl).trans (Words.Wend_keep m c Cert.Kernel.main_arg7 (by decide)),
        (h.1 c Cert.Kernel.main_arg8 rfl).trans (Words.Wend_keep m c Cert.Kernel.main_arg8 (by decide)),
        (h.1 c Cert.Kernel.main_arg9 rfl).trans (Words.Wend_keep m c Cert.Kernel.main_arg9 (by decide)),
        (h.1 c Cert.Kernel.main_arg10 rfl).trans (Words.Wend_keep m c Cert.Kernel.main_arg10 (by decide)),
        (h.1 c Cert.Kernel.main_arg11 rfl).trans (Words.Wend_keep m c Cert.Kernel.main_arg11 (by decide)),
        (h.1 c Cert.Kernel.main_arg12 rfl).trans (Words.Wend_keep m c Cert.Kernel.main_arg12 (by decide)),
        (h.1 c Cert.Kernel.main_arg13 rfl).trans (Words.Wend_keep m c Cert.Kernel.main_arg13 (by decide)),
        (h.1 c Cert.Kernel.main_arg14 rfl).trans (Words.Wend_keep m c Cert.Kernel.main_arg14 (by decide)),
        (h.1 c Cert.Kernel.main_arg15 rfl).trans (Words.Wend_keep m c Cert.Kernel.main_arg15 (by decide)),
        (h.1 c Cert.Kernel.main_arg16 rfl).trans (Words.Wend_keep m c Cert.Kernel.main_arg16 (by decide)),
        (h.1 c Cert.Kernel.main_arg17 rfl).trans (Words.Wend_keep m c Cert.Kernel.main_arg17 (by decide)),
        (h.1 c Cert.Kernel.main_arg18 rfl).trans (Words.Wend_keep m c Cert.Kernel.main_arg18 (by decide)),
        (h.1 c Cert.Kernel.main_arg19 rfl).trans (Words.Wend_keep m c Cert.Kernel.main_arg19 (by decide)),
        (h.1 c Cert.Kernel.main_arg20 rfl).trans (Words.Wend_keep m c Cert.Kernel.main_arg20 (by decide))⟩, h.2⟩

/-- A memory that holds `Wend` in the unscoped buffers holds the arguments as they were. -/
theorem keptIdeal (m : (ℓ : Loc Cert.KernelIdeal.nD Cert.KernelIdeal.τ Cert.KernelIdeal.sig) → Buf (Elt Idealize.ShloMosaic.Ideal) ℓ)
    (μ : MemSt Cert.KernelIdeal.nD Cert.KernelIdeal.τ Cert.KernelIdeal.sig (Elt Idealize.ShloMosaic.Ideal))
    (h : ∀ (d : Dev Cert.KernelIdeal.nD) (b : Ref Cert.KernelIdeal.sig .tc), b.isScoped = false →
      μ.mem ((d.tc : Thread Cert.KernelIdeal.nD Cert.KernelIdeal.τ).loc b) = Ideal.Wend m d (Proc.devRef .tc b))
    (c : Dev Cert.KernelIdeal.nD) :
    μ.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ μ.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ μ.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ μ.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ μ.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ μ.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ μ.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ μ.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ μ.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ μ.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ μ.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ μ.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ μ.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ μ.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ μ.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ μ.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ μ.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ μ.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ μ.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ μ.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ μ.mem ((c.tc : Thread Cert.KernelIdeal.nD Cert.KernelIdeal.τ).loc Cert.KernelIdeal.main_arg20) = m ((c.tc : Thread Cert.KernelIdeal.nD Cert.KernelIdeal.τ).loc Cert.KernelIdeal.main_arg20) :=
  ⟨(h c Cert.KernelIdeal.main_arg0 rfl).trans (Ideal.Wend_keep m c Cert.KernelIdeal.main_arg0 (by decide)),
        (h c Cert.KernelIdeal.main_arg1 rfl).trans (Ideal.Wend_keep m c Cert.KernelIdeal.main_arg1 (by decide)),
        (h c Cert.KernelIdeal.main_arg2 rfl).trans (Ideal.Wend_keep m c Cert.KernelIdeal.main_arg2 (by decide)),
        (h c Cert.KernelIdeal.main_arg3 rfl).trans (Ideal.Wend_keep m c Cert.KernelIdeal.main_arg3 (by decide)),
        (h c Cert.KernelIdeal.main_arg4 rfl).trans (Ideal.Wend_keep m c Cert.KernelIdeal.main_arg4 (by decide)),
        (h c Cert.KernelIdeal.main_arg5 rfl).trans (Ideal.Wend_keep m c Cert.KernelIdeal.main_arg5 (by decide)),
        (h c Cert.KernelIdeal.main_arg6 rfl).trans (Ideal.Wend_keep m c Cert.KernelIdeal.main_arg6 (by decide)),
        (h c Cert.KernelIdeal.main_arg7 rfl).trans (Ideal.Wend_keep m c Cert.KernelIdeal.main_arg7 (by decide)),
        (h c Cert.KernelIdeal.main_arg8 rfl).trans (Ideal.Wend_keep m c Cert.KernelIdeal.main_arg8 (by decide)),
        (h c Cert.KernelIdeal.main_arg9 rfl).trans (Ideal.Wend_keep m c Cert.KernelIdeal.main_arg9 (by decide)),
        (h c Cert.KernelIdeal.main_arg10 rfl).trans (Ideal.Wend_keep m c Cert.KernelIdeal.main_arg10 (by decide)),
        (h c Cert.KernelIdeal.main_arg11 rfl).trans (Ideal.Wend_keep m c Cert.KernelIdeal.main_arg11 (by decide)),
        (h c Cert.KernelIdeal.main_arg12 rfl).trans (Ideal.Wend_keep m c Cert.KernelIdeal.main_arg12 (by decide)),
        (h c Cert.KernelIdeal.main_arg13 rfl).trans (Ideal.Wend_keep m c Cert.KernelIdeal.main_arg13 (by decide)),
        (h c Cert.KernelIdeal.main_arg14 rfl).trans (Ideal.Wend_keep m c Cert.KernelIdeal.main_arg14 (by decide)),
        (h c Cert.KernelIdeal.main_arg15 rfl).trans (Ideal.Wend_keep m c Cert.KernelIdeal.main_arg15 (by decide)),
        (h c Cert.KernelIdeal.main_arg16 rfl).trans (Ideal.Wend_keep m c Cert.KernelIdeal.main_arg16 (by decide)),
        (h c Cert.KernelIdeal.main_arg17 rfl).trans (Ideal.Wend_keep m c Cert.KernelIdeal.main_arg17 (by decide)),
        (h c Cert.KernelIdeal.main_arg18 rfl).trans (Ideal.Wend_keep m c Cert.KernelIdeal.main_arg18 (by decide)),
        (h c Cert.KernelIdeal.main_arg19 rfl).trans (Ideal.Wend_keep m c Cert.KernelIdeal.main_arg19 (by decide)),
        (h c Cert.KernelIdeal.main_arg20 rfl).trans (Ideal.Wend_keep m c Cert.KernelIdeal.main_arg20 (by decide))⟩

/-- `KernelIdeal` runs from ids in range, its arguments unchanged, every counter at zero. -/
theorem frameIdeal [Cert.Pre_ids_in_range.Facts] : Cert.quiescent_KernelIdeal (hKernelIdeal := Cert.KernelIdeal.Gen.facts) := by
  intro m g hpre
  have hid : Ideal.IdsOK (Ideal.fI m) := Ideal.idsOK_of_lt m fun d j => Ideal.ids_of_pre (hpre d) j
  refine (θ_run _ _ _).mono ?_ (Ideal.run_main m g hid)
  intro r h
  exact ⟨keptIdeal m r.2 h.1, h.2⟩

/-- The same under the value claim's precondition. -/
theorem frameIdealSetUp [Cert.Pre_as_set_up.Facts] :
    Cert.quiescent_KernelIdeal_pre_as_set_up (hKernelIdeal := Cert.KernelIdeal.Gen.facts) := by
  intro m g hpre
  have hid : Ideal.IdsOK (Ideal.fI m) := Ideal.idsOK_of_lt m fun d j => (SetUp.read_pre (hpre d)).ids j
  refine (θ_run _ _ _).mono ?_ (Ideal.run_main m g hid)
  intro r h
  exact ⟨keptIdeal m r.2 h.1, h.2⟩

/-- The reference runs, its arguments unchanged. -/
theorem frameReference : Cert.quiescent_ReferenceIdeal (hReferenceIdeal := Cert.ReferenceIdeal.Gen.facts) := by
  intro m g _
  refine (θ_run _ _ _).mono ?_ (Cert.ReferenceIdeal.Value.run m g)
  exact fun r h => ⟨fun c => (h c).2, Idealize.ShloMosaic.sem_eq_zero_of_no_sems (by decide) r.2⟩

/-- The same under the value claim's precondition. -/
theorem frameReferenceSetUp [Cert.Pre_as_set_up.Facts] :
    Cert.quiescent_ReferenceIdeal_pre_as_set_up (hReferenceIdeal := Cert.ReferenceIdeal.Gen.facts) := by
  intro m g _
  refine (θ_run _ _ _).mono ?_ (Cert.ReferenceIdeal.Value.run m g)
  exact fun r h => ⟨fun c => (h c).2, Idealize.ShloMosaic.sem_eq_zero_of_no_sems (by decide) r.2⟩

/-- Kernel and reference over the extended reals, from equal arguments: equal results. -/
theorem algebraic [Cert.Pre_as_set_up.Facts] :
    Cert.algebraic_KernelIdeal_ReferenceIdeal_pre_as_set_up (hKernelIdeal := Cert.KernelIdeal.Gen.facts)
      (hReferenceIdeal := Cert.ReferenceIdeal.Gen.facts) := by
  intro m g m' g' hpre hargs
  have hS : ∀ c, SaysOf m c := fun c => SetUp.read_pre (hpre c)
  have hid : Ideal.IdsOK (Ideal.fI m) := Ideal.idsOK_of_lt m fun d j => (hS d).ids j
  have hE : ∀ c, Same m m' c := fun c => by
    obtain ⟨h0, h1, h2, h3, h4, h5, h6, h7, h8, h9, h10, h11, h12, h13, h14, h15, h16, h17, h18, h19, h20⟩ := hargs c
    exact ⟨h0, h1, h2, h3, h4, h5, h6, h7, h8, h9, h10, h11, h12, h13, h14, h15, h16, h17, h18, h19, h20⟩
  refine ⟨fun c => Ideal.Wend m c (Proc.devRef .tc Cert.KernelIdeal.main_v11), ?_, ?_⟩
  · refine (θ_run _ _ _).mono ?_ (Ideal.run_main m g hid)
    exact fun r h c => ⟨h.1 c Cert.KernelIdeal.main_v11 rfl, keptIdeal m r.2 h.1 c⟩
  · refine (θ_run _ _ _).mono ?_ (Cert.ReferenceIdeal.Value.run m' g')
    exact fun r h c => ⟨((h c).1.trans (Cert.ReferenceIdeal.Value.val19_main_v866 _).symm).trans (same_result (hE c) (hS c)), (h c).2⟩

/-- The named constants are the table's. -/
theorem preserves : Cert.preserves_Kernel_KernelIdeal :=
  ⟨IdealRules.named_const.statement Cert.KernelIdeal.κ "neg" .f32 0xF149F2CA#32 ⊥ rfl,
    IdealRules.named_const.statement Cert.KernelIdeal.κ "decay" .f32 0x3F666666#32 ((9 / 10 : ℝ) : EReal) rfl,
    IdealRules.named_const.statement Cert.KernelIdeal.κ "decay" .bf16 0x3F66#16 ((9 / 10 : ℝ) : EReal) rfl,
    IdealRules.named_const.statement Cert.KernelIdeal.κ "inv_d" .f32 0x3AAAAAAB#32 ((1 / 768 : ℝ) : EReal) rfl⟩

theorem claim : Cert.Claim :=
  haveI := preFacts
  haveI := SetUp.facts
  ⟨Cert.Kernel.Gen.facts, Cert.KernelIdeal.Gen.facts, Cert.ReferenceIdeal.Gen.facts, preFacts, SetUp.facts,
    frameWords, frameIdeal, frameIdealSetUp, frameReference, frameReferenceSetUp, preserves, algebraic⟩

end Cert.Proof

end
